-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x1024x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S8x2x128x256 : Shape := ⟨4, ![8, 2, 128, 256]⟩
abbrev S8x2x4x128x66 : Shape := ⟨5, ![8, 2, 4, 128, 66]⟩
abbrev S7 : Shape := ⟨1, ![7]⟩
abbrev S8 : Shape := ⟨1, ![8]⟩
abbrev S_ : Shape := ⟨0, ![]⟩
abbrev S1x128x512 : Shape := ⟨3, ![1, 128, 512]⟩
abbrev S128x512 : Shape := ⟨2, ![128, 512]⟩
abbrev S128x256 : Shape := ⟨2, ![128, 256]⟩
abbrev S1x1x128x256 : Shape := ⟨4, ![1, 1, 128, 256]⟩
abbrev S1 : Shape := ⟨1, ![1]⟩
abbrev S1x2x128x256 : Shape := ⟨4, ![1, 2, 128, 256]⟩
abbrev S2x128x256 : Shape := ⟨3, ![2, 128, 256]⟩
abbrev S128x64 : Shape := ⟨2, ![128, 64]⟩
abbrev S1x128x256 : Shape := ⟨3, ![1, 128, 256]⟩
abbrev S128x128 : Shape := ⟨2, ![128, 128]⟩
abbrev S128 : Shape := ⟨1, ![128]⟩
abbrev S128x1 : Shape := ⟨2, ![128, 1]⟩
abbrev S128x66 : Shape := ⟨2, ![128, 66]⟩
abbrev S1x1x1x128x66 : Shape := ⟨5, ![1, 1, 1, 128, 66]⟩
abbrev S1x2x4x128x66 : Shape := ⟨5, ![1, 2, 4, 128, 66]⟩
abbrev S2x4x128x66 : Shape := ⟨4, ![2, 4, 128, 66]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S8x2x128x256, .bf16⟩
  | .local _ .vmem, ⟨7, _⟩ => ⟨S8x2x4x128x66, .bf16⟩
  | .local _ .vmem, ⟨8, _⟩ => ⟨S8x2x4x128x66, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : Index := Scalar.indexCast v2
  let c0_35 : Index := 0#32
  let c0_36 : Index := 0#32
  let c0_37 : Index := 0#32
  ![v42.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v50 : Index := Scalar.indexCast v2
  let c1 : Index := 1#32
  let c0_39 : Index := 0#32
  let c0_40 : Index := 0#32
  ![v50.toNat, 1, 0, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_41 : BitVec 32 := 1#32
  let v54 : BitVec 32 := Scalar.subi v2 c1_i32_41
  let c0_i32_42 : BitVec 32 := 0#32
  let v55 : BitVec 1 := Scalar.cmpi .sge v54 c0_i32_42
  let v56 : BitVec 32 := Scalar.extui v55
  let c0_i32_43 : BitVec 32 := 0#32
  let v57 : BitVec 1 := Scalar.cmpi .ne v56 c0_i32_43
  v57

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev8 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.subi v2 c1_i32_728
  let c1_i32_730 : BitVec 32 := 1#32
  let v2078 : BitVec 32 := Scalar.muli v2077 c1_i32_730
  let v2079 : BitVec 32 := Scalar.addi c0_i32_731 v2078
  v2079.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v58 : BitVec 32 := Scalar.subi v2 c2_i32_44
  let c0_i32_45 : BitVec 32 := 0#32
  let v59 : BitVec 1 := Scalar.cmpi .sge v58 c0_i32_45
  let v60 : BitVec 32 := Scalar.extui v59
  let c0_i32_46 : BitVec 32 := 0#32
  let v61 : BitVec 1 := Scalar.cmpi .ne v60 c0_i32_46
  v61

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev9 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.subi v2 c2_i32_728
  let c1_i32_730 : BitVec 32 := 1#32
  let v2078 : BitVec 32 := Scalar.muli v2077 c1_i32_730
  let v2079 : BitVec 32 := Scalar.addi c0_i32_731 v2078
  v2079.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_47 : BitVec 32 := 3#32
  let v62 : BitVec 32 := Scalar.subi v2 c3_i32_47
  let c0_i32_48 : BitVec 32 := 0#32
  let v63 : BitVec 1 := Scalar.cmpi .sge v62 c0_i32_48
  let v64 : BitVec 32 := Scalar.extui v63
  let c0_i32_49 : BitVec 32 := 0#32
  let v65 : BitVec 1 := Scalar.cmpi .ne v64 c0_i32_49
  v65

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev10 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.subi v2 c3_i32_728
  let c1_i32_730 : BitVec 32 := 1#32
  let v2078 : BitVec 32 := Scalar.muli v2077 c1_i32_730
  let v2079 : BitVec 32 := Scalar.addi c0_i32_731 v2078
  v2079.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_50 : BitVec 32 := 4#32
  let v66 : BitVec 32 := Scalar.subi v2 c4_i32_50
  let c0_i32_51 : BitVec 32 := 0#32
  let v67 : BitVec 1 := Scalar.cmpi .sge v66 c0_i32_51
  let v68 : BitVec 32 := Scalar.extui v67
  let c0_i32_52 : BitVec 32 := 0#32
  let v69 : BitVec 1 := Scalar.cmpi .ne v68 c0_i32_52
  v69

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev11 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.subi v2 c4_i32_728
  let c1_i32_730 : BitVec 32 := 1#32
  let v2078 : BitVec 32 := Scalar.muli v2077 c1_i32_730
  let v2079 : BitVec 32 := Scalar.addi c0_i32_731 v2078
  v2079.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_53 : BitVec 32 := 5#32
  let v70 : BitVec 32 := Scalar.subi v2 c5_i32_53
  let c0_i32_54 : BitVec 32 := 0#32
  let v71 : BitVec 1 := Scalar.cmpi .sge v70 c0_i32_54
  let v72 : BitVec 32 := Scalar.extui v71
  let c0_i32_55 : BitVec 32 := 0#32
  let v73 : BitVec 1 := Scalar.cmpi .ne v72 c0_i32_55
  v73

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev12 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.subi v2 c5_i32_728
  let c1_i32_730 : BitVec 32 := 1#32
  let v2078 : BitVec 32 := Scalar.muli v2077 c1_i32_730
  let v2079 : BitVec 32 := Scalar.addi c0_i32_731 v2078
  v2079.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_56 : BitVec 32 := 6#32
  let v74 : BitVec 32 := Scalar.subi v2 c6_i32_56
  let c0_i32_57 : BitVec 32 := 0#32
  let v75 : BitVec 1 := Scalar.cmpi .sge v74 c0_i32_57
  let v76 : BitVec 32 := Scalar.extui v75
  let c0_i32_58 : BitVec 32 := 0#32
  let v77 : BitVec 1 := Scalar.cmpi .ne v76 c0_i32_58
  v77

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev13 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.subi v2 c6_i32_728
  let c1_i32_730 : BitVec 32 := 1#32
  let v2078 : BitVec 32 := Scalar.muli v2077 c1_i32_730
  let v2079 : BitVec 32 := Scalar.addi c0_i32_731 v2078
  v2079.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_59 : BitVec 32 := 7#32
  let v78 : BitVec 32 := Scalar.subi v2 c7_i32_59
  let c0_i32_60 : BitVec 32 := 0#32
  let v79 : BitVec 1 := Scalar.cmpi .sge v78 c0_i32_60
  let v80 : BitVec 32 := Scalar.extui v79
  let c0_i32_61 : BitVec 32 := 0#32
  let v81 : BitVec 1 := Scalar.cmpi .ne v80 c0_i32_61
  v81

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_732 : BitVec 32 := 0#32
  let c0_i32_733 : BitVec 32 := 0#32
  let c0_i32_734 : BitVec 32 := 0#32
  ![v2.toNat, 0, 0, 0]
def k0_dev14 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.subi v2 c7_i32_728
  let c1_i32_730 : BitVec 32 := 1#32
  let v2078 : BitVec 32 := Scalar.muli v2077 c1_i32_730
  let v2079 : BitVec 32 := Scalar.addi c0_i32_731 v2078
  v2079.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_70 : BitVec 32 := 1#32
  let v90 : BitVec 32 := Scalar.addi v2 c1_i32_70
  let c8_i32_71 : BitVec 32 := 8#32
  let v91 : BitVec 1 := Scalar.cmpi .slt v90 c8_i32_71
  let v92 : BitVec 32 := Scalar.extui v91
  let c0_i32_72 : BitVec 32 := 0#32
  let v93 : BitVec 1 := Scalar.cmpi .ne v92 c0_i32_72
  v93

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  ![v2077.toNat]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let c0_i32_732 : BitVec 32 := 0#32
  let c0_i32_733 : BitVec 32 := 0#32
  let c0_i32_734 : BitVec 32 := 0#32
  ![v2077.toNat, 0, 0, 0]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2086 : Index := Scalar.indexCast v2077
  let c0_738 : Index := 0#32
  let c0_739 : Index := 0#32
  let c0_740 : Index := 0#32
  ![v2086.toNat, 0, 0, 0]
def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2089 : Index := Scalar.indexCast v2077
  let c1_741 : Index := 1#32
  let c0_742 : Index := 0#32
  let c0_743 : Index := 0#32
  ![v2089.toNat, 1, 0, 0]
def k0_off21 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2248 : Index := Scalar.indexCast v2077
  let c0_784 : Index := 0#32
  let c0_785 : Index := 0#32
  let c0_786 : Index := 0#32
  let c0_787 : Index := 0#32
  ![v2248.toNat, 0, 0, 0, 0]
def k0_off22 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2256 : Index := Scalar.indexCast v2077
  let c0_788 : Index := 0#32
  let c1_789 : Index := 1#32
  let c0_790 : Index := 0#32
  let c0_791 : Index := 0#32
  ![v2256.toNat, 0, 1, 0, 0]
def k0_off23 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2264 : Index := Scalar.indexCast v2077
  let c0_792 : Index := 0#32
  let c2_793 : Index := 2#32
  let c0_794 : Index := 0#32
  let c0_795 : Index := 0#32
  ![v2264.toNat, 0, 2, 0, 0]
def k0_off24 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2272 : Index := Scalar.indexCast v2077
  let c0_796 : Index := 0#32
  let c3_797 : Index := 3#32
  let c0_798 : Index := 0#32
  let c0_799 : Index := 0#32
  ![v2272.toNat, 0, 3, 0, 0]
def k0_off25 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2280 : Index := Scalar.indexCast v2077
  let c1_800 : Index := 1#32
  let c0_801 : Index := 0#32
  let c0_802 : Index := 0#32
  let c0_803 : Index := 0#32
  ![v2280.toNat, 1, 0, 0, 0]
def k0_off26 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2288 : Index := Scalar.indexCast v2077
  let c1_804 : Index := 1#32
  let c1_805 : Index := 1#32
  let c0_806 : Index := 0#32
  let c0_807 : Index := 0#32
  ![v2288.toNat, 1, 1, 0, 0]
def k0_off27 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2296 : Index := Scalar.indexCast v2077
  let c1_808 : Index := 1#32
  let c2_809 : Index := 2#32
  let c0_810 : Index := 0#32
  let c0_811 : Index := 0#32
  ![v2296.toNat, 1, 2, 0, 0]
def k0_off28 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let v2304 : Index := Scalar.indexCast v2077
  let c1_812 : Index := 1#32
  let c3_813 : Index := 3#32
  let c0_814 : Index := 0#32
  let c0_815 : Index := 0#32
  ![v2304.toNat, 1, 3, 0, 0]
def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off31 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev15 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let c1_i32_817 : BitVec 32 := 1#32
  let v2308 : BitVec 32 := Scalar.muli v2077 c1_i32_817
  let v2309 : BitVec 32 := Scalar.addi c0_i32_818 v2308
  v2309.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_73 : BitVec 32 := 2#32
  let v94 : BitVec 32 := Scalar.addi v2 c2_i32_73
  let c8_i32_74 : BitVec 32 := 8#32
  let v95 : BitVec 1 := Scalar.cmpi .slt v94 c8_i32_74
  let v96 : BitVec 32 := Scalar.extui v95
  let c0_i32_75 : BitVec 32 := 0#32
  let v97 : BitVec 1 := Scalar.cmpi .ne v96 c0_i32_75
  v97

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  ![v2077.toNat]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let c0_i32_732 : BitVec 32 := 0#32
  let c0_i32_733 : BitVec 32 := 0#32
  let c0_i32_734 : BitVec 32 := 0#32
  ![v2077.toNat, 0, 0, 0]
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2086 : Index := Scalar.indexCast v2077
  let c0_738 : Index := 0#32
  let c0_739 : Index := 0#32
  let c0_740 : Index := 0#32
  ![v2086.toNat, 0, 0, 0]
def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2089 : Index := Scalar.indexCast v2077
  let c1_741 : Index := 1#32
  let c0_742 : Index := 0#32
  let c0_743 : Index := 0#32
  ![v2089.toNat, 1, 0, 0]
def k0_off36 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2248 : Index := Scalar.indexCast v2077
  let c0_784 : Index := 0#32
  let c0_785 : Index := 0#32
  let c0_786 : Index := 0#32
  let c0_787 : Index := 0#32
  ![v2248.toNat, 0, 0, 0, 0]
def k0_off37 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2256 : Index := Scalar.indexCast v2077
  let c0_788 : Index := 0#32
  let c1_789 : Index := 1#32
  let c0_790 : Index := 0#32
  let c0_791 : Index := 0#32
  ![v2256.toNat, 0, 1, 0, 0]
def k0_off38 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2264 : Index := Scalar.indexCast v2077
  let c0_792 : Index := 0#32
  let c2_793 : Index := 2#32
  let c0_794 : Index := 0#32
  let c0_795 : Index := 0#32
  ![v2264.toNat, 0, 2, 0, 0]
def k0_off39 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2272 : Index := Scalar.indexCast v2077
  let c0_796 : Index := 0#32
  let c3_797 : Index := 3#32
  let c0_798 : Index := 0#32
  let c0_799 : Index := 0#32
  ![v2272.toNat, 0, 3, 0, 0]
def k0_off40 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2280 : Index := Scalar.indexCast v2077
  let c1_800 : Index := 1#32
  let c0_801 : Index := 0#32
  let c0_802 : Index := 0#32
  let c0_803 : Index := 0#32
  ![v2280.toNat, 1, 0, 0, 0]
def k0_off41 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2288 : Index := Scalar.indexCast v2077
  let c1_804 : Index := 1#32
  let c1_805 : Index := 1#32
  let c0_806 : Index := 0#32
  let c0_807 : Index := 0#32
  ![v2288.toNat, 1, 1, 0, 0]
def k0_off42 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2296 : Index := Scalar.indexCast v2077
  let c1_808 : Index := 1#32
  let c2_809 : Index := 2#32
  let c0_810 : Index := 0#32
  let c0_811 : Index := 0#32
  ![v2296.toNat, 1, 2, 0, 0]
def k0_off43 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let v2304 : Index := Scalar.indexCast v2077
  let c1_812 : Index := 1#32
  let c3_813 : Index := 3#32
  let c0_814 : Index := 0#32
  let c0_815 : Index := 0#32
  ![v2304.toNat, 1, 3, 0, 0]
def k0_off44 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off45 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off46 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev16 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let c1_i32_817 : BitVec 32 := 1#32
  let v2308 : BitVec 32 := Scalar.muli v2077 c1_i32_817
  let v2309 : BitVec 32 := Scalar.addi c0_i32_818 v2308
  v2309.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_76 : BitVec 32 := 3#32
  let v98 : BitVec 32 := Scalar.addi v2 c3_i32_76
  let c8_i32_77 : BitVec 32 := 8#32
  let v99 : BitVec 1 := Scalar.cmpi .slt v98 c8_i32_77
  let v100 : BitVec 32 := Scalar.extui v99
  let c0_i32_78 : BitVec 32 := 0#32
  let v101 : BitVec 1 := Scalar.cmpi .ne v100 c0_i32_78
  v101

def k0_off47 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  ![v2077.toNat]
def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let c0_i32_732 : BitVec 32 := 0#32
  let c0_i32_733 : BitVec 32 := 0#32
  let c0_i32_734 : BitVec 32 := 0#32
  ![v2077.toNat, 0, 0, 0]
def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2086 : Index := Scalar.indexCast v2077
  let c0_738 : Index := 0#32
  let c0_739 : Index := 0#32
  let c0_740 : Index := 0#32
  ![v2086.toNat, 0, 0, 0]
def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2089 : Index := Scalar.indexCast v2077
  let c1_741 : Index := 1#32
  let c0_742 : Index := 0#32
  let c0_743 : Index := 0#32
  ![v2089.toNat, 1, 0, 0]
def k0_off51 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2248 : Index := Scalar.indexCast v2077
  let c0_784 : Index := 0#32
  let c0_785 : Index := 0#32
  let c0_786 : Index := 0#32
  let c0_787 : Index := 0#32
  ![v2248.toNat, 0, 0, 0, 0]
def k0_off52 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2256 : Index := Scalar.indexCast v2077
  let c0_788 : Index := 0#32
  let c1_789 : Index := 1#32
  let c0_790 : Index := 0#32
  let c0_791 : Index := 0#32
  ![v2256.toNat, 0, 1, 0, 0]
def k0_off53 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2264 : Index := Scalar.indexCast v2077
  let c0_792 : Index := 0#32
  let c2_793 : Index := 2#32
  let c0_794 : Index := 0#32
  let c0_795 : Index := 0#32
  ![v2264.toNat, 0, 2, 0, 0]
def k0_off54 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2272 : Index := Scalar.indexCast v2077
  let c0_796 : Index := 0#32
  let c3_797 : Index := 3#32
  let c0_798 : Index := 0#32
  let c0_799 : Index := 0#32
  ![v2272.toNat, 0, 3, 0, 0]
def k0_off55 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2280 : Index := Scalar.indexCast v2077
  let c1_800 : Index := 1#32
  let c0_801 : Index := 0#32
  let c0_802 : Index := 0#32
  let c0_803 : Index := 0#32
  ![v2280.toNat, 1, 0, 0, 0]
def k0_off56 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2288 : Index := Scalar.indexCast v2077
  let c1_804 : Index := 1#32
  let c1_805 : Index := 1#32
  let c0_806 : Index := 0#32
  let c0_807 : Index := 0#32
  ![v2288.toNat, 1, 1, 0, 0]
def k0_off57 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2296 : Index := Scalar.indexCast v2077
  let c1_808 : Index := 1#32
  let c2_809 : Index := 2#32
  let c0_810 : Index := 0#32
  let c0_811 : Index := 0#32
  ![v2296.toNat, 1, 2, 0, 0]
def k0_off58 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let v2304 : Index := Scalar.indexCast v2077
  let c1_812 : Index := 1#32
  let c3_813 : Index := 3#32
  let c0_814 : Index := 0#32
  let c0_815 : Index := 0#32
  ![v2304.toNat, 1, 3, 0, 0]
def k0_off59 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off60 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off61 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev17 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let c1_i32_817 : BitVec 32 := 1#32
  let v2308 : BitVec 32 := Scalar.muli v2077 c1_i32_817
  let v2309 : BitVec 32 := Scalar.addi c0_i32_818 v2308
  v2309.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_79 : BitVec 32 := 4#32
  let v102 : BitVec 32 := Scalar.addi v2 c4_i32_79
  let c8_i32_80 : BitVec 32 := 8#32
  let v103 : BitVec 1 := Scalar.cmpi .slt v102 c8_i32_80
  let v104 : BitVec 32 := Scalar.extui v103
  let c0_i32_81 : BitVec 32 := 0#32
  let v105 : BitVec 1 := Scalar.cmpi .ne v104 c0_i32_81
  v105

def k0_off62 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  ![v2077.toNat]
def k0_off63 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let c0_i32_732 : BitVec 32 := 0#32
  let c0_i32_733 : BitVec 32 := 0#32
  let c0_i32_734 : BitVec 32 := 0#32
  ![v2077.toNat, 0, 0, 0]
def k0_off64 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2086 : Index := Scalar.indexCast v2077
  let c0_738 : Index := 0#32
  let c0_739 : Index := 0#32
  let c0_740 : Index := 0#32
  ![v2086.toNat, 0, 0, 0]
def k0_off65 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2089 : Index := Scalar.indexCast v2077
  let c1_741 : Index := 1#32
  let c0_742 : Index := 0#32
  let c0_743 : Index := 0#32
  ![v2089.toNat, 1, 0, 0]
def k0_off66 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2248 : Index := Scalar.indexCast v2077
  let c0_784 : Index := 0#32
  let c0_785 : Index := 0#32
  let c0_786 : Index := 0#32
  let c0_787 : Index := 0#32
  ![v2248.toNat, 0, 0, 0, 0]
def k0_off67 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2256 : Index := Scalar.indexCast v2077
  let c0_788 : Index := 0#32
  let c1_789 : Index := 1#32
  let c0_790 : Index := 0#32
  let c0_791 : Index := 0#32
  ![v2256.toNat, 0, 1, 0, 0]
def k0_off68 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2264 : Index := Scalar.indexCast v2077
  let c0_792 : Index := 0#32
  let c2_793 : Index := 2#32
  let c0_794 : Index := 0#32
  let c0_795 : Index := 0#32
  ![v2264.toNat, 0, 2, 0, 0]
def k0_off69 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2272 : Index := Scalar.indexCast v2077
  let c0_796 : Index := 0#32
  let c3_797 : Index := 3#32
  let c0_798 : Index := 0#32
  let c0_799 : Index := 0#32
  ![v2272.toNat, 0, 3, 0, 0]
def k0_off70 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2280 : Index := Scalar.indexCast v2077
  let c1_800 : Index := 1#32
  let c0_801 : Index := 0#32
  let c0_802 : Index := 0#32
  let c0_803 : Index := 0#32
  ![v2280.toNat, 1, 0, 0, 0]
def k0_off71 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2288 : Index := Scalar.indexCast v2077
  let c1_804 : Index := 1#32
  let c1_805 : Index := 1#32
  let c0_806 : Index := 0#32
  let c0_807 : Index := 0#32
  ![v2288.toNat, 1, 1, 0, 0]
def k0_off72 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2296 : Index := Scalar.indexCast v2077
  let c1_808 : Index := 1#32
  let c2_809 : Index := 2#32
  let c0_810 : Index := 0#32
  let c0_811 : Index := 0#32
  ![v2296.toNat, 1, 2, 0, 0]
def k0_off73 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let v2304 : Index := Scalar.indexCast v2077
  let c1_812 : Index := 1#32
  let c3_813 : Index := 3#32
  let c0_814 : Index := 0#32
  let c0_815 : Index := 0#32
  ![v2304.toNat, 1, 3, 0, 0]
def k0_off74 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off75 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off76 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev18 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let c1_i32_817 : BitVec 32 := 1#32
  let v2308 : BitVec 32 := Scalar.muli v2077 c1_i32_817
  let v2309 : BitVec 32 := Scalar.addi c0_i32_818 v2308
  v2309.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_82 : BitVec 32 := 5#32
  let v106 : BitVec 32 := Scalar.addi v2 c5_i32_82
  let c8_i32_83 : BitVec 32 := 8#32
  let v107 : BitVec 1 := Scalar.cmpi .slt v106 c8_i32_83
  let v108 : BitVec 32 := Scalar.extui v107
  let c0_i32_84 : BitVec 32 := 0#32
  let v109 : BitVec 1 := Scalar.cmpi .ne v108 c0_i32_84
  v109

def k0_off77 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  ![v2077.toNat]
def k0_off78 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let c0_i32_732 : BitVec 32 := 0#32
  let c0_i32_733 : BitVec 32 := 0#32
  let c0_i32_734 : BitVec 32 := 0#32
  ![v2077.toNat, 0, 0, 0]
def k0_off79 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2086 : Index := Scalar.indexCast v2077
  let c0_738 : Index := 0#32
  let c0_739 : Index := 0#32
  let c0_740 : Index := 0#32
  ![v2086.toNat, 0, 0, 0]
def k0_off80 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2089 : Index := Scalar.indexCast v2077
  let c1_741 : Index := 1#32
  let c0_742 : Index := 0#32
  let c0_743 : Index := 0#32
  ![v2089.toNat, 1, 0, 0]
def k0_off81 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2248 : Index := Scalar.indexCast v2077
  let c0_784 : Index := 0#32
  let c0_785 : Index := 0#32
  let c0_786 : Index := 0#32
  let c0_787 : Index := 0#32
  ![v2248.toNat, 0, 0, 0, 0]
def k0_off82 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2256 : Index := Scalar.indexCast v2077
  let c0_788 : Index := 0#32
  let c1_789 : Index := 1#32
  let c0_790 : Index := 0#32
  let c0_791 : Index := 0#32
  ![v2256.toNat, 0, 1, 0, 0]
def k0_off83 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2264 : Index := Scalar.indexCast v2077
  let c0_792 : Index := 0#32
  let c2_793 : Index := 2#32
  let c0_794 : Index := 0#32
  let c0_795 : Index := 0#32
  ![v2264.toNat, 0, 2, 0, 0]
def k0_off84 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2272 : Index := Scalar.indexCast v2077
  let c0_796 : Index := 0#32
  let c3_797 : Index := 3#32
  let c0_798 : Index := 0#32
  let c0_799 : Index := 0#32
  ![v2272.toNat, 0, 3, 0, 0]
def k0_off85 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2280 : Index := Scalar.indexCast v2077
  let c1_800 : Index := 1#32
  let c0_801 : Index := 0#32
  let c0_802 : Index := 0#32
  let c0_803 : Index := 0#32
  ![v2280.toNat, 1, 0, 0, 0]
def k0_off86 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2288 : Index := Scalar.indexCast v2077
  let c1_804 : Index := 1#32
  let c1_805 : Index := 1#32
  let c0_806 : Index := 0#32
  let c0_807 : Index := 0#32
  ![v2288.toNat, 1, 1, 0, 0]
def k0_off87 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2296 : Index := Scalar.indexCast v2077
  let c1_808 : Index := 1#32
  let c2_809 : Index := 2#32
  let c0_810 : Index := 0#32
  let c0_811 : Index := 0#32
  ![v2296.toNat, 1, 2, 0, 0]
def k0_off88 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let v2304 : Index := Scalar.indexCast v2077
  let c1_812 : Index := 1#32
  let c3_813 : Index := 3#32
  let c0_814 : Index := 0#32
  let c0_815 : Index := 0#32
  ![v2304.toNat, 1, 3, 0, 0]
def k0_off89 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off90 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off91 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev19 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let c1_i32_817 : BitVec 32 := 1#32
  let v2308 : BitVec 32 := Scalar.muli v2077 c1_i32_817
  let v2309 : BitVec 32 := Scalar.addi c0_i32_818 v2308
  v2309.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_85 : BitVec 32 := 6#32
  let v110 : BitVec 32 := Scalar.addi v2 c6_i32_85
  let c8_i32_86 : BitVec 32 := 8#32
  let v111 : BitVec 1 := Scalar.cmpi .slt v110 c8_i32_86
  let v112 : BitVec 32 := Scalar.extui v111
  let c0_i32_87 : BitVec 32 := 0#32
  let v113 : BitVec 1 := Scalar.cmpi .ne v112 c0_i32_87
  v113

def k0_off92 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  ![v2077.toNat]
def k0_off93 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let c0_i32_732 : BitVec 32 := 0#32
  let c0_i32_733 : BitVec 32 := 0#32
  let c0_i32_734 : BitVec 32 := 0#32
  ![v2077.toNat, 0, 0, 0]
def k0_off94 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2086 : Index := Scalar.indexCast v2077
  let c0_738 : Index := 0#32
  let c0_739 : Index := 0#32
  let c0_740 : Index := 0#32
  ![v2086.toNat, 0, 0, 0]
def k0_off95 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2089 : Index := Scalar.indexCast v2077
  let c1_741 : Index := 1#32
  let c0_742 : Index := 0#32
  let c0_743 : Index := 0#32
  ![v2089.toNat, 1, 0, 0]
def k0_off96 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2248 : Index := Scalar.indexCast v2077
  let c0_784 : Index := 0#32
  let c0_785 : Index := 0#32
  let c0_786 : Index := 0#32
  let c0_787 : Index := 0#32
  ![v2248.toNat, 0, 0, 0, 0]
def k0_off97 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2256 : Index := Scalar.indexCast v2077
  let c0_788 : Index := 0#32
  let c1_789 : Index := 1#32
  let c0_790 : Index := 0#32
  let c0_791 : Index := 0#32
  ![v2256.toNat, 0, 1, 0, 0]
def k0_off98 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2264 : Index := Scalar.indexCast v2077
  let c0_792 : Index := 0#32
  let c2_793 : Index := 2#32
  let c0_794 : Index := 0#32
  let c0_795 : Index := 0#32
  ![v2264.toNat, 0, 2, 0, 0]
def k0_off99 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2272 : Index := Scalar.indexCast v2077
  let c0_796 : Index := 0#32
  let c3_797 : Index := 3#32
  let c0_798 : Index := 0#32
  let c0_799 : Index := 0#32
  ![v2272.toNat, 0, 3, 0, 0]
def k0_off100 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2280 : Index := Scalar.indexCast v2077
  let c1_800 : Index := 1#32
  let c0_801 : Index := 0#32
  let c0_802 : Index := 0#32
  let c0_803 : Index := 0#32
  ![v2280.toNat, 1, 0, 0, 0]
def k0_off101 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2288 : Index := Scalar.indexCast v2077
  let c1_804 : Index := 1#32
  let c1_805 : Index := 1#32
  let c0_806 : Index := 0#32
  let c0_807 : Index := 0#32
  ![v2288.toNat, 1, 1, 0, 0]
def k0_off102 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2296 : Index := Scalar.indexCast v2077
  let c1_808 : Index := 1#32
  let c2_809 : Index := 2#32
  let c0_810 : Index := 0#32
  let c0_811 : Index := 0#32
  ![v2296.toNat, 1, 2, 0, 0]
def k0_off103 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let v2304 : Index := Scalar.indexCast v2077
  let c1_812 : Index := 1#32
  let c3_813 : Index := 3#32
  let c0_814 : Index := 0#32
  let c0_815 : Index := 0#32
  ![v2304.toNat, 1, 3, 0, 0]
def k0_off104 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off105 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off106 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev20 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let c1_i32_817 : BitVec 32 := 1#32
  let v2308 : BitVec 32 := Scalar.muli v2077 c1_i32_817
  let v2309 : BitVec 32 := Scalar.addi c0_i32_818 v2308
  v2309.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_88 : BitVec 32 := 7#32
  let v114 : BitVec 32 := Scalar.addi v2 c7_i32_88
  let c8_i32_89 : BitVec 32 := 8#32
  let v115 : BitVec 1 := Scalar.cmpi .slt v114 c8_i32_89
  let v116 : BitVec 32 := Scalar.extui v115
  let c0_i32_90 : BitVec 32 := 0#32
  let v117 : BitVec 1 := Scalar.cmpi .ne v116 c0_i32_90
  v117

def k0_off107 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  ![v2077.toNat]
def k0_off108 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let c0_i32_732 : BitVec 32 := 0#32
  let c0_i32_733 : BitVec 32 := 0#32
  let c0_i32_734 : BitVec 32 := 0#32
  ![v2077.toNat, 0, 0, 0]
def k0_off109 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2086 : Index := Scalar.indexCast v2077
  let c0_738 : Index := 0#32
  let c0_739 : Index := 0#32
  let c0_740 : Index := 0#32
  ![v2086.toNat, 0, 0, 0]
def k0_off110 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2089 : Index := Scalar.indexCast v2077
  let c1_741 : Index := 1#32
  let c0_742 : Index := 0#32
  let c0_743 : Index := 0#32
  ![v2089.toNat, 1, 0, 0]
def k0_off111 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2248 : Index := Scalar.indexCast v2077
  let c0_784 : Index := 0#32
  let c0_785 : Index := 0#32
  let c0_786 : Index := 0#32
  let c0_787 : Index := 0#32
  ![v2248.toNat, 0, 0, 0, 0]
def k0_off112 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2256 : Index := Scalar.indexCast v2077
  let c0_788 : Index := 0#32
  let c1_789 : Index := 1#32
  let c0_790 : Index := 0#32
  let c0_791 : Index := 0#32
  ![v2256.toNat, 0, 1, 0, 0]
def k0_off113 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2264 : Index := Scalar.indexCast v2077
  let c0_792 : Index := 0#32
  let c2_793 : Index := 2#32
  let c0_794 : Index := 0#32
  let c0_795 : Index := 0#32
  ![v2264.toNat, 0, 2, 0, 0]
def k0_off114 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2272 : Index := Scalar.indexCast v2077
  let c0_796 : Index := 0#32
  let c3_797 : Index := 3#32
  let c0_798 : Index := 0#32
  let c0_799 : Index := 0#32
  ![v2272.toNat, 0, 3, 0, 0]
def k0_off115 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2280 : Index := Scalar.indexCast v2077
  let c1_800 : Index := 1#32
  let c0_801 : Index := 0#32
  let c0_802 : Index := 0#32
  let c0_803 : Index := 0#32
  ![v2280.toNat, 1, 0, 0, 0]
def k0_off116 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2288 : Index := Scalar.indexCast v2077
  let c1_804 : Index := 1#32
  let c1_805 : Index := 1#32
  let c0_806 : Index := 0#32
  let c0_807 : Index := 0#32
  ![v2288.toNat, 1, 1, 0, 0]
def k0_off117 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2296 : Index := Scalar.indexCast v2077
  let c1_808 : Index := 1#32
  let c2_809 : Index := 2#32
  let c0_810 : Index := 0#32
  let c0_811 : Index := 0#32
  ![v2296.toNat, 1, 2, 0, 0]
def k0_off118 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let v2304 : Index := Scalar.indexCast v2077
  let c1_812 : Index := 1#32
  let c3_813 : Index := 3#32
  let c0_814 : Index := 0#32
  let c0_815 : Index := 0#32
  ![v2304.toNat, 1, 3, 0, 0]
def k0_off119 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off120 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_819 : BitVec 32 := 0#32
  let c0_i32_820 : BitVec 32 := 0#32
  let c0_i32_821 : BitVec 32 := 0#32
  let c0_i32_822 : BitVec 32 := 0#32
  ![v2.toNat, 0, 0, 0, 0]
def k0_off121 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let c0_i32_823 : BitVec 32 := 0#32
  let c0_i32_824 : BitVec 32 := 0#32
  let c0_i32_825 : BitVec 32 := 0#32
  let c0_i32_826 : BitVec 32 := 0#32
  ![v2077.toNat, 0, 0, 0, 0]
def k0_dev21 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let c1_i32_817 : BitVec 32 := 1#32
  let v2308 : BitVec 32 := Scalar.muli v2077 c1_i32_817
  let v2309 : BitVec 32 := Scalar.addi c0_i32_818 v2308
  v2309.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_686 : BitVec 32 := 1#32
  let v2021 : BitVec 32 := Scalar.subi v2 c1_i32_686
  let c0_i32_687 : BitVec 32 := 0#32
  let v2022 : BitVec 1 := Scalar.cmpi .sge v2021 c0_i32_687
  let v2023 : BitVec 32 := Scalar.extui v2022
  let c0_i32_688 : BitVec 32 := 0#32
  let v2024 : BitVec 1 := Scalar.cmpi .ne v2023 c0_i32_688
  v2024

def k0_off122 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_689 : BitVec 32 := 1#32
  let v2025 : BitVec 32 := Scalar.addi v2 c1_i32_689
  let c8_i32_690 : BitVec 32 := 8#32
  let v2026 : BitVec 1 := Scalar.cmpi .slt v2025 c8_i32_690
  let v2027 : BitVec 32 := Scalar.extui v2026
  let c0_i32_691 : BitVec 32 := 0#32
  let v2028 : BitVec 1 := Scalar.cmpi .ne v2027 c0_i32_691
  v2028

def k0_off123 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v2077 : BitVec 32 := Scalar.addi v2 c1_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off124 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_692 : BitVec 32 := 2#32
  let v2029 : BitVec 32 := Scalar.subi v2 c2_i32_692
  let c0_i32_693 : BitVec 32 := 0#32
  let v2030 : BitVec 1 := Scalar.cmpi .sge v2029 c0_i32_693
  let v2031 : BitVec 32 := Scalar.extui v2030
  let c0_i32_694 : BitVec 32 := 0#32
  let v2032 : BitVec 1 := Scalar.cmpi .ne v2031 c0_i32_694
  v2032

def k0_off125 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_695 : BitVec 32 := 2#32
  let v2033 : BitVec 32 := Scalar.addi v2 c2_i32_695
  let c8_i32_696 : BitVec 32 := 8#32
  let v2034 : BitVec 1 := Scalar.cmpi .slt v2033 c8_i32_696
  let v2035 : BitVec 32 := Scalar.extui v2034
  let c0_i32_697 : BitVec 32 := 0#32
  let v2036 : BitVec 1 := Scalar.cmpi .ne v2035 c0_i32_697
  v2036

def k0_off126 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_728 : BitVec 32 := 2#32
  let v2077 : BitVec 32 := Scalar.addi v2 c2_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off127 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_698 : BitVec 32 := 3#32
  let v2037 : BitVec 32 := Scalar.subi v2 c3_i32_698
  let c0_i32_699 : BitVec 32 := 0#32
  let v2038 : BitVec 1 := Scalar.cmpi .sge v2037 c0_i32_699
  let v2039 : BitVec 32 := Scalar.extui v2038
  let c0_i32_700 : BitVec 32 := 0#32
  let v2040 : BitVec 1 := Scalar.cmpi .ne v2039 c0_i32_700
  v2040

def k0_off128 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_701 : BitVec 32 := 3#32
  let v2041 : BitVec 32 := Scalar.addi v2 c3_i32_701
  let c8_i32_702 : BitVec 32 := 8#32
  let v2042 : BitVec 1 := Scalar.cmpi .slt v2041 c8_i32_702
  let v2043 : BitVec 32 := Scalar.extui v2042
  let c0_i32_703 : BitVec 32 := 0#32
  let v2044 : BitVec 1 := Scalar.cmpi .ne v2043 c0_i32_703
  v2044

def k0_off129 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_728 : BitVec 32 := 3#32
  let v2077 : BitVec 32 := Scalar.addi v2 c3_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off130 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_704 : BitVec 32 := 4#32
  let v2045 : BitVec 32 := Scalar.subi v2 c4_i32_704
  let c0_i32_705 : BitVec 32 := 0#32
  let v2046 : BitVec 1 := Scalar.cmpi .sge v2045 c0_i32_705
  let v2047 : BitVec 32 := Scalar.extui v2046
  let c0_i32_706 : BitVec 32 := 0#32
  let v2048 : BitVec 1 := Scalar.cmpi .ne v2047 c0_i32_706
  v2048

def k0_off131 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_707 : BitVec 32 := 4#32
  let v2049 : BitVec 32 := Scalar.addi v2 c4_i32_707
  let c8_i32_708 : BitVec 32 := 8#32
  let v2050 : BitVec 1 := Scalar.cmpi .slt v2049 c8_i32_708
  let v2051 : BitVec 32 := Scalar.extui v2050
  let c0_i32_709 : BitVec 32 := 0#32
  let v2052 : BitVec 1 := Scalar.cmpi .ne v2051 c0_i32_709
  v2052

def k0_off132 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_728 : BitVec 32 := 4#32
  let v2077 : BitVec 32 := Scalar.addi v2 c4_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off133 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_710 : BitVec 32 := 5#32
  let v2053 : BitVec 32 := Scalar.subi v2 c5_i32_710
  let c0_i32_711 : BitVec 32 := 0#32
  let v2054 : BitVec 1 := Scalar.cmpi .sge v2053 c0_i32_711
  let v2055 : BitVec 32 := Scalar.extui v2054
  let c0_i32_712 : BitVec 32 := 0#32
  let v2056 : BitVec 1 := Scalar.cmpi .ne v2055 c0_i32_712
  v2056

def k0_off134 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_713 : BitVec 32 := 5#32
  let v2057 : BitVec 32 := Scalar.addi v2 c5_i32_713
  let c8_i32_714 : BitVec 32 := 8#32
  let v2058 : BitVec 1 := Scalar.cmpi .slt v2057 c8_i32_714
  let v2059 : BitVec 32 := Scalar.extui v2058
  let c0_i32_715 : BitVec 32 := 0#32
  let v2060 : BitVec 1 := Scalar.cmpi .ne v2059 c0_i32_715
  v2060

def k0_off135 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_728 : BitVec 32 := 5#32
  let v2077 : BitVec 32 := Scalar.addi v2 c5_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off136 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_716 : BitVec 32 := 6#32
  let v2061 : BitVec 32 := Scalar.subi v2 c6_i32_716
  let c0_i32_717 : BitVec 32 := 0#32
  let v2062 : BitVec 1 := Scalar.cmpi .sge v2061 c0_i32_717
  let v2063 : BitVec 32 := Scalar.extui v2062
  let c0_i32_718 : BitVec 32 := 0#32
  let v2064 : BitVec 1 := Scalar.cmpi .ne v2063 c0_i32_718
  v2064

def k0_off137 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_719 : BitVec 32 := 6#32
  let v2065 : BitVec 32 := Scalar.addi v2 c6_i32_719
  let c8_i32_720 : BitVec 32 := 8#32
  let v2066 : BitVec 1 := Scalar.cmpi .slt v2065 c8_i32_720
  let v2067 : BitVec 32 := Scalar.extui v2066
  let c0_i32_721 : BitVec 32 := 0#32
  let v2068 : BitVec 1 := Scalar.cmpi .ne v2067 c0_i32_721
  v2068

def k0_off138 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_728 : BitVec 32 := 6#32
  let v2077 : BitVec 32 := Scalar.addi v2 c6_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off139 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_722 : BitVec 32 := 7#32
  let v2069 : BitVec 32 := Scalar.subi v2 c7_i32_722
  let c0_i32_723 : BitVec 32 := 0#32
  let v2070 : BitVec 1 := Scalar.cmpi .sge v2069 c0_i32_723
  let v2071 : BitVec 32 := Scalar.extui v2070
  let c0_i32_724 : BitVec 32 := 0#32
  let v2072 : BitVec 1 := Scalar.cmpi .ne v2071 c0_i32_724
  v2072

def k0_off140 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_733 : BitVec 32 := 0#32
  let c0_i32_734 : BitVec 32 := 0#32
  let c0_i32_735 : BitVec 32 := 0#32
  ![v2.toNat, 0, 0, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_725 : BitVec 32 := 7#32
  let v2073 : BitVec 32 := Scalar.addi v2 c7_i32_725
  let c8_i32_726 : BitVec 32 := 8#32
  let v2074 : BitVec 1 := Scalar.cmpi .slt v2073 c8_i32_726
  let v2075 : BitVec 32 := Scalar.extui v2074
  let c0_i32_727 : BitVec 32 := 0#32
  let v2076 : BitVec 1 := Scalar.cmpi .ne v2075 c0_i32_727
  v2076

def k0_off141 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_728 : BitVec 32 := 7#32
  let v2077 : BitVec 32 := Scalar.addi v2 c7_i32_728
  let c8_i32_729 : BitVec 32 := 8#32
  let v2078 : BitVec 32 := Scalar.remsi v2077 c8_i32_729
  let c0_i32_734 : BitVec 32 := 0#32
  let c0_i32_735 : BitVec 32 := 0#32
  let c0_i32_736 : BitVec 32 := 0#32
  let c0_i32_737 : BitVec 32 := 0#32
  ![v2078.toNat, 0, 0, 0, 0]
def k0_off142 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_738 : BitVec 32 := 0#32
  let c0_i32_739 : BitVec 32 := 0#32
  let c0_i32_740 : BitVec 32 := 0#32
  let c0_i32_741 : BitVec 32 := 0#32
  ![v2.toNat, 0, 0, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 89
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x1024x256, .f32⟩
  | .hbm, ⟨6, _⟩ => ⟨S2x1024x4x64, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S2x4x1024x1024, .f32⟩
  | .hbm, ⟨51, _⟩ => ⟨S_, .f32⟩
  | .hbm, ⟨52, _⟩ => ⟨S2x4x1024x1024, .f32⟩
  | .hbm, ⟨53, _⟩ => ⟨S2x4x1024x1024, .f32⟩
  | .hbm, ⟨54, _⟩ => ⟨S1x1x1024x1024, .i1⟩
  | .hbm, ⟨55, _⟩ => ⟨S_, .f32⟩
  | .hbm, ⟨56, _⟩ => ⟨S_, .f32⟩
  | .hbm, ⟨57, _⟩ => ⟨S2x4x1024x1024, .i1⟩
  | .hbm, ⟨58, _⟩ => ⟨S2x4x1024x1024, .f32⟩
  | .hbm, ⟨59, _⟩ => ⟨S2x4x1024x1024, .f32⟩
  | .hbm, ⟨60, _⟩ => ⟨S_, .f32⟩
  | .hbm, ⟨61, _⟩ => ⟨S2x4x1024, .f32⟩
  | .hbm, ⟨62, _⟩ => ⟨S2x4x1024x1, .f32⟩
  | .hbm, ⟨63, _⟩ => ⟨S2x4x1024x1024, .f32⟩
  | .hbm, ⟨64, _⟩ => ⟨S2x4x1024x1024, .f32⟩
  | .hbm, ⟨65, _⟩ => ⟨S2x4x1024x1024, .f32⟩
  | .hbm, ⟨66, _⟩ => ⟨S_, .i1⟩
  | .hbm, ⟨67, _⟩ => ⟨S1024, .i1⟩
  | .hbm, ⟨68, _⟩ => ⟨S1x1x1024x1, .i1⟩
  | .hbm, ⟨69, _⟩ => ⟨S_, .f32⟩
  | .hbm, ⟨70, _⟩ => ⟨S2x4x1024, .f32⟩
  | .hbm, ⟨71, _⟩ => ⟨S2x4x1024x1, .f32⟩
  | .hbm, ⟨72, _⟩ => ⟨S_, .f32⟩
  | .hbm, ⟨73, _⟩ => ⟨S_, .f32⟩
  | .hbm, ⟨74, _⟩ => ⟨S2x4x1024x1, .i1⟩
  | .hbm, ⟨75, _⟩ => ⟨S2x4x1024x1, .f32⟩
  | .hbm, ⟨76, _⟩ => ⟨S2x4x1024x1, .f32⟩
  | .hbm, ⟨77, _⟩ => ⟨S2x4x1024x1024, .f32⟩
  | .hbm, ⟨78, _⟩ => ⟨S2x4x1024x1024, .f32⟩
  | .hbm, ⟨79, _⟩ => ⟨S1x1x1024x1, .i1⟩
  | .hbm, ⟨80, _⟩ => ⟨S_, .f32⟩
  | .hbm, ⟨81, _⟩ => ⟨S_, .f32⟩
  | .hbm, ⟨82, _⟩ => ⟨S2x4x1024x1024, .i1⟩
  | .hbm, ⟨83, _⟩ => ⟨S2x4x1024x1024, .f32⟩
  | .hbm, ⟨84, _⟩ => ⟨S2x4x1024x1024, .f32⟩
  | .hbm, ⟨85, _⟩ => ⟨S2x4x64x1024, .f32⟩
  | .hbm, ⟨86, _⟩ => ⟨S2x1024x4x64, .f32⟩
  | .hbm, ⟨87, _⟩ => ⟨S2x1024x256, .f32⟩
  | .hbm, ⟨88, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Values.lean ====
module

public import proofs.«01_k».proof.Proof.Gen.KernelIdeal.Skeleton

/-!
# What the kernel computes on blocks

The pieces of the kernel's arithmetic, named: the query block of one device, the
partial attention of one query block against one device's keys and values, the
message that carries it, the merge of one message into the running state, and the
output projection.  Each is spelled with the kernel's own operations.
-/

@[expose] public noncomputable section

namespace Cert.KernelIdeal.Attn

open Idealize.ShloMosaic Idealize.SL.Sem Cert.KernelIdeal Cert.KernelIdeal.Gen

variable {F : FTy → Type} [FloatOps F] [Named F]

theorem slices_head : ∀ h : Fin 4, S128x256.Slices ![0, 64 * h.val] S128x64 := by decide
theorem slices_batch_x : ∀ b : Fin 2, S2x128x512.Slices ![b.val, 0, 0] S1x128x512 := by decide
theorem slices_batch : ∀ b : Fin 2, S2x128x256.Slices ![b.val, 0, 0] S1x128x256 := by decide
theorem slices_m : S128x66.Slices ![0, 64] S128x1 := by decide
theorem slices_l : S128x66.Slices ![0, 65] S128x1 := by decide

/-- The queries of batch `b`: the block of inputs times the query weights. -/
def qBlock (b : Fin 2) (x : FVec F S2x128x512 .f32) (wq : FVec F S512x256 .f32) :
    FVec F S1x1x128x256 .bf16 :=
  shapeCast S1x1x128x256
    (truncf .bf16
      (matmul dot_S128x512_S512x256_S128x256_1_0_0_1_n_n none
        (shapeCast S128x512
          (extractStridedSlice S1x128x512 ![b.val, 0, 0]
            (shapeCast S2x128x512 x shapeCasts_S2x128x512_S2x128x512) (slices_batch_x b))
          shapeCasts_S1x128x512_S128x512)
        (shapeCast S512x256 wq shapeCasts_S512x256_S512x256)
        (constant S128x256 .f32 0x00000000#32))
      bitsLt_bf16_f32)
    shapeCasts_S128x256_S1x1x128x256

/-- Keys (or values) with the four heads laid side by side, in the narrow type. -/
def kvFlat (k : FVec F S2x128x4x64 .f32) : FVec F S2x128x256 .bf16 :=
  shapeCast S2x128x256
    (truncf .bf16 (shapeCast S2x128x4x64 k shapeCasts_S2x128x4x64_S2x128x4x64) bitsLt_bf16_f32)
    shapeCasts_S2x128x4x64_S2x128x256

/-- Head `h` of a query block. -/
def qHead (h : Fin 4) (q : FVec F S1x1x128x256 .bf16) : FVec F S128x64 .bf16 :=
  extractStridedSlice S128x64 ![0, 64 * h.val]
    (shapeCast S128x256 q shapeCasts_S1x1x128x256_S128x256) (slices_head h)

/-- Batch `b`, head `h` of the flattened keys or values. -/
def kvHead (b : Fin 2) (h : Fin 4) (k : FVec F S2x128x256 .bf16) : FVec F S128x64 .bf16 :=
  extractStridedSlice S128x64 ![0, 64 * h.val]
    (shapeCast S128x256
      (extractStridedSlice S1x128x256 ![b.val, 0, 0] k (slices_batch b))
      shapeCasts_S1x128x256_S128x256) (slices_head h)

/-- The scaled scores of one tile. -/
def scores (q k : FVec F S128x64 .bf16) : FVec F S128x128 .f32 :=
  mulf (matmul dot_S128x64_S128x64_S128x128_1_1_0_0_n_n none q k (constant S128x128 .f32 0x00000000#32))
    (broadcast S128x128 (Scalar.ofBits .f32 0x3E000000#32))

/-- The largest score of each row. -/
def rowMax (s : FVec F S128x128 .f32) : FVec F S128x1 .f32 :=
  shapeCast S128x1 (multiReduction .maximumf [1] S128 s 0xFF800000#32 reduces_S128x128_S128 (.inl rfl) rfl)
    shapeCasts_S128_S128x1

/-- The exponentials of the scores, each row shifted by its maximum. -/
def expo (s : FVec F S128x128 .f32) : FVec F S128x128 .f32 :=
  exp (subf s (broadcastTo S128x128 (rowMax s) broadcasts_S128x1_S128x128))

/-- The sum of each row's exponentials. -/
def rowSum (s : FVec F S128x128 .f32) : FVec F S128x1 .f32 :=
  shapeCast S128x1 (multiReduction .add [1] S128 (expo s) 0x00000000#32 reduces_S128x128_S128 (.inl rfl) rfl)
    shapeCasts_S128_S128x1

/-- The exponentials times the values. -/
def ctxOf (s : FVec F S128x128 .f32) (v : FVec F S128x64 .bf16) : FVec F S128x64 .f32 :=
  matmul dot_S128x128_S128x64_S128x64_1_0_0_1_n_n none (truncf .bf16 (expo s) bitsLt_bf16_f32) v
    (constant S128x64 .f32 0x00000000#32)

/-- The scores of a query block `q` against keys `k`, batch `b`, head `h`. -/
def tileScores (b : Fin 2) (h : Fin 4) (q : FVec F S1x1x128x256 .bf16) (k : FVec F S2x128x256 .bf16) :
    FVec F S128x128 .f32 :=
  scores (qHead h q) (kvHead b h k)

/-- The message for batch `b`, head `h`: partial context, row maxima, row sums side by side. -/
def msg (b : Fin 2) (h : Fin 4) (q : FVec F S1x1x128x256 .bf16) (k v : FVec F S2x128x256 .bf16) :
    FVec F S1x1x1x128x66 .bf16 :=
  shapeCast S1x1x1x128x66
    (concatenate S128x66 1
      [⟨S128x64, truncf .bf16 (ctxOf (tileScores b h q k) (kvHead b h v)) bitsLt_bf16_f32⟩,
       ⟨S128x1, truncf .bf16 (rowMax (tileScores b h q k)) bitsLt_bf16_f32⟩,
       ⟨S128x1, truncf .bf16 (rowSum (tileScores b h q k)) bitsLt_bf16_f32⟩]
      concatenates_S128x64_S128x1_S128x1_S128x66_d1)
    shapeCasts_S128x66_S1x1x1x128x66

/-- The sign of every element. -/
def signs (v : IVec S128x128 32) : IVec S128x128 32 :=
  subi (extui 32 (cmpi .sgt v (broadcast S128x128 0#32)) natLt_1_32)
    (extui 32 (cmpi .slt v (broadcast S128x128 0#32)) natLt_1_32)

/-- Division by 64 rounding down, as the kernel spells it. -/
def floorDiv64 (v : IVec S128x128 32) : IVec S128x128 32 :=
  select
    (andi
      (cmpi .ne (signs v)
        (broadcast S128x128
          (Scalar.subi (Scalar.extui (Scalar.cmpi .sgt 64#32 0#32)) (Scalar.extui (Scalar.cmpi .slt 64#32 0#32)))))
      (cmpi .ne (remsi v (broadcast S128x128 64#32)) (broadcast S128x128 0#32)))
    (subi (divsi v (broadcast S128x128 64#32)) (broadcast S128x128 1#32))
    (divsi v (broadcast S128x128 64#32))

/-- The block-causal mask inside one tile: a key's block of 64 does not exceed the query's. -/
def ownMask : IVec S128x128 1 :=
  cmpi .sle (floorDiv64 (iota .tc S128x128 32 [1] iota_S128x128_d1_w32))
    (floorDiv64 (iota .tc S128x128 32 [0] iota_S128x128_d0_w32))

/-- The scores of the device's own tile, the masked ones at the sentinel. -/
def ownScores (b : Fin 2) (h : Fin 4) (q : FVec F S1x1x128x256 .bf16) (k : FVec F S2x128x256 .bf16) :
    FVec F S128x128 .f32 :=
  select ownMask (tileScores b h q k)
    (broadcast S128x128 (Named.named κ "mask" 0xCE6E6B28#32))

/-- The context carried by a message, zero when the message is not valid. -/
def msgCtx (valid : BitVec 1) (g : FVec F S1x1x1x128x66 .bf16) : FVec F S128x64 .f32 :=
  extf .f32 (Scalar.select valid
      (extractStridedSlice S128x64 ![0, 0] (shapeCast S128x66 g shapeCasts_S1x1x1x128x66_S128x66) slices_S128x66_o0_0_S128x64)
      (broadcast S128x64 (Scalar.ofBits .bf16 0x0000#16)))
    bitsLt_bf16_f32

/-- The row maxima carried by a message, the sentinel when the message is not valid. -/
def msgMax (valid : BitVec 1) (g : FVec F S1x1x1x128x66 .bf16) : FVec F S128x1 .f32 :=
  Scalar.select valid
    (extf .f32 (Scalar.select valid
      (extractStridedSlice S128x1 ![0, 64] (shapeCast S128x66 g shapeCasts_S1x1x1x128x66_S128x66) slices_m)
      (broadcast S128x1 (Scalar.ofBits .bf16 0x0000#16))) bitsLt_bf16_f32)
    (broadcast S128x1 (Named.named κ "mask" 0xCE6E6B28#32))

/-- The row sums carried by a message, zero when the message is not valid. -/
def msgSum (valid : BitVec 1) (g : FVec F S1x1x1x128x66 .bf16) : FVec F S128x1 .f32 :=
  extf .f32 (Scalar.select valid
      (extractStridedSlice S128x1 ![0, 65] (shapeCast S128x66 g shapeCasts_S1x1x1x128x66_S128x66) slices_l)
      (broadcast S128x1 (Scalar.ofBits .bf16 0x0000#16)))
    bitsLt_bf16_f32

/-- The state of one batch and head: context, row maxima, row sums. -/
structure Acc (F : FTy → Type) where
  ctx : FVec F S128x64 .f32
  m : FVec F S128x1 .f32
  l : FVec F S128x1 .f32

/-- The state after the device's own tile. -/
def ownAcc (b : Fin 2) (h : Fin 4) (q : FVec F S1x1x128x256 .bf16) (k v : FVec F S2x128x256 .bf16) : Acc F where
  ctx := ctxOf (ownScores b h q k) (kvHead b h v)
  m := rowMax (ownScores b h q k)
  l := rowSum (ownScores b h q k)

/-- One partial result `(cb, mb, lb)` merged into a state. -/
def mergeWith (a : Acc F) (cb : FVec F S128x64 .f32) (mb lb : FVec F S128x1 .f32) : Acc F where
  ctx := addf (mulf a.ctx (broadcastTo S128x64 (exp (subf a.m (maximumf a.m mb))) broadcasts_S128x1_S128x64))
    (mulf cb (broadcastTo S128x64 (exp (subf mb (maximumf a.m mb))) broadcasts_S128x1_S128x64))
  m := maximumf a.m mb
  l := addf (mulf a.l (exp (subf a.m (maximumf a.m mb)))) (mulf lb (exp (subf mb (maximumf a.m mb))))

/-- One message merged into a state. -/
def merge (valid : BitVec 1) (g : FVec F S1x1x1x128x66 .bf16) (a : Acc F) : Acc F :=
  mergeWith a (msgCtx valid g) (msgMax valid g) (msgSum valid g)

/-- The context divided by the row sums. -/
def normed (a : Acc F) : FVec F S128x64 .f32 :=
  divf a.ctx (broadcastTo S128x64 a.l broadcasts_S128x1_S128x64)

/-- The output block of one batch: the four heads side by side, projected. -/
def outBlock (wo : FVec F S256x512 .f32) (a : Fin 4 → Acc F) : FVec F S1x128x512 .f32 :=
  shapeCast S1x128x512
    (matmul dot_S128x256_S256x512_S128x512_1_0_0_1_n_n none
      (concatenate S128x256 1
        [⟨S128x64, normed (a 0)⟩, ⟨S128x64, normed (a 1)⟩, ⟨S128x64, normed (a 2)⟩, ⟨S128x64, normed (a 3)⟩]
        concatenates_S128x64_S128x64_S128x64_S128x64_S128x256_d1)
      (shapeCast S256x512 wo shapeCasts_S256x512_S256x512)
      (constant S128x512 .f32 0x00000000#32))
    shapeCasts_S128x512_S1x128x512

end Cert.KernelIdeal.Attn
-- ==== Proof.Body.lean ====
module

public import proofs.«01_k».proof.Proof.Values

/-!
# The kernel's body, block by block

The offsets, conditions and peers of the kernel written once for a symbolic step `o`,
and the body put together from a handful of blocks: send the own queries, answer one
peer's queries, receive one peer's answer, wait for a send.
-/

@[expose] public noncomputable section

namespace Cert.KernelIdeal.Attn

open Idealize.ShloMosaic Idealize.SL.Sem Cert.KernelIdeal Cert.KernelIdeal.Gen

variable {F : FTy → Type} [FloatOps F] [Named F]

/-! ### Words -/

/-- The device's own position, as the kernel computes it. -/
abbrev me (d : Dev nD) : BitVec 32 := Scalar.remsi (Scalar.divsi (Dev.word d) 1#32) 8#32
/-- The step number as a word. -/
abbrev stp (o : Fin 7) : BitVec 32 := BitVec.ofNat 32 (o.val + 1)
/-- The position `o + 1` further on. -/
abbrev nxt (o : Fin 7) (d : Dev nD) : BitVec 32 := Scalar.addi (me d) (stp o)

/-- The device signalled in step `o` of the opening barrier. -/
abbrev devS (o : Fin 7) (d : Dev nD) : Nat :=
  (Scalar.addi 0#32 (Scalar.muli (Scalar.remsi (nxt o d) 8#32) 1#32)).toNat
/-- There is a device `o + 1` before this one. -/
abbrev condQ (o : Fin 7) (d : Dev nD) : BitVec 1 :=
  Scalar.cmpi .ne (Scalar.extui (Scalar.cmpi .sge (Scalar.subi (me d) (stp o)) 0#32) : BitVec 32) 0#32
/-- There is a device `o + 1` after this one. -/
abbrev condP (o : Fin 7) (d : Dev nD) : BitVec 1 :=
  Scalar.cmpi .ne (Scalar.extui (Scalar.cmpi .slt (nxt o d) 8#32) : BitVec 32) 0#32
/-- Device `c` comes before this one. -/
abbrev valid (c : Fin 8) (d : Dev nD) : BitVec 1 := Scalar.cmpi .sgt (me d) (BitVec.ofNat 32 c.val)
/-- The same as a branch condition. -/
abbrev condM (c : Fin 8) (d : Dev nD) : BitVec 1 :=
  Scalar.cmpi .ne (Scalar.extui (valid c d) : BitVec 32) 0#32
/-- The device the queries go to. -/
abbrev devQ (o : Fin 7) (d : Dev nD) : Nat :=
  (Scalar.addi 0#32 (Scalar.muli (Scalar.subi (me d) (stp o)) 1#32)).toNat
/-- The device an answer goes to. -/
abbrev devP (o : Fin 7) (d : Dev nD) : Nat :=
  (Scalar.addi 0#32 (Scalar.muli (nxt o d) 1#32)).toNat

abbrev offMe1 (d : Dev nD) : Fin 1 → Nat := ![(me d).toNat]
abbrev offMe4 (d : Dev nD) : Fin 4 → Nat := ![(me d).toNat, 0, 0, 0]
abbrev offMe5 (d : Dev nD) : Fin 5 → Nat := ![(me d).toNat, 0, 0, 0, 0]
abbrev offMeB (b : Fin 2) (d : Dev nD) : Fin 4 → Nat := ![(Scalar.indexCast (me d)).toNat, b.val, 0, 0]
abbrev offN1 (o : Fin 7) (d : Dev nD) : Fin 1 → Nat := ![(nxt o d).toNat]
abbrev offN4 (o : Fin 7) (d : Dev nD) : Fin 4 → Nat := ![(nxt o d).toNat, 0, 0, 0]
abbrev offNB (o : Fin 7) (b : Fin 2) (d : Dev nD) : Fin 4 → Nat :=
  ![(Scalar.indexCast (nxt o d)).toNat, b.val, 0, 0]
abbrev offN5 (o : Fin 7) (d : Dev nD) : Fin 5 → Nat := ![(nxt o d).toNat, 0, 0, 0, 0]
abbrev offNT (o : Fin 7) (b : Fin 2) (h : Fin 4) (d : Dev nD) : Fin 5 → Nat :=
  ![(Scalar.indexCast (nxt o d)).toNat, b.val, h.val, 0, 0]
abbrev offW5 (o : Fin 7) (d : Dev nD) : Fin 5 → Nat := ![(Scalar.remsi (nxt o d) 8#32).toNat, 0, 0, 0, 0]

/-! ### What the words come to -/

theorem devS_lt : ∀ o d, devS o d < nD := by decide +kernel
theorem devQ_lt : ∀ o d, condQ o d = 1#1 → devQ o d < nD := by decide +kernel
theorem devP_lt : ∀ o d, condP o d = 1#1 → devP o d < nD := by decide +kernel
theorem condQ_iff : ∀ o d, condQ o d = 1#1 ↔ o.val + 1 ≤ d.val := by decide +kernel
theorem condP_iff : ∀ o d, condP o d = 1#1 ↔ d.val + (o.val + 1) < 8 := by decide +kernel
theorem condM_iff : ∀ c d, condM c d = 1#1 ↔ c.val < d.val := by decide +kernel
theorem valid_iff : ∀ c d, valid c d = 1#1 ↔ c.val < d.val := by decide +kernel
theorem devS_eq : ∀ o d, devS o d = (d.val + (o.val + 1)) % 8 := by decide +kernel
theorem devQ_eq : ∀ o d, condQ o d = 1#1 → devQ o d = d.val - (o.val + 1) := by decide +kernel
theorem devP_eq : ∀ o d, condP o d = 1#1 → devP o d = d.val + (o.val + 1) := by decide +kernel

theorem me_toNat : ∀ d, (me d).toNat = d.val := by decide +kernel
theorem me_cast : ∀ d, (Scalar.indexCast (me d)).toNat = d.val := by decide +kernel
theorem nxt_toNat : ∀ o d, condP o d = 1#1 → (nxt o d).toNat = d.val + (o.val + 1) := by decide +kernel
theorem nxt_cast : ∀ o d, condP o d = 1#1 → (Scalar.indexCast (nxt o d)).toNat = d.val + (o.val + 1) := by
  decide +kernel
theorem nxt_rem : ∀ o d, condP o d = 1#1 → (Scalar.remsi (nxt o d) 8#32).toNat = d.val + (o.val + 1) := by
  decide +kernel

/-! ### Blocks and slots lie inside their buffers, on whole words -/

theorem inb_sem7 : ∀ (o : Fin 7) (i : Fin 1), (![o.val] : Fin 1 → Nat) i + S1.size i ≤ S7.size i := by decide +kernel
theorem inb_sem8 : ∀ (c : Fin 8) (i : Fin 1), (![c.val] : Fin 1 → Nat) i + S1.size i ≤ S8.size i := by decide +kernel
theorem inb_q : ∀ (c : Fin 8) (i : Fin 4),
    (![c.val, 0, 0, 0] : Fin 4 → Nat) i + S1x2x128x256.size i ≤ S8x2x128x256.size i := by decide +kernel
theorem inb_qb : ∀ (c : Fin 8) (b : Fin 2) (i : Fin 4),
    (![c.val, b.val, 0, 0] : Fin 4 → Nat) i + S1x1x128x256.size i ≤ S8x2x128x256.size i := by decide +kernel
theorem inb_p : ∀ (c : Fin 8) (i : Fin 5),
    (![c.val, 0, 0, 0, 0] : Fin 5 → Nat) i + S1x2x4x128x66.size i ≤ S8x2x4x128x66.size i := by decide +kernel
theorem inb_pt : ∀ (c : Fin 8) (b : Fin 2) (h : Fin 4) (i : Fin 5),
    (![c.val, b.val, h.val, 0, 0] : Fin 5 → Nat) i + S1x1x1x128x66.size i ≤ S8x2x4x128x66.size i := by
  decide +kernel

theorem inb_out : ∀ (b : Fin 2) (i : Fin 3),
    (![b.val, 0, 0] : Fin 3 → Nat) i + S1x128x512.size i ≤ S2x128x512.size i := by decide +kernel
theorem packed_q : ∀ (c : Fin 8) (b : Fin 2),
    (Rect.unit (s := S8x2x128x256) ![c.val, b.val, 0, 0] S1x1x128x256.size (inb_qb c b)).PackedRows
      (EltTy.packing .bf16) := by decide +kernel
theorem packed_p : ∀ (c : Fin 8) (b : Fin 2) (h : Fin 4),
    (Rect.unit (s := S8x2x4x128x66) ![c.val, b.val, h.val, 0, 0] S1x1x1x128x66.size (inb_pt c b h)).PackedRows
      (EltTy.packing .bf16) := by decide +kernel
theorem words_q : ∀ (c : Fin 8),
    (Rect.unit (s := S8x2x128x256) ![c.val, 0, 0, 0] S1x2x128x256.size (inb_q c)).WholeWords
      (EltTy.packing .bf16) := by decide +kernel
theorem words_p : ∀ (c : Fin 8),
    (Rect.unit (s := S8x2x4x128x66) ![c.val, 0, 0, 0, 0] S1x2x4x128x66.size (inb_p c)).WholeWords
      (EltTy.packing .bf16) := by decide +kernel

/-! ### Buffers, windows, semaphores -/

abbrev xM : Memref sig .tc .vmem S2x128x512 .f32 := Memref.whole cc0_stg0_0
abbrev wqM : Memref sig .tc .vmem S512x256 .f32 := Memref.whole cc0_stg1_0
abbrev kM : Memref sig .tc .vmem S2x128x4x64 .f32 := Memref.whole cc0_stg2_0
abbrev vM : Memref sig .tc .vmem S2x128x4x64 .f32 := Memref.whole cc0_stg3_0
abbrev woM : Memref sig .tc .vmem S256x512 .f32 := Memref.whole cc0_stg4_0
abbrev outM : Memref sig .tc .vmem S2x128x512 .f32 := Memref.whole cc0_stg5_0
/-- The query blocks, one per device. -/
abbrev qM : Memref sig .tc .vmem S8x2x128x256 .bf16 := Memref.whole cc0_scratch0
/-- The answers to be sent, one per device. -/
abbrev psM : Memref sig .tc .vmem S8x2x4x128x66 .bf16 := Memref.whole cc0_scratch1
/-- The answers received, one per device. -/
abbrev prM : Memref sig .tc .vmem S8x2x4x128x66 .bf16 := Memref.whole cc0_scratch2

theorem qM_whole : qM.IsWhole := Memref.isWhole_whole _
theorem psM_whole : psM.IsWhole := Memref.isWhole_whole _
theorem prM_whole : prM.IsWhole := Memref.isWhole_whole _

/-- An offset into the query buffer at which a whole block lies. -/
structure OffQ where
  off : Fin 4 → Nat
  inb : ∀ i, off i + S1x2x128x256.size i ≤ S8x2x128x256.size i
  words : (Rect.unit (s := S8x2x128x256) off S1x2x128x256.size inb).WholeWords (EltTy.packing .bf16)
/-- An offset into the query buffer at which one batch of a block lies. -/
structure OffQB where
  off : Fin 4 → Nat
  inb : ∀ i, off i + S1x1x128x256.size i ≤ S8x2x128x256.size i
  packed : (Rect.unit (s := S8x2x128x256) off S1x1x128x256.size inb).PackedRows (EltTy.packing .bf16)
/-- An offset into an answer buffer at which a whole block lies. -/
structure OffP where
  off : Fin 5 → Nat
  inb : ∀ i, off i + S1x2x4x128x66.size i ≤ S8x2x4x128x66.size i
  words : (Rect.unit (s := S8x2x4x128x66) off S1x2x4x128x66.size inb).WholeWords (EltTy.packing .bf16)
/-- An offset into an answer buffer at which one batch and head of a block lie. -/
structure OffPT where
  off : Fin 5 → Nat
  inb : ∀ i, off i + S1x1x1x128x66.size i ≤ S8x2x4x128x66.size i
  packed : (Rect.unit (s := S8x2x4x128x66) off S1x1x1x128x66.size inb).PackedRows (EltTy.packing .bf16)
/-- A place in a family of eight semaphores. -/
structure Off8 where
  off : Fin 1 → Nat
  inb : ∀ i, off i + S1.size i ≤ S8.size i

def OffQ.at (c : Fin 8) : OffQ := ⟨![c.val, 0, 0, 0], inb_q c, words_q c⟩
def OffQB.at (c : Fin 8) (b : Fin 2) : OffQB := ⟨![c.val, b.val, 0, 0], inb_qb c b, packed_q c b⟩
def OffP.at (c : Fin 8) : OffP := ⟨![c.val, 0, 0, 0, 0], inb_p c, words_p c⟩
def OffPT.at (c : Fin 8) (b : Fin 2) (h : Fin 4) : OffPT := ⟨![c.val, b.val, h.val, 0, 0], inb_pt c b h, packed_p c b h⟩
def Off8.at (c : Fin 8) : Off8 := ⟨![c.val], inb_sem8 c⟩

/-- An offset that is one of the closed ones in other words. -/
def OffQ.of (off : Fin 4 → Nat) (c : Fin 8) (h : off = ![c.val, 0, 0, 0]) : OffQ :=
  ⟨off, by subst h; exact inb_q c, by subst h; exact words_q c⟩
def OffQB.of (off : Fin 4 → Nat) (c : Fin 8) (b : Fin 2) (h : off = ![c.val, b.val, 0, 0]) : OffQB :=
  ⟨off, by subst h; exact inb_qb c b, by subst h; exact packed_q c b⟩
def OffP.of (off : Fin 5 → Nat) (c : Fin 8) (h : off = ![c.val, 0, 0, 0, 0]) : OffP :=
  ⟨off, by subst h; exact inb_p c, by subst h; exact words_p c⟩
def OffPT.of (off : Fin 5 → Nat) (c : Fin 8) (b : Fin 2) (h : Fin 4) (e : off = ![c.val, b.val, h.val, 0, 0]) : OffPT :=
  ⟨off, by subst e; exact inb_pt c b h, by subst e; exact packed_p c b h⟩
def Off8.of (off : Fin 1 → Nat) (c : Fin 8) (h : off = ![c.val]) : Off8 := ⟨off, by subst h; exact inb_sem8 c⟩

theorem OffQ.of_eq (off c h) : OffQ.of off c h = OffQ.at c := by subst h; rfl
theorem OffQB.of_eq (off c b h) : OffQB.of off c b h = OffQB.at c b := by subst h; rfl
theorem OffP.of_eq (off c h) : OffP.of off c h = OffP.at c := by subst h; rfl
theorem OffPT.of_eq (off c b h e) : OffPT.of off c b h e = OffPT.at c b h := by subst e; rfl
theorem Off8.of_eq (off c h) : Off8.of off c h = Off8.at c := by subst h; rfl

/-- A block of the query buffer. -/
abbrev qWin (a : OffQ) : Memref sig .tc .vmem S2x128x256 .bf16 :=
  (qM.slice (Rect.unit (s := S8x2x128x256) a.off S1x2x128x256.size a.inb) (fun _ => rfl)).squeeze
    S2x128x256 squeezes_S1x2x128x256_S2x128x256
/-- A block of the buffer of answers to be sent. -/
abbrev psWin (a : OffP) : Memref sig .tc .vmem S2x4x128x66 .bf16 :=
  (psM.slice (Rect.unit (s := S8x2x4x128x66) a.off S1x2x4x128x66.size a.inb) (fun _ => rfl)).squeeze
    S2x4x128x66 squeezes_S1x2x4x128x66_S2x4x128x66
/-- A block of the buffer of answers received. -/
abbrev prWin (a : OffP) : Memref sig .tc .vmem S2x4x128x66 .bf16 :=
  (prM.slice (Rect.unit (s := S8x2x4x128x66) a.off S1x2x4x128x66.size a.inb) (fun _ => rfl)).squeeze
    S2x4x128x66 squeezes_S1x2x4x128x66_S2x4x128x66

theorem qWin_words (a : OffQ) : (qWin a).view.WordExact := (qM_whole.wordExact_slice rfl _ a.words).reshape _ _
theorem psWin_words (a : OffP) : (psWin a).view.WordExact := (psM_whole.wordExact_slice rfl _ a.words).reshape _ _
theorem prWin_words (a : OffP) : (prWin a).view.WordExact := (prM_whole.wordExact_slice rfl _ a.words).reshape _ _

abbrev sem7 (a : DmaSems sig S7) (o : Fin 7) : DmaSem sig :=
  ((a.slice (Rect.unit (s := S7) ![o.val] S1.size (inb_sem7 o))).squeeze S_ squeezes_S1_S_).sem
abbrev sem8 (a : DmaSems sig S8) (c : Off8) : DmaSem sig :=
  ((a.slice (Rect.unit (s := S8) c.off S1.size c.inb)).squeeze S_ squeezes_S1_S_).sem
abbrev barSem : Sem sig := (SemArray.scalar (sig.barrier 0 rfl) : Sems sig S_).sem

/-! ### The blocks -/

/-- Programs of one device. -/
abbrev PR (F : FTy → Type) := Prog (TpuEff nD τ sig (Elt F) Λ₀ .tc) PUnit

/-- Signal device `p`'s barrier semaphore. -/
def opSignal (p : Dev nD) (k : PR F) : PR F :=
  .op (.semSignal (p, .tc) barSem (1#32).toInt) fun _ => k

/-- Load a whole operand. -/
def opLoadX (k : FVec F S2x128x512 .f32 → PR F) : PR F :=
  .op (.load xM (Rect.unit (s := S2x128x512) ![0, 0, 0] S2x128x512.size inb_S2x128x512_S2x128x512_0_0_0).toLoadRect
    (View.loadsAt_vmem h_S2x128x512)) k
def opLoadWq (k : FVec F S512x256 .f32 → PR F) : PR F :=
  .op (.load wqM (Rect.unit (s := S512x256) ![0, 0] S512x256.size inb_S512x256_S512x256_0_0).toLoadRect
    (View.loadsAt_vmem h_S512x256)) k
def opLoadWo (k : FVec F S256x512 .f32 → PR F) : PR F :=
  .op (.load woM (Rect.unit (s := S256x512) ![0, 0] S256x512.size inb_S256x512_S256x512_0_0).toLoadRect
    (View.loadsAt_vmem h_S256x512)) k
def opLoadK (k : FVec F S2x128x4x64 .f32 → PR F) : PR F :=
  .op (.load kM (Rect.unit (s := S2x128x4x64) ![0, 0, 0, 0] S2x128x4x64.size inb_S2x128x4x64_S2x128x4x64_0_0_0_0).toLoadRect
    (View.loadsAt_vmem h_S2x128x4x64)) k
def opLoadV (k : FVec F S2x128x4x64 .f32 → PR F) : PR F :=
  .op (.load vM (Rect.unit (s := S2x128x4x64) ![0, 0, 0, 0] S2x128x4x64.size inb_S2x128x4x64_S2x128x4x64_0_0_0_0).toLoadRect
    (View.loadsAt_vmem h_S2x128x4x64)) k

/-- Read one batch of a query block. -/
def opLoadQ (a : OffQB) (k : FVec F S1x1x128x256 .bf16 → PR F) : PR F :=
  .op (.load qM (Rect.unit (s := S8x2x128x256) a.off S1x1x128x256.size a.inb).toLoadRect
    (View.loadsAt_vmem h_S1x1x128x256)) k
/-- Write one batch of a query block. -/
def opStoreQ (a : OffQB) (w : FVec F S1x1x128x256 .bf16) (k : PR F) : PR F :=
  .op (.store qM (Rect.unit (s := S8x2x128x256) a.off S1x1x128x256.size a.inb) w Finset.univ
    (View.stores_vmem h_S1x1x128x256 (qM_whole.storeExact_slice rfl _ a.packed) (fun _ => rfl)) (.inl rfl)) fun _ => k
/-- Write one batch and head of an answer (the kernel reads the place first). -/
def opStoreP (a : OffPT) (w : FVec F S1x1x1x128x66 .bf16) (k : PR F) : PR F :=
  .op (.load psM (Rect.unit (s := S8x2x4x128x66) a.off S1x1x1x128x66.size a.inb).toLoadRect
    (View.loadsAt_vmem h_S1x1x1x128x66)) fun _ =>
  .op (.store psM (Rect.unit (s := S8x2x4x128x66) a.off S1x1x1x128x66.size a.inb) w Finset.univ
    (View.stores_vmem h_S1x1x1x128x66 (psM_whole.storeExact_slice rfl _ a.packed) (fun _ => rfl)) (.inl rfl)) fun _ => k
/-- Read one batch and head of a received answer. -/
def opLoadP (a : OffPT) (k : FVec F S1x1x1x128x66 .bf16 → PR F) : PR F :=
  .op (.load prM (Rect.unit (s := S8x2x4x128x66) a.off S1x1x1x128x66.size a.inb).toLoadRect
    (View.loadsAt_vmem h_S1x1x1x128x66)) k
/-- Write the output of one batch (the kernel reads the place first). -/
def opStoreOut (b : Fin 2) (w : FVec F S1x128x512 .f32) (k : PR F) : PR F :=
  .op (.load outM (Rect.unit (s := S2x128x512) ![b.val, 0, 0] S1x128x512.size (inb_out b)).toLoadRect
    (View.loadsAt_vmem h_S1x128x512)) fun _ =>
  .op (.store outM (Rect.unit (s := S2x128x512) ![b.val, 0, 0] S1x128x512.size (inb_out b)) w Finset.univ
    (View.stores_vmem_bits_univ h_S1x128x512 rfl) (.inl rfl)) fun _ => k

/-- Send a query block to the same place of another device. -/
def opSendQ (w : OffQ) (p : Dev nD) (sS sR : DmaSem sig) (k : PR F) : PR F :=
  .op (.enqueueDma (qWin w) (.remote (Dev.tc p) (qWin w) (.dma sS)) (.dma sR) (qWin_words w) (qWin_words w)
    ⟨⟨rfl, Or.inl rfl⟩, trivial⟩) fun _ => k
/-- Send an answer to another device's buffer of answers received. -/
def opSendP (w w' : OffP) (p : Dev nD) (sS sR : DmaSem sig) (k : PR F) : PR F :=
  .op (.enqueueDma (psWin w) (.remote (Dev.tc p) (prWin w') (.dma sS)) (.dma sR) (psWin_words w) (prWin_words w')
    ⟨⟨rfl, Or.inl rfl⟩, trivial⟩) fun _ => k
/-- Wait for the credit of one query block. -/
def opWaitQ (w : OffQ) (s : DmaSem sig) (k : PR F) : PR F :=
  .op (.waitDma2 s (qWin w) (qWin w) (qWin_words w) (qWin_words w)) fun _ => k
/-- Wait for the credit of one answer received. -/
def opWaitP (w : OffP) (s : DmaSem sig) (k : PR F) : PR F :=
  .op (.waitDma2 s (prWin w) (prWin w) (prWin_words w) (prWin_words w)) fun _ => k
/-- Wait for the credit of one answer sent. -/
def opWaitS (w w' : OffP) (s : DmaSem sig) (k : PR F) : PR F :=
  .op (.waitDma2 s (prWin w) (psWin w') (prWin_words w) (psWin_words w')) fun _ => k

/-! ### The offsets as the kernel spells them -/

/-- The position `o + 1` further on, as a device. -/
def up (o : Fin 7) (d : Dev nD) (h : condP o d = 1#1) : Fin 8 :=
  ⟨d.val + (o.val + 1), (condP_iff o d).1 h⟩
/-- The position `o + 1` before, as a device. -/
def dn (o : Fin 7) (d : Dev nD) : Fin 8 := ⟨d.val - (o.val + 1), Nat.lt_of_le_of_lt (Nat.sub_le _ _) d.isLt⟩

def oMe1 (d : Dev nD) : Off8 := .of (offMe1 d) d (by unfold offMe1; rw [me_toNat])
def oMe4 (d : Dev nD) : OffQ := .of (offMe4 d) d (by unfold offMe4; rw [me_toNat])
def oMe5 (d : Dev nD) : OffP := .of (offMe5 d) d (by unfold offMe5; rw [me_toNat])
def oMeB (b : Fin 2) (d : Dev nD) : OffQB := .of (offMeB b d) d b (by unfold offMeB; rw [me_cast])
def oN1 (o : Fin 7) (d : Dev nD) (h : condP o d = 1#1) : Off8 :=
  .of (offN1 o d) (up o d h) (by unfold offN1; rw [nxt_toNat o d h]; rfl)
def oN4 (o : Fin 7) (d : Dev nD) (h : condP o d = 1#1) : OffQ :=
  .of (offN4 o d) (up o d h) (by unfold offN4; rw [nxt_toNat o d h]; rfl)
def oN5 (o : Fin 7) (d : Dev nD) (h : condP o d = 1#1) : OffP :=
  .of (offN5 o d) (up o d h) (by unfold offN5; rw [nxt_toNat o d h]; rfl)
def oW5 (o : Fin 7) (d : Dev nD) (h : condP o d = 1#1) : OffP :=
  .of (offW5 o d) (up o d h) (by unfold offW5; rw [nxt_rem o d h]; rfl)
def oNB (o : Fin 7) (b : Fin 2) (d : Dev nD) (h : condP o d = 1#1) : OffQB :=
  .of (offNB o b d) (up o d h) b (by unfold offNB; rw [nxt_cast o d h]; rfl)
def oNT (o : Fin 7) (b : Fin 2) (h : Fin 4) (d : Dev nD) (e : condP o d = 1#1) : OffPT :=
  .of (offNT o b h d) (up o d e) b h (by unfold offNT; rw [nxt_cast o d e]; rfl)

/-! ### The body -/

/-- Send the own queries `o + 1` devices back, if there is such a device. -/
def sendQ (o : Fin 7) (d : Dev nD) (k : PR F) : PR F :=
  if h : condQ o d = 1#1 then
    opSendQ (oMe4 d) ⟨devQ o d, devQ_lt o d h⟩ (sem7 cc0_scratch3 o) (sem8 cc0_scratch4 (oMe1 d)) k
  else k

/-- The eight tiles of an answer, written one after the other. -/
def storeTiles (o : Fin 7) (d : Dev nD) (e : condP o d = 1#1) (q : Fin 2 → FVec F S1x1x128x256 .bf16)
    (kf vf : FVec F S2x128x256 .bf16) (k : PR F) : PR F :=
  opStoreP (oNT o 0 0 d e) (msg 0 0 (q 0) kf vf) <| opStoreP (oNT o 0 1 d e) (msg 0 1 (q 0) kf vf) <|
  opStoreP (oNT o 0 2 d e) (msg 0 2 (q 0) kf vf) <| opStoreP (oNT o 0 3 d e) (msg 0 3 (q 0) kf vf) <|
  opStoreP (oNT o 1 0 d e) (msg 1 0 (q 1) kf vf) <| opStoreP (oNT o 1 1 d e) (msg 1 1 (q 1) kf vf) <|
  opStoreP (oNT o 1 2 d e) (msg 1 2 (q 1) kf vf) <| opStoreP (oNT o 1 3 d e) (msg 1 3 (q 1) kf vf) k

/-- Answer the queries of the device `o + 1` further on, if there is such a device. -/
def answer (o : Fin 7) (d : Dev nD) (kf vf : FVec F S2x128x256 .bf16) (k : PR F) : PR F :=
  if h : condP o d = 1#1 then
    opWaitQ (oN4 o d h) (sem8 cc0_scratch4 (oN1 o d h)) <|
    opLoadQ (oNB o 0 d h) fun q0 => opLoadQ (oNB o 1 d h) fun q1 =>
    storeTiles o d h ![q0, q1] kf vf <|
    opSendP (oN5 o d h) (oMe5 d) ⟨devP o d, devP_lt o d h⟩ (sem7 cc0_scratch5 o) (sem8 cc0_scratch6 (oMe1 d)) k
  else k

/-- Wait for the answer of device `c`, if it comes before this one. -/
def recv (c : Fin 8) (d : Dev nD) (k : PR F) : PR F :=
  if condM c d = 1#1 then opWaitP (.at c) (sem8 cc0_scratch6 (.at c)) k else k

/-- Read the eight tiles of the answer of device `c`. -/
def loadTiles (c : Fin 8) (k : (Fin 2 → Fin 4 → FVec F S1x1x1x128x66 .bf16) → PR F) : PR F :=
  opLoadP (.at c 0 0) fun g00 => opLoadP (.at c 0 1) fun g01 =>
  opLoadP (.at c 0 2) fun g02 => opLoadP (.at c 0 3) fun g03 =>
  opLoadP (.at c 1 0) fun g10 => opLoadP (.at c 1 1) fun g11 =>
  opLoadP (.at c 1 2) fun g12 => opLoadP (.at c 1 3) fun g13 =>
  k ![![g00, g01, g02, g03], ![g10, g11, g12, g13]]

/-- Receive the answer of device `c` and merge it. -/
def mergeIn (c : Fin 8) (d : Dev nD) (a : Fin 2 → Fin 4 → Acc F) (k : (Fin 2 → Fin 4 → Acc F) → PR F) : PR F :=
  recv c d <| loadTiles c fun g => k fun b h => merge (valid c d) (g b h) (a b h)

/-- Wait until the queries sent in step `o` have left. -/
def waitQ (o : Fin 7) (d : Dev nD) (k : PR F) : PR F :=
  if condQ o d = 1#1 then opWaitQ (oMe4 d) (sem7 cc0_scratch3 o) k else k
/-- Wait until the answer sent in step `o` has left. -/
def waitP (o : Fin 7) (d : Dev nD) (k : PR F) : PR F :=
  if h : condP o d = 1#1 then opWaitS (oMe5 d) (oW5 o d h) (sem7 cc0_scratch5 o) k else k

/-- Signal the other seven devices and wait for theirs. -/
def barrier (d : Dev nD) (k : PR F) : PR F :=
  opSignal ⟨devS 0 d, devS_lt 0 d⟩ <| opSignal ⟨devS 1 d, devS_lt 1 d⟩ <| opSignal ⟨devS 2 d, devS_lt 2 d⟩ <|
  opSignal ⟨devS 3 d, devS_lt 3 d⟩ <| opSignal ⟨devS 4 d, devS_lt 4 d⟩ <| opSignal ⟨devS 5 d, devS_lt 5 d⟩ <|
  opSignal ⟨devS 6 d, devS_lt 6 d⟩ <| .op (.semWait barSem (7#32).toInt) fun _ => k

/-- The closing waits. -/
def waits (d : Dev nD) (k : PR F) : PR F :=
  waitQ 0 d <| waitP 0 d <| waitQ 1 d <| waitP 1 d <| waitQ 2 d <| waitP 2 d <| waitQ 3 d <| waitP 3 d <|
  waitQ 4 d <| waitP 4 d <| waitQ 5 d <| waitP 5 d <| waitQ 6 d <| waitP 6 d k

/-- The seven merges, from the nearest device to the farthest. -/
def merges (d : Dev nD) (a : Fin 2 → Fin 4 → Acc F) (k : (Fin 2 → Fin 4 → Acc F) → PR F) : PR F :=
  mergeIn 6 d a fun a => mergeIn 5 d a fun a => mergeIn 4 d a fun a => mergeIn 3 d a fun a =>
  mergeIn 2 d a fun a => mergeIn 1 d a fun a => mergeIn 0 d a k

/-- The seven answers. -/
def answers (d : Dev nD) (kf vf : FVec F S2x128x256 .bf16) (k : PR F) : PR F :=
  answer 0 d kf vf <| answer 1 d kf vf <| answer 2 d kf vf <| answer 3 d kf vf <| answer 4 d kf vf <|
  answer 5 d kf vf <| answer 6 d kf vf k

/-- The seven sends of the own queries. -/
def sendQs (d : Dev nD) (k : PR F) : PR F :=
  sendQ 0 d <| sendQ 1 d <| sendQ 2 d <| sendQ 3 d <| sendQ 4 d <| sendQ 5 d <| sendQ 6 d k

/-- What device `d` does. -/
def body (d : Dev nD) : PR F :=
  barrier d <|
  opLoadX fun x => opLoadWq fun wq => opLoadWo fun wo =>
  opLoadQ (oMeB 0 d) fun _ => opStoreQ (oMeB 0 d) (qBlock 0 x wq) <|
  opLoadQ (oMeB 1 d) fun _ => opStoreQ (oMeB 1 d) (qBlock 1 x wq) <|
  sendQs d <|
  opLoadK fun kk => opLoadV fun vv =>
  answers d (kvFlat kk) (kvFlat vv) <|
  opLoadQ (oMeB 0 d) fun q0 => opLoadQ (oMeB 1 d) fun q1 =>
  merges d (fun b h => ownAcc b h (![q0, q1] b) (kvFlat kk) (kvFlat vv)) fun a =>
  opStoreOut 0 (outBlock wo (a 0)) <| opStoreOut 1 (outBlock wo (a 1)) <|
  waits d <| .ret ⟨⟩

end Cert.KernelIdeal.Attn
-- ==== Proof.Windows.lean ====
module

public import proofs.«01_k».proof.Proof.Body
public import Idealize.ShloMosaic.Lib.Pipeline.Launch

/-!
# Where the blocks lie and what they hold

The query buffer and the two answer buffers are eight blocks side by side.  Here: which
elements belong to which block, what a transfer of a block leaves behind, and the
contents the blocks have once they are written.
-/

@[expose] public noncomputable section

namespace Cert.KernelIdeal.Attn

open Idealize.ShloMosaic Idealize.SL.Sem Cert.KernelIdeal Cert.KernelIdeal.Gen

variable {F : FTy → Type} [FloatOps F] [Named F]

/-! ### Inputs and contents -/

/-- What the eight devices hold before the kernel. -/
structure Ins (F : FTy → Type) where
  x : Dev nD → FVec F S2x128x512 .f32
  wq : Dev nD → FVec F S512x256 .f32
  k : Dev nD → FVec F S2x128x4x64 .f32
  v : Dev nD → FVec F S2x128x4x64 .f32
  wo : Dev nD → FVec F S256x512 .f32

/-- Contents of the query buffer, and of an answer buffer. -/
abbrev QBuf (F : FTy → Type) := S8x2x128x256.Idx → Elt F .bf16
abbrev PBuf (F : FTy → Type) := S8x2x4x128x66.Idx → Elt F .bf16

/-- Device `s`'s queries, batch `b`. -/
def Ins.q (I : Ins F) (s : Dev nD) (b : Fin 2) : FVec F S1x1x128x256 .bf16 := qBlock b (I.x s) (I.wq s)

/-- Device `c`'s partial answer to device `s`. -/
def Ins.ans (I : Ins F) (c s : Dev nD) (b : Fin 2) (h : Fin 4) : FVec F S1x1x1x128x66 .bf16 :=
  msg b h (I.q s b) (kvFlat (I.k c)) (kvFlat (I.v c))

/-- Index `(0, 0, r, t)` of one batch of a query block. -/
abbrev ixQ (r : Fin 128) (t : Fin 256) : S1x1x128x256.Idx := fun | 0 => (0 : Fin 1) | 1 => (0 : Fin 1) | 2 => r | 3 => t
/-- Index `(0, 0, 0, r, t)` of one tile of an answer. -/
abbrev ixP (r : Fin 128) (t : Fin 66) : S1x1x1x128x66.Idx :=
  fun | 0 => (0 : Fin 1) | 1 => (0 : Fin 1) | 2 => (0 : Fin 1) | 3 => r | 4 => t

/-- The query buffer with every device's queries in their place. -/
def Ins.qAll (I : Ins F) : QBuf F := fun i => I.q (i 0) (i 1) (ixQ (i 2) (i 3))
/-- The answers of device `c` to every device. -/
def Ins.psAll (I : Ins F) (c : Dev nD) : PBuf F := fun i => I.ans c (i 0) (i 1) (i 2) (ixP (i 3) (i 4))
/-- The answers of every device to device `t`. -/
def Ins.prAll (I : Ins F) (t : Dev nD) : PBuf F := fun i => I.ans (i 0) t (i 1) (i 2) (ixP (i 3) (i 4))

/-! ### The elements of a block -/

/-- The elements of block `s`. -/
abbrev qSet (s : Fin 8) : Finset S8x2x128x256.Idx := (qWin (.at s)).view.set
abbrev psSet (s : Fin 8) : Finset S8x2x4x128x66.Idx := (psWin (.at s)).view.set
abbrev prSet (s : Fin 8) : Finset S8x2x4x128x66.Idx := (prWin (.at s)).view.set

theorem qSet_eq (s : Fin 8) :
    qSet s = (Rect.unit (s := S8x2x128x256) ![s.val, 0, 0, 0] S1x2x128x256.size (inb_q s)).set := by
  refine (View.set_reshape _ _).trans ((View.set_slice _ _).trans ?_)
  exact Finset.map_refl

theorem psSet_eq (s : Fin 8) :
    psSet s = (Rect.unit (s := S8x2x4x128x66) ![s.val, 0, 0, 0, 0] S1x2x4x128x66.size (inb_p s)).set := by
  refine (View.set_reshape _ _).trans ((View.set_slice _ _).trans ?_)
  exact Finset.map_refl

theorem prSet_eq (s : Fin 8) :
    prSet s = (Rect.unit (s := S8x2x4x128x66) ![s.val, 0, 0, 0, 0] S1x2x4x128x66.size (inb_p s)).set := by
  refine (View.set_reshape _ _).trans ((View.set_slice _ _).trans ?_)
  exact Finset.map_refl

theorem mem_q_rect (s : Fin 8) (i : S8x2x128x256.Idx) :
    i ∈ (Rect.unit (s := S8x2x128x256) ![s.val, 0, 0, 0] S1x2x128x256.size (inb_q s)).set ↔ (i 0).val = s.val := by
  rw [Rect.mem_set_unit]
  constructor
  · intro h
    have h0 := h 0
    have e0 : (![s.val, 0, 0, 0] : Fin 4 → Nat) 0 = s.val := rfl
    have e1 : S1x2x128x256.size 0 = 1 := rfl
    rw [e0, e1] at h0; omega
  · intro h a
    have hi := (i a).isLt
    fin_cases a
    · exact ⟨le_of_eq h.symm, by show (i 0).val < s.val + 1; omega⟩
    all_goals exact ⟨Nat.zero_le _, by simpa using hi⟩

theorem mem_p_rect (s : Fin 8) (i : S8x2x4x128x66.Idx) :
    i ∈ (Rect.unit (s := S8x2x4x128x66) ![s.val, 0, 0, 0, 0] S1x2x4x128x66.size (inb_p s)).set ↔ (i 0).val = s.val := by
  rw [Rect.mem_set_unit]
  constructor
  · intro h
    have h0 := h 0
    have e0 : (![s.val, 0, 0, 0, 0] : Fin 5 → Nat) 0 = s.val := rfl
    have e1 : S1x2x4x128x66.size 0 = 1 := rfl
    rw [e0, e1] at h0; omega
  · intro h a
    have hi := (i a).isLt
    fin_cases a
    · exact ⟨le_of_eq h.symm, by show (i 0).val < s.val + 1; omega⟩
    all_goals exact ⟨Nat.zero_le _, by simpa using hi⟩

theorem mem_qSet (s : Fin 8) (i : S8x2x128x256.Idx) : i ∈ qSet s ↔ (i 0).val = s.val := by rw [qSet_eq, mem_q_rect]
theorem mem_psSet (s : Fin 8) (i : S8x2x4x128x66.Idx) : i ∈ psSet s ↔ (i 0).val = s.val := by rw [psSet_eq, mem_p_rect]
theorem mem_prSet (s : Fin 8) (i : S8x2x4x128x66.Idx) : i ∈ prSet s ↔ (i 0).val = s.val := by rw [prSet_eq, mem_p_rect]

theorem qSet_disjoint (a b : Fin 8) (h : a ≠ b) : Disjoint (qSet a) (qSet b) :=
  Finset.disjoint_left.2 fun i ha hb => h (Fin.ext (((mem_qSet a i).1 ha).symm.trans ((mem_qSet b i).1 hb)))
theorem psSet_disjoint (a b : Fin 8) (h : a ≠ b) : Disjoint (psSet a) (psSet b) :=
  Finset.disjoint_left.2 fun i ha hb => h (Fin.ext (((mem_psSet a i).1 ha).symm.trans ((mem_psSet b i).1 hb)))
theorem prSet_disjoint (a b : Fin 8) (h : a ≠ b) : Disjoint (prSet a) (prSet b) :=
  Finset.disjoint_left.2 fun i ha hb => h (Fin.ext (((mem_prSet a i).1 ha).symm.trans ((mem_prSet b i).1 hb)))

theorem qSet_cover : Finset.univ.biUnion qSet = Finset.univ :=
  Finset.eq_univ_of_forall fun i => Finset.mem_biUnion.2 ⟨(i 0 : Fin 8), Finset.mem_univ _, (mem_qSet _ i).2 rfl⟩
theorem psSet_cover : Finset.univ.biUnion psSet = Finset.univ :=
  Finset.eq_univ_of_forall fun i => Finset.mem_biUnion.2 ⟨(i 0 : Fin 8), Finset.mem_univ _, (mem_psSet _ i).2 rfl⟩
theorem prSet_cover : Finset.univ.biUnion prSet = Finset.univ :=
  Finset.eq_univ_of_forall fun i => Finset.mem_biUnion.2 ⟨(i 0 : Fin 8), Finset.mem_univ _, (mem_prSet _ i).2 rfl⟩

/-! ### What a transfer leaves behind -/

/-- A block of queries sent to its own place arrives as it was. -/
theorem q_landed (s : Fin 8) (fd fs : QBuf F) (i : S8x2x128x256.Idx) (hi : i ∈ qSet s) :
    (qWin (.at s)).view.write (Elt F) fd ((qWin (.at s)).view.read (Elt F) fs) Finset.univ i = fs i := by
  obtain ⟨x, -, rfl⟩ := Finset.mem_map.1 hi
  rw [View.write_emb_of_mem _ _ (Finset.mem_univ x)]
  rfl

/-- Block `t` of an answer buffer put into block `c` of another: element by element. -/
theorem p_landed (t c : Fin 8) (fd fs : PBuf F) (i : S8x2x4x128x66.Idx) (hi : i ∈ prSet c) :
    ∃ j : S8x2x4x128x66.Idx, j ∈ psSet t ∧ j 1 = i 1 ∧ j 2 = i 2 ∧ j 3 = i 3 ∧ j 4 = i 4 ∧
      (prWin (.at c)).view.write (Elt F) fd ((psWin (.at t)).view.read (Elt F) fs) Finset.univ i = fs j := by
  obtain ⟨x, -, rfl⟩ := Finset.mem_map.1 hi
  refine ⟨(psWin (.at t)).view.emb x, View.emb_mem_set _ x, rfl, rfl, rfl, rfl, ?_⟩
  rw [View.write_emb_of_mem _ _ (Finset.mem_univ x)]
  rfl

/-- The answer of device `c` to device `t`, arrived. -/
theorem ans_landed (I : Ins F) (t c : Fin 8) (fd : PBuf F) (i : S8x2x4x128x66.Idx) (hi : i ∈ prSet c) :
    (prWin (.at c)).view.write (Elt F) fd ((psWin (.at t)).view.read (Elt F) (I.psAll c)) Finset.univ i = I.prAll t i := by
  obtain ⟨j, hj, h1, h2, h3, h4, e⟩ := p_landed t c fd (I.psAll c) i hi
  rw [e]
  have hi0 : i 0 = c := Fin.ext ((mem_prSet c i).1 hi)
  have hj0 : j 0 = t := Fin.ext ((mem_psSet t j).1 hj)
  unfold Ins.psAll Ins.prAll
  rw [hi0, hj0, h1, h2, h3, h4]

/-! ### Loads and stores of parts of a block -/

abbrev qbRect (s : Fin 8) (b : Fin 2) : Rect S8x2x128x256 :=
  Rect.unit (s := S8x2x128x256) ![s.val, b.val, 0, 0] S1x1x128x256.size (inb_qb s b)
abbrev ptRect (s : Fin 8) (b : Fin 2) (h : Fin 4) : Rect S8x2x4x128x66 :=
  Rect.unit (s := S8x2x4x128x66) ![s.val, b.val, h.val, 0, 0] S1x1x1x128x66.size (inb_pt s b h)

theorem mem_qbRect (s : Fin 8) (b : Fin 2) (i : S8x2x128x256.Idx) :
    i ∈ (qbRect s b).set ↔ (i 0).val = s.val ∧ (i 1).val = b.val := by
  rw [Rect.mem_set_unit]
  constructor
  · intro h
    have h0 := h 0
    have h1 := h 1
    have e0 : (![s.val, b.val, 0, 0] : Fin 4 → Nat) 0 = s.val := rfl
    have e1 : (![s.val, b.val, 0, 0] : Fin 4 → Nat) 1 = b.val := rfl
    have s0 : S1x1x128x256.size 0 = 1 := rfl
    have s1 : S1x1x128x256.size 1 = 1 := rfl
    rw [e0, s0] at h0; rw [e1, s1] at h1; omega
  · intro ⟨h0, h1⟩ a
    have hi := (i a).isLt
    fin_cases a
    · exact ⟨le_of_eq h0.symm, by show (i 0).val < s.val + 1; omega⟩
    · exact ⟨le_of_eq h1.symm, by show (i 1).val < b.val + 1; omega⟩
    all_goals exact ⟨Nat.zero_le _, by simpa using hi⟩

theorem mem_ptRect (s : Fin 8) (b : Fin 2) (h : Fin 4) (i : S8x2x4x128x66.Idx) :
    i ∈ (ptRect s b h).set ↔ (i 0).val = s.val ∧ (i 1).val = b.val ∧ (i 2).val = h.val := by
  rw [Rect.mem_set_unit]
  constructor
  · intro hh
    have h0 := hh 0
    have h1 := hh 1
    have h2 := hh 2
    have e0 : (![s.val, b.val, h.val, 0, 0] : Fin 5 → Nat) 0 = s.val := rfl
    have e1 : (![s.val, b.val, h.val, 0, 0] : Fin 5 → Nat) 1 = b.val := rfl
    have e2 : (![s.val, b.val, h.val, 0, 0] : Fin 5 → Nat) 2 = h.val := rfl
    have s0 : S1x1x1x128x66.size 0 = 1 := rfl
    have s1 : S1x1x1x128x66.size 1 = 1 := rfl
    have s2 : S1x1x1x128x66.size 2 = 1 := rfl
    rw [e0, s0] at h0; rw [e1, s1] at h1; rw [e2, s2] at h2; omega
  · intro ⟨h0, h1, h2⟩ a
    have hi := (i a).isLt
    fin_cases a
    · exact ⟨le_of_eq h0.symm, by show (i 0).val < s.val + 1; omega⟩
    · exact ⟨le_of_eq h1.symm, by show (i 1).val < b.val + 1; omega⟩
    · exact ⟨le_of_eq h2.symm, by show (i 2).val < h.val + 1; omega⟩
    all_goals exact ⟨Nat.zero_le _, by simpa using hi⟩

theorem setOn_q (s : Fin 8) (b : Fin 2) (M : Finset (qbRect s b).shape.Idx) :
    (qM.access (qbRect s b)).setOn M ⊆ qSet s := by
  refine (View.setOn_subset_set _ M).trans ?_
  intro i hi
  rw [View.set_slice] at hi
  have hi' : i ∈ (qbRect s b).set := (by obtain ⟨x, hx, rfl⟩ := Finset.mem_map.1 hi; exact hx)
  exact (mem_qSet s i).2 ((mem_qbRect s b i).1 hi').1

theorem setOn_ps (s : Fin 8) (b : Fin 2) (h : Fin 4) (M : Finset (ptRect s b h).shape.Idx) :
    (psM.access (ptRect s b h)).setOn M ⊆ psSet s := by
  refine (View.setOn_subset_set _ M).trans ?_
  intro i hi
  rw [View.set_slice] at hi
  have hi' : i ∈ (ptRect s b h).set := (by obtain ⟨x, hx, rfl⟩ := Finset.mem_map.1 hi; exact hx)
  exact (mem_psSet s i).2 ((mem_ptRect s b h i).1 hi').1

theorem readOn_q (s : Fin 8) (b : Fin 2) : qM.view.setOn (qbRect s b).toLoadRect.set ⊆ qSet s := by
  intro i hi
  have hi' : i ∈ (qbRect s b).set := by
    obtain ⟨x, hx, rfl⟩ := Finset.mem_map.1 hi
    exact hx
  exact (mem_qSet s i).2 ((mem_qbRect s b i).1 hi').1
theorem readOn_ps (s : Fin 8) (b : Fin 2) (h : Fin 4) : psM.view.setOn (ptRect s b h).toLoadRect.set ⊆ psSet s := by
  intro i hi
  have hi' : i ∈ (ptRect s b h).set := by
    obtain ⟨x, hx, rfl⟩ := Finset.mem_map.1 hi
    exact hx
  exact (mem_psSet s i).2 ((mem_ptRect s b h i).1 hi').1
theorem readOn_pr (s : Fin 8) (b : Fin 2) (h : Fin 4) : prM.view.setOn (ptRect s b h).toLoadRect.set ⊆ prSet s := by
  intro i hi
  have hi' : i ∈ (ptRect s b h).set := by
    obtain ⟨x, hx, rfl⟩ := Finset.mem_map.1 hi
    exact hx
  exact (mem_prSet s i).2 ((mem_ptRect s b h i).1 hi').1

/-- Where the element `x` of one batch of a query block lies. -/
theorem qb_emb (s : Fin 8) (b : Fin 2) (x : S1x1x128x256.Idx) :
    ((qbRect s b).emb x) 0 = s ∧ ((qbRect s b).emb x) 1 = b ∧ ((qbRect s b).emb x) 2 = x 2 ∧ ((qbRect s b).emb x) 3 = x 3 := by
  have h0 : (x 0).val = 0 := Nat.lt_one_iff.1 (x 0).isLt
  have h1 : (x 1).val = 0 := Nat.lt_one_iff.1 (x 1).isLt
  refine ⟨Fin.ext ?_, Fin.ext ?_, Fin.ext ?_, Fin.ext ?_⟩
  · show s.val + 1 * (x 0).val = s.val; omega
  · show b.val + 1 * (x 1).val = b.val; omega
  · show 0 + 1 * (x 2).val = (x 2).val; omega
  · show 0 + 1 * (x 3).val = (x 3).val; omega

theorem pt_emb (s : Fin 8) (b : Fin 2) (h : Fin 4) (x : S1x1x1x128x66.Idx) :
    ((ptRect s b h).emb x) 0 = s ∧ ((ptRect s b h).emb x) 1 = b ∧ ((ptRect s b h).emb x) 2 = h ∧
      ((ptRect s b h).emb x) 3 = x 3 ∧ ((ptRect s b h).emb x) 4 = x 4 := by
  have h0 : (x 0).val = 0 := Nat.lt_one_iff.1 (x 0).isLt
  have h1 : (x 1).val = 0 := Nat.lt_one_iff.1 (x 1).isLt
  have h2 : (x 2).val = 0 := Nat.lt_one_iff.1 (x 2).isLt
  refine ⟨Fin.ext ?_, Fin.ext ?_, Fin.ext ?_, Fin.ext ?_, Fin.ext ?_⟩
  · show s.val + 1 * (x 0).val = s.val; omega
  · show b.val + 1 * (x 1).val = b.val; omega
  · show h.val + 1 * (x 2).val = h.val; omega
  · show 0 + 1 * (x 3).val = (x 3).val; omega
  · show 0 + 1 * (x 4).val = (x 4).val; omega

theorem ixQ_eta (x : S1x1x128x256.Idx) : ixQ (x 2) (x 3) = x := by
  funext a
  fin_cases a
  · exact Subsingleton.elim (α := Fin 1) _ _
  · exact Subsingleton.elim (α := Fin 1) _ _
  · rfl
  · rfl

theorem ixP_eta (x : S1x1x1x128x66.Idx) : ixP (x 3) (x 4) = x := by
  funext a
  fin_cases a
  · exact Subsingleton.elim (α := Fin 1) _ _
  · exact Subsingleton.elim (α := Fin 1) _ _
  · exact Subsingleton.elim (α := Fin 1) _ _
  · rfl
  · rfl

/-- Reading one batch of a query block whose elements are known. -/
theorem read_q (I : Ins F) (s : Fin 8) (b : Fin 2) (f : QBuf F) (hf : ∀ i ∈ qSet s, f i = I.qAll i) :
    qM.view.readAt (Elt F) (qbRect s b).toLoadRect f = I.q s b := by
  funext x
  obtain ⟨e0, e1, e2, e3⟩ := qb_emb s b x
  have hm : (qbRect s b).emb x ∈ qSet s := (mem_qSet s _).2 (congrArg Fin.val e0)
  refine (show _ = f ((qbRect s b).emb x) from rfl).trans ((hf _ hm).trans ?_)
  unfold Ins.qAll
  rw [e0, e1, e2, e3, ixQ_eta]

/-- Reading one tile of an answer whose elements are known. -/
theorem read_pr (I : Ins F) (t s : Fin 8) (b : Fin 2) (h : Fin 4) (f : PBuf F) (hf : ∀ i ∈ prSet s, f i = I.prAll t i) :
    prM.view.readAt (Elt F) (ptRect s b h).toLoadRect f = I.ans s t b h := by
  funext x
  obtain ⟨e0, e1, e2, e3, e4⟩ := pt_emb s b h x
  have hm : (ptRect s b h).emb x ∈ prSet s := (mem_prSet s _).2 (congrArg Fin.val e0)
  refine (show _ = f ((ptRect s b h).emb x) from rfl).trans ((hf _ hm).trans ?_)
  unfold Ins.prAll
  rw [e0, e1, e2, e3, e4, ixP_eta]

/-- One batch of a query block written: that batch is as it should be, and what was stays. -/
theorem write_q (I : Ins F) (s : Fin 8) (b : Fin 2) (f : QBuf F) (i : S8x2x128x256.Idx) (hi : i ∈ qSet s)
    (h : i 1 ≠ b → f i = I.qAll i) :
    (qM.access (qbRect s b)).write (Elt F) f (I.q s b) Finset.univ i = I.qAll i := by
  by_cases hb : i 1 = b
  · have hm : i ∈ (qbRect s b).set := (mem_qbRect s b i).2 ⟨(mem_qSet s i).1 hi, congrArg Fin.val hb⟩
    obtain ⟨x, rfl⟩ : ∃ x, (qbRect s b).emb x = i := by
      have := (Rect.map_emb_univ (qbRect s b)) ▸ hm
      obtain ⟨x, -, e⟩ := Finset.mem_map.1 this
      exact ⟨x, e⟩
    obtain ⟨e0, e1, e2, e3⟩ := qb_emb s b x
    refine (View.write_emb_of_mem (v := qM.access (qbRect s b)) f (I.q s b) (Finset.mem_univ x)).trans ?_
    unfold Ins.qAll
    rw [e0, e1, e2, e3, ixQ_eta]
    rfl
  · rw [View.write_of_not_mem]
    · exact h hb
    · intro hm
      rw [View.setOn_univ, View.set_slice] at hm
      have hm' : i ∈ (qbRect s b).set := (by obtain ⟨x, hx, rfl⟩ := Finset.mem_map.1 hm; exact hx)
      exact hb (Fin.ext ((mem_qbRect s b i).1 hm').2)

/-- One tile of an answer written: that tile is as it should be, and what was stays. -/
theorem write_ps (I : Ins F) (c s : Fin 8) (b : Fin 2) (h : Fin 4) (f : PBuf F) (i : S8x2x4x128x66.Idx) (hi : i ∈ psSet s)
    (hf : ¬ (i 1 = b ∧ i 2 = h) → f i = I.psAll c i) :
    (psM.access (ptRect s b h)).write (Elt F) f (I.ans c s b h) Finset.univ i = I.psAll c i := by
  by_cases hb : i 1 = b ∧ i 2 = h
  · have hm : i ∈ (ptRect s b h).set :=
      (mem_ptRect s b h i).2 ⟨(mem_psSet s i).1 hi, congrArg Fin.val hb.1, congrArg Fin.val hb.2⟩
    obtain ⟨x, rfl⟩ : ∃ x, (ptRect s b h).emb x = i := by
      have := (Rect.map_emb_univ (ptRect s b h)) ▸ hm
      obtain ⟨x, -, e⟩ := Finset.mem_map.1 this
      exact ⟨x, e⟩
    obtain ⟨e0, e1, e2, e3, e4⟩ := pt_emb s b h x
    refine (View.write_emb_of_mem (v := psM.access (ptRect s b h)) f (I.ans c s b h) (Finset.mem_univ x)).trans ?_
    unfold Ins.psAll
    rw [e0, e1, e2, e3, e4, ixP_eta]
    rfl
  · rw [View.write_of_not_mem]
    · exact hf hb
    · intro hm
      rw [View.setOn_univ, View.set_slice] at hm
      have hm' : i ∈ (ptRect s b h).set := (by obtain ⟨x, hx, rfl⟩ := Finset.mem_map.1 hm; exact hx)
      have := (mem_ptRect s b h i).1 hm'
      exact hb ⟨Fin.ext this.2.1, Fin.ext this.2.2⟩

end Cert.KernelIdeal.Attn
-- ==== Proof.Schedule.lean ====
module

public import proofs.«01_k».proof.Proof.Windows
public import Idealize.ShloMosaic.Lib.Pipeline.Launch
public import proofs.«01_k».proof.Proof.Gen.KernelIdeal.Launch
public import Idealize.ShloMosaic.Lib.Pipeline.Kit
public import Idealize.ShloMosaic.Lib.Tactic

/-!
# Who tells whom what

Every device has one barrier cell, seven cells for queries that have left, eight for queries
that arrive, seven for answers that have left and eight for answers that arrive.  Each is
used in one round.  A device that signals another's barrier hands over the block of its own
buffer that the other will write: of the query buffer if the other comes later, of the
buffer of answers received if it comes before.  A transfer hands over what it wrote.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ### Ghost state: the pipeline's, and the devices' -/

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ### The cells -/

/-- What a cell is for. -/
inductive CellK where
  | bar
  | qs (o : Fin 7)
  | qr (s : Fin 8)
  | ps (o : Fin 7)
  | pr (s : Fin 8)
  | other

/-- What a semaphore is for. -/
def dec : SemLoc sig → CellK
  | .reg _ => .bar
  | .dma s =>
    if s.val < 6 then .other
    else if h : s.val < 13 then .qs ⟨s.val - 6, by omega⟩
    else if h : s.val < 21 then .qr ⟨s.val - 13, by omega⟩
    else if h : s.val < 28 then .ps ⟨s.val - 21, by omega⟩
    else if h : s.val < 36 then .pr ⟨s.val - 28, by omega⟩
    else .other

abbrev sQS (o : Fin 7) : DmaSem sig := sem7 cc0_scratch3 o
abbrev sQR (s : Fin 8) : DmaSem sig := sem8 cc0_scratch4 (.at s)
abbrev sPS (o : Fin 7) : DmaSem sig := sem7 cc0_scratch5 o
abbrev sPR (s : Fin 8) : DmaSem sig := sem8 cc0_scratch6 (.at s)

/-- The thirty-one cells of a device, in order. -/
def csem (i : Fin 31) : SemLoc sig :=
  if i.val = 0 then .reg barSem else .dma (⟨i.val + 5, by show i.val + 5 < 36; omega⟩ : Fin 36)

abbrev kBar : Fin 31 := 0
abbrev kQS (o : Fin 7) : Fin 31 := ⟨1 + o.val, by omega⟩
abbrev kQR (s : Fin 8) : Fin 31 := ⟨8 + s.val, by omega⟩
abbrev kPS (o : Fin 7) : Fin 31 := ⟨16 + o.val, by omega⟩
abbrev kPR (s : Fin 8) : Fin 31 := ⟨23 + s.val, by omega⟩

theorem csem_bar : csem kBar = .reg barSem := rfl
theorem csem_qs : ∀ o, csem (kQS o) = .dma (sQS o) := by decide +kernel
theorem csem_qr : ∀ o, csem (kQR o) = .dma (sQR o) := by decide +kernel
theorem csem_ps : ∀ o, csem (kPS o) = .dma (sPS o) := by decide +kernel
theorem csem_pr : ∀ o, csem (kPR o) = .dma (sPR o) := by decide +kernel

theorem val_qs : ∀ o, (sQS o).val = 6 + o.val := by decide +kernel
theorem val_qr : ∀ o, (sQR o).val = 13 + o.val := by decide +kernel
theorem val_ps : ∀ o, (sPS o).val = 21 + o.val := by decide +kernel
theorem val_pr : ∀ o, (sPR o).val = 28 + o.val := by decide +kernel

theorem dec_bar : dec (.reg barSem) = .bar := rfl
theorem dec_qs (o : Fin 7) : dec (.dma (sQS o)) = .qs o := by
  have := val_qs o
  unfold dec
  simp only [this]
  rw [if_neg (by omega), dif_pos (by omega)]
  congr 1; exact Fin.ext (by simp)
theorem dec_qr (s : Fin 8) : dec (.dma (sQR s)) = .qr s := by
  have := val_qr s
  unfold dec
  simp only [this]
  rw [if_neg (by omega), dif_neg (by omega), dif_pos (by omega)]
  congr 1; exact Fin.ext (by simp)
theorem dec_ps (o : Fin 7) : dec (.dma (sPS o)) = .ps o := by
  have := val_ps o
  unfold dec
  simp only [this]
  rw [if_neg (by omega), dif_neg (by omega), dif_neg (by omega), dif_pos (by omega)]
  congr 1; exact Fin.ext (by simp)
theorem dec_pr (s : Fin 8) : dec (.dma (sPR s)) = .pr s := by
  have := val_pr s
  unfold dec
  simp only [this]
  rw [if_neg (by omega), dif_neg (by omega), dif_neg (by omega), dif_neg (by omega), dif_pos (by omega)]
  congr 1; exact Fin.ext (by simp)

abbrev cell (c : Dev nD) (i : Fin 31) : GSem nD τ sig := ((c : Thread nD τ), csem i)
abbrev barC (c : Dev nD) : GSem nD τ sig := ((c : Thread nD τ), .reg barSem)
abbrev qsC (c : Dev nD) (o : Fin 7) : GSem nD τ sig := ((c : Thread nD τ), .dma (sQS o))
abbrev qrC (c : Dev nD) (s : Fin 8) : GSem nD τ sig := ((c : Thread nD τ), .dma (sQR s))
abbrev psC (c : Dev nD) (o : Fin 7) : GSem nD τ sig := ((c : Thread nD τ), .dma (sPS o))
abbrev prC (c : Dev nD) (s : Fin 8) : GSem nD τ sig := ((c : Thread nD τ), .dma (sPR s))

/-! ### Blocks held -/

/-- Block `s` of device `c`'s query buffer, held at share `q` with contents `f`. -/
def qAt (c : Dev nD) (s : Fin 8) (q : PosShare TreeShare) (f : QBuf F) : sProp 𝕄 :=
  qM.view.loc (c : Thread nD τ) ↦[qSet s]{q} f
/-- Block `s` of device `c`'s buffer of answers to be sent. -/
def psAt (c : Dev nD) (s : Fin 8) (f : PBuf F) : sProp 𝕄 :=
  psM.view.loc (c : Thread nD τ) ↦[psSet s]{fullShare} f
/-- Block `s` of device `c`'s buffer of answers received. -/
def prAt (c : Dev nD) (s : Fin 8) (f : PBuf F) : sProp 𝕄 :=
  prM.view.loc (c : Thread nD τ) ↦[prSet s]{fullShare} f

/-- The share of a device's own queries that the send of step `o` borrows. -/
abbrev shareO (o : Fin 7) : PosShare TreeShare := Transfers.shareTok fullShare 7 o

instance qAt_storable (c : Dev nD) (s q f) : BI.Storable (upEmb : UEmb _ 𝕄) (qAt (F := F) c s q f) := by
  unfold qAt; infer_instance
instance psAt_storable (c : Dev nD) (s f) : BI.Storable (upEmb : UEmb _ 𝕄) (psAt (F := F) c s f) := by
  unfold psAt; infer_instance
instance prAt_storable (c : Dev nD) (s f) : BI.Storable (upEmb : UEmb _ 𝕄) (prAt (F := F) c s f) := by
  unfold prAt; infer_instance

/-- The device `o + 1` further on, round the ring. -/
def nx (o : Fin 7) (c : Dev nD) : Dev nD := ⟨(c.val + (o.val + 1)) % 8, Nat.mod_lt _ (by decide)⟩

/-- What device `d` hands device `c` with its barrier signal. -/
def give (d c : Dev nD) : sProp 𝕄 :=
  if d.val < c.val then iprop(∃ f, qAt (F := F) d c fullShare f) else iprop(∃ f, prAt (F := F) d c f)

instance give_storable (d c : Dev nD) : BI.Storable (upEmb : UEmb _ 𝕄) (give (F := F) d c) := by
  unfold give; split <;> infer_instance

/-! ### The schedule -/

/-- The units of a query block, and of an answer. -/
def NQ : ℕ := (qWin (.at 0)).view.dmaCredit
def NP : ℕ := (psWin (.at 0)).view.dmaCredit
theorem credit_q (s : Fin 8) : (qWin (.at s)).view.dmaCredit = NQ := rfl
theorem credit_ps (s : Fin 8) : (psWin (.at s)).view.dmaCredit = NP := rfl
theorem credit_pr (s : Fin 8) : (prWin (.at s)).view.dmaCredit = NP := rfl
theorem NQ_pos : 0 < NQ := View.dmaCredit_pos _ (by decide)
theorem NP_pos : 0 < NP := View.dmaCredit_pos _ (by decide)

/-- Who pays a cell of device `c`: a cell's duties are named by the devices that pay them. -/
def dutiesK (c : Dev nD) : CellK → Finset (Dev nD)
  | .bar => Finset.univ.erase c
  | .qs o => if o.val + 1 ≤ c.val then {c} else ∅
  | .qr s => if c.val < s.val then {s} else ∅
  | .ps o => if c.val + (o.val + 1) < 8 then {c} else ∅
  | .pr s => if s.val < c.val then {s} else ∅
  | .other => ∅

def amountK : CellK → ℕ
  | .bar => 1
  | .qs _ => NQ
  | .qr _ => NQ
  | .ps _ => NP
  | .pr _ => NP
  | .other => 1

theorem amountK_pos (k : CellK) : 0 < amountK k := by
  cases k <;> first | exact Nat.one_pos | exact NQ_pos | exact NP_pos

variable (I : Ins F)

def payK (c d : Dev nD) : CellK → sProp 𝕄
  | .bar => give d c
  | .qs o => qAt c c (shareO o) I.qAll
  | .qr s => qAt c s fullShare I.qAll
  | .ps o => psAt c (nx o c) (I.psAll c)
  | .pr s => prAt c s (I.prAll c)
  | .other => iprop(emp)

instance payK_storable (c d : Dev nD) (k : CellK) : BI.Storable (upEmb : UEmb _ 𝕄) (payK (F := F) I c d k) := by
  cases k <;> unfold payK <;> infer_instance

/-- One round, round 0. -/
def Rd : Rounds.Schedule (GSem nD τ sig) (Dev nD) 𝕄 where
  duties g r := if r = 0 ∧ g.1.2 = .tc then dutiesK g.1.1 (dec g.2) else ∅
  unitless _ := False
  amount g _ _ := amountK (dec g.2)
  payload g _ d := payK I g.1.1 d (dec g.2)
  amount_pos g _ _ _ := amountK_pos _

instance Rd_payload_storable (g : GSem nD τ sig) (r : ℕ) (d : Dev nD) :
    BI.Storable (upEmb : UEmb _ 𝕄) ((Rd (F := F) I).payload g r d) := payK_storable I _ _ _

theorem duties_later (g : GSem nD τ sig) : ∀ r, 1 ≤ r → (Rd (F := F) I).duties g r = ∅ :=
  fun r hr => by dsimp only [Rd]; rw [if_neg fun h => by omega]
theorem duties_zero (c : Dev nD) (s : SemLoc sig) :
    (Rd (F := F) I).duties ((c : Thread nD τ), s) 0 = dutiesK c (dec s) := by
  dsimp only [Rd]; exact if_pos ⟨rfl, rfl⟩

theorem duties_bar (c : Dev nD) : (Rd (F := F) I).duties (barC c) 0 = Finset.univ.erase c := by
  rw [duties_zero]; rfl
theorem duties_qs (c : Dev nD) (o : Fin 7) (h : o.val + 1 ≤ c.val) : (Rd (F := F) I).duties (qsC c o) 0 = {c} := by
  rw [duties_zero, dec_qs]; exact if_pos h
theorem duties_qr (c : Dev nD) (s : Fin 8) (h : c.val < s.val) : (Rd (F := F) I).duties (qrC c s) 0 = {s} := by
  rw [duties_zero, dec_qr]; exact if_pos h
theorem duties_ps (c : Dev nD) (o : Fin 7) (h : c.val + (o.val + 1) < 8) : (Rd (F := F) I).duties (psC c o) 0 = {c} := by
  rw [duties_zero, dec_ps]; exact if_pos h
theorem duties_pr (c : Dev nD) (s : Fin 8) (h : s.val < c.val) : (Rd (F := F) I).duties (prC c s) 0 = {s} := by
  rw [duties_zero, dec_pr]; exact if_pos h

/-- The cells nobody pays. -/
theorem no_qs (c : Dev nD) (o : Fin 7) (h : ¬ o.val + 1 ≤ c.val) (r : ℕ) : (Rd (F := F) I).duties (qsC c o) r = ∅ := by
  rcases r with _ | r
  · rw [duties_zero, dec_qs]; exact if_neg h
  · exact duties_later I _ _ (Nat.succ_pos r)
theorem no_qr (c : Dev nD) (s : Fin 8) (h : ¬ c.val < s.val) (r : ℕ) : (Rd (F := F) I).duties (qrC c s) r = ∅ := by
  rcases r with _ | r
  · rw [duties_zero, dec_qr]; exact if_neg h
  · exact duties_later I _ _ (Nat.succ_pos r)
theorem no_ps (c : Dev nD) (o : Fin 7) (h : ¬ c.val + (o.val + 1) < 8) (r : ℕ) : (Rd (F := F) I).duties (psC c o) r = ∅ := by
  rcases r with _ | r
  · rw [duties_zero, dec_ps]; exact if_neg h
  · exact duties_later I _ _ (Nat.succ_pos r)
theorem no_pr (c : Dev nD) (s : Fin 8) (h : ¬ s.val < c.val) (r : ℕ) : (Rd (F := F) I).duties (prC c s) r = ∅ := by
  rcases r with _ | r
  · rw [duties_zero, dec_pr]; exact if_neg h
  · exact duties_later I _ _ (Nat.succ_pos r)

theorem amount_bar (c d : Dev nD) : (Rd (F := F) I).amount (barC c) 0 d = 1 := rfl
theorem amount_qs (c d : Dev nD) (o : Fin 7) : (Rd (F := F) I).amount (qsC c o) 0 d = NQ := by
  show amountK (dec _) = _; rw [dec_qs]; rfl
theorem amount_qr (c d : Dev nD) (s : Fin 8) : (Rd (F := F) I).amount (qrC c s) 0 d = NQ := by
  show amountK (dec _) = _; rw [dec_qr]; rfl
theorem amount_ps (c d : Dev nD) (o : Fin 7) : (Rd (F := F) I).amount (psC c o) 0 d = NP := by
  show amountK (dec _) = _; rw [dec_ps]; rfl
theorem amount_pr (c d : Dev nD) (s : Fin 8) : (Rd (F := F) I).amount (prC c s) 0 d = NP := by
  show amountK (dec _) = _; rw [dec_pr]; rfl

theorem payload_bar (c d : Dev nD) : (Rd (F := F) I).payload (barC c) 0 d = give d c := rfl
theorem payload_qs (c d : Dev nD) (o : Fin 7) : (Rd (F := F) I).payload (qsC c o) 0 d = qAt c c (shareO o) I.qAll := by
  show payK I _ _ (dec _) = _; rw [dec_qs]; rfl
theorem payload_qr (c d : Dev nD) (s : Fin 8) : (Rd (F := F) I).payload (qrC c s) 0 d = qAt c s fullShare I.qAll := by
  show payK I _ _ (dec _) = _; rw [dec_qr]; rfl
theorem payload_ps (c d : Dev nD) (o : Fin 7) : (Rd (F := F) I).payload (psC c o) 0 d = psAt c (nx o c) (I.psAll c) := by
  show payK I _ _ (dec _) = _; rw [dec_ps]; rfl
theorem payload_pr (c d : Dev nD) (s : Fin 8) : (Rd (F := F) I).payload (prC c s) 0 d = prAt c s (I.prAll c) := by
  show payK I _ _ (dec _) = _; rw [dec_pr]; rfl

theorem expect_bar (c : Dev nD) : (Rd (F := F) I).expect (barC c) 0 = 7 := by
  unfold Schedule.expect Schedule.amountOf
  rw [duties_bar, Finset.sum_congr rfl fun d _ => amount_bar I c d, Finset.sum_const, Finset.card_erase_of_mem (Finset.mem_univ c),
    Finset.card_univ, smul_eq_mul]
  rfl
theorem expect_qs (c : Dev nD) (o : Fin 7) (h : o.val + 1 ≤ c.val) : (Rd (F := F) I).expect (qsC c o) 0 = NQ := by
  unfold Schedule.expect Schedule.amountOf; rw [duties_qs I c o h, Finset.sum_singleton, amount_qs]
theorem expect_qr (c : Dev nD) (s : Fin 8) (h : c.val < s.val) : (Rd (F := F) I).expect (qrC c s) 0 = NQ := by
  unfold Schedule.expect Schedule.amountOf; rw [duties_qr I c s h, Finset.sum_singleton, amount_qr]
theorem expect_ps (c : Dev nD) (o : Fin 7) (h : c.val + (o.val + 1) < 8) : (Rd (F := F) I).expect (psC c o) 0 = NP := by
  unfold Schedule.expect Schedule.amountOf; rw [duties_ps I c o h, Finset.sum_singleton, amount_ps]
theorem expect_pr (c : Dev nD) (s : Fin 8) (h : s.val < c.val) : (Rd (F := F) I).expect (prC c s) 0 = NP := by
  unfold Schedule.expect Schedule.amountOf; rw [duties_pr I c s h, Finset.sum_singleton, amount_pr]

theorem rest_bar (c : Dev nD) : bigSep ((Rd (F := F) I).duties (barC c) 0 \ ∅) (fun d => (Rd (F := F) I).payload (barC c) 0 d)
    = bigSep (Finset.univ.erase c) fun d => give d c := by
  rw [Finset.sdiff_empty, duties_bar]; rfl
theorem rest_qs (c : Dev nD) (o : Fin 7) (h : o.val + 1 ≤ c.val) :
    bigSep ((Rd (F := F) I).duties (qsC c o) 0 \ ∅) (fun d => (Rd (F := F) I).payload (qsC c o) 0 d) = qAt c c (shareO o) I.qAll := by
  rw [Finset.sdiff_empty, duties_qs I c o h, bigSep_singleton, payload_qs]
theorem rest_qr (c : Dev nD) (s : Fin 8) (h : c.val < s.val) :
    bigSep ((Rd (F := F) I).duties (qrC c s) 0 \ ∅) (fun d => (Rd (F := F) I).payload (qrC c s) 0 d) = qAt c s fullShare I.qAll := by
  rw [Finset.sdiff_empty, duties_qr I c s h, bigSep_singleton, payload_qr]
theorem rest_ps (c : Dev nD) (o : Fin 7) (h : c.val + (o.val + 1) < 8) :
    bigSep ((Rd (F := F) I).duties (psC c o) 0 \ ∅) (fun d => (Rd (F := F) I).payload (psC c o) 0 d) = psAt c (nx o c) (I.psAll c) := by
  rw [Finset.sdiff_empty, duties_ps I c o h, bigSep_singleton, payload_ps]
theorem rest_pr (c : Dev nD) (s : Fin 8) (h : s.val < c.val) :
    bigSep ((Rd (F := F) I).duties (prC c s) 0 \ ∅) (fun d => (Rd (F := F) I).payload (prC c s) 0 d) = prAt c s (I.prAll c) := by
  rw [Finset.sdiff_empty, duties_pr I c s h, bigSep_singleton, payload_pr]

/-! ### Levels -/

def L (g : GSem nD τ sig) : Finset Unit := if g.1.2 = .tc then {()} else ∅

/-- Barrier cells at 1, arriving queries at 2, arriving answers at 3, the rest at 0. -/
def lvK : CellK → ℕ
  | .bar => 1
  | .qr _ => 2
  | .pr _ => 3
  | _ => 0
def lv (g : GSem nD τ sig) (_ : Unit) : ℕ := lvK (dec g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`, on the devices' own cores. -/
def Above (n : ℕ) (O : CellTallies nD τ sig Unit) : Prop := ∀ g u, 0 < O g u → g.1.2 = .tc ∧ n < lvK (dec g.2)

theorem Above.zero (n : ℕ) : Above n 0 := fun g u h => absurd h (Nat.lt_irrefl 0)
theorem Above.mono {n n' : ℕ} {O : CellTallies nD τ sig Unit} (h : n ≤ n') (hO : Above n' O) : Above n O :=
  fun g u hg => ⟨(hO g u hg).1, Nat.lt_of_le_of_lt h (hO g u hg).2⟩
theorem Above.add {n : ℕ} {O O' : CellTallies nD τ sig Unit} (h : Above n O) (h' : Above n O') : Above n (O + O') := fun g u hg => by
  rw [Pi.add_apply, Finsupp.add_apply] at hg
  rcases Nat.eq_zero_or_pos (O g u) with e | e
  · exact h' g u (by omega)
  · exact h g u e
theorem Above.tally {n : ℕ} (c : Dev nD) (sm : SemLoc sig) (N : ℕ) (h : n < lvK (dec sm)) :
    Above n (tallyAt ((c : Thread nD τ), sm) () N) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)

theorem mayWait_of (c : Dev nD) (sm : SemLoc sig) (O : CellTallies nD τ sig Unit) (hO : Above (lvK (dec sm)) O) :
    (levAts L lv : sProp 𝕄) ⊢ MayWait (c : Thread nD τ) sm () O :=
  MayOwe.of_cut (L := L) (lev := lv) (lvK (dec sm))
    (fun p hp => by rw [Finset.mem_singleton.mp hp, L_tc]; exact Finset.mem_singleton_self _)
    (fun g u hg => by
      have := (hO g u hg).1
      unfold L; rw [if_pos this]; exact Finset.mem_singleton.2 rfl)
    (fun p hp => by rw [Finset.mem_singleton.mp hp]; exact le_refl _)
    (fun g u hg => (hO g u hg).2)

/-! ### What a device owes, step by step -/

/-- The credit of its answer in step `o`. -/
def oP (o : Fin 7) (c : Dev nD) : CellTallies nD τ sig Unit :=
  if c.val + (o.val + 1) < 8 then tallyAt (prC (nx o c) c) () NP else 0
/-- The credit of its queries in step `o`. -/
def oQ (o : Fin 7) (c : Dev nD) : CellTallies nD τ sig Unit :=
  if o.val + 1 ≤ c.val then tallyAt (qrC (dn o c) c) () NQ else 0
/-- The barrier unit of step `o`. -/
def oB (o : Fin 7) (c : Dev nD) : CellTallies nD τ sig Unit := tallyAt (barC (nx o c)) () 1

/-- A list of debts on top of `O`. -/
def owL {A : Type} (ow : A → CellTallies nD τ sig Unit) (O : CellTallies nD τ sig Unit) : List A → CellTallies nD τ sig Unit
  | [] => O
  | a :: l => owL ow O l + ow a

/-- The seven steps in order. -/
def steps : List (Fin 7) := [0, 1, 2, 3, 4, 5, 6]

/-- Owed when the answers begin, when the queries are sent, and at the start. -/
def oAns (c : Dev nD) : CellTallies nD τ sig Unit := owL (fun o => oP o c) 0 steps
def oQry (c : Dev nD) : CellTallies nD τ sig Unit := owL (fun o => oQ o c) (oAns c) steps
def O₀ (c : Dev nD) : CellTallies nD τ sig Unit := owL (fun o => oB o c) (oQry c) steps

theorem Above.owL {A : Type} {n : ℕ} {ow : A → CellTallies nD τ sig Unit} {O : CellTallies nD τ sig Unit} (hO : Above n O)
    (h : ∀ a, Above n (ow a)) : ∀ l, Above n (owL ow O l)
  | [] => hO
  | a :: l => (Above.owL hO h l).add (h a)

theorem above_oP (o : Fin 7) (c : Dev nD) : Above 2 (oP o c) := by
  unfold oP; split
  · exact Above.tally _ _ _ (by rw [dec_pr]; exact Nat.lt_succ_self 2)
  · exact Above.zero _
theorem above_oQ (o : Fin 7) (c : Dev nD) : Above 1 (oQ o c) := by
  unfold oQ; split
  · exact Above.tally _ _ _ (by rw [dec_qr]; exact Nat.lt_succ_self 1)
  · exact Above.zero _
theorem above_oB (o : Fin 7) (c : Dev nD) : Above 0 (oB o c) := Above.tally _ _ _ (by decide)
theorem above_oAns (c : Dev nD) : Above 2 (oAns c) := Above.owL (Above.zero _) (fun o => above_oP o c) _
theorem above_oQry (c : Dev nD) : Above 1 (oQry c) :=
  Above.owL ((above_oAns c).mono (by decide)) (fun o => above_oQ o c) _
theorem above_O₀ (c : Dev nD) : Above 0 (O₀ c) :=
  Above.owL ((above_oQry c).mono (by decide)) (fun o => above_oB o c) _

end Cert.KernelIdeal.Attn
-- ==== Proof.Comm.lean ====
module

public import proofs.«01_k».proof.Proof.Schedule

/-!
# The rules for signals, waits and transfers

Each effect between devices, with what it takes and what it gives.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- One of a family of facts. -/
theorem bigSep_pick {J : Type} [DecidableEq J] {S : Finset J} {i : J} (h : i ∈ S) {Φ : J → sProp 𝕄} : (bigSep S Φ : sProp 𝕄) ⊢ Φ i :=
  bigSep_elim h

abbrev 𝒱₀ : Variants := Variants.none

/-- Device `c` runs `k` to `Q`. -/
abbrev runs (c : Dev nD) (k : PR F) (Q : PUnit → sProp 𝕄) : sProp 𝕄 :=
  wp frame (wpE (defs₀ (F := F)) 𝒱₀ (c : Thread nD τ) none) Set.univ k Q

/-- Device `c` owes `O`, whatever it has waited for. -/
def owesE (c : Dev nD) (O : CellTallies nD τ sig Unit) : sProp 𝕄 := iprop(∃ W, owes (c : Thread nD τ) O W)

/-! ### What every device knows -/

variable (I : Ins F)

/-- The cells' invariants, that round 0 is reached everywhere, and the levels. -/
def recs (K : Dev nD × Fin 31 → ℕ) : sProp 𝕄 :=
  iprop((bigSep Finset.univ fun ck : Dev nD × Fin 31 => cellInv ER (Rd I) (K ck) (cell ck.1 ck.2))
    ∗ (bigSep Finset.univ fun ck : Dev nD × Fin 31 => reached ER (cell ck.1 ck.2) 0) ∗ levAts L lv)

instance recs_persistent (K : Dev nD × Fin 31 → ℕ) : BI.Persistent (recs (F := F) I K) := by unfold recs; infer_instance

variable (K : Dev nD × Fin 31 → ℕ)

theorem recs_inv (ck : Dev nD × Fin 31) : recs I K ⊢ cellInv ER (Rd I) (K ck) (cell ck.1 ck.2) := by
  unfold recs
  iintro ⟨H, -, -⟩
  iapply (bigSep_pick (Φ := fun ck : Dev nD × Fin 31 => cellInv ER (Rd I) (K ck) (cell ck.1 ck.2)) (Finset.mem_univ ck)); iexact H
theorem recs_reached (ck : Dev nD × Fin 31) : recs I K ⊢ reached ER (cell ck.1 ck.2) 0 := by
  unfold recs
  iintro ⟨-, H, -⟩
  iapply (bigSep_pick (Φ := fun ck : Dev nD × Fin 31 => (reached ER (cell ck.1 ck.2) 0 : sProp 𝕄)) (Finset.mem_univ ck)); iexact H
theorem recs_lev : recs I K ⊢ levAts L lv := by unfold recs; iintro ⟨-, -, H⟩; iexact H

theorem inv_bar (c : Dev nD) : recs I K ⊢ cellInv ER (Rd I) (K (c, kBar)) (barC c) := recs_inv I K (c, kBar)
theorem inv_qs (c : Dev nD) (o) : recs I K ⊢ cellInv ER (Rd I) (K (c, kQS o)) (qsC c o) := by
  have := recs_inv I K (c, kQS o); unfold cell at this; rwa [csem_qs] at this
theorem inv_qr (c : Dev nD) (o) : recs I K ⊢ cellInv ER (Rd I) (K (c, kQR o)) (qrC c o) := by
  have := recs_inv I K (c, kQR o); unfold cell at this; rwa [csem_qr] at this
theorem inv_ps (c : Dev nD) (o) : recs I K ⊢ cellInv ER (Rd I) (K (c, kPS o)) (psC c o) := by
  have := recs_inv I K (c, kPS o); unfold cell at this; rwa [csem_ps] at this
theorem inv_pr (c : Dev nD) (o) : recs I K ⊢ cellInv ER (Rd I) (K (c, kPR o)) (prC c o) := by
  have := recs_inv I K (c, kPR o); unfold cell at this; rwa [csem_pr] at this
theorem at_bar (c : Dev nD) : recs I K ⊢ reached ER (barC c) 0 := recs_reached I K (c, kBar)
theorem at_qs (c : Dev nD) (o) : recs I K ⊢ reached ER (qsC c o) 0 := by
  have := recs_reached I K (c, kQS o); unfold cell at this; rwa [csem_qs] at this
theorem at_qr (c : Dev nD) (o) : recs I K ⊢ reached ER (qrC c o) 0 := by
  have := recs_reached I K (c, kQR o); unfold cell at this; rwa [csem_qr] at this
theorem at_ps (c : Dev nD) (o) : recs I K ⊢ reached ER (psC c o) 0 := by
  have := recs_reached I K (c, kPS o); unfold cell at this; rwa [csem_ps] at this
theorem at_pr (c : Dev nD) (o) : recs I K ⊢ reached ER (prC c o) 0 := by
  have := recs_reached I K (c, kPR o); unfold cell at this; rwa [csem_pr] at this

/-! ### Signals and the barrier wait -/

theorem nx_ne : ∀ (o : Fin 7) (c : Dev nD), nx o c ≠ c := by decide

theorem devS_nx (o : Fin 7) (c : Dev nD) : (⟨devS o c, devS_lt o c⟩ : Dev nD) = nx o c := Fin.ext (devS_eq o c)

/-- Signalling a device: its barrier unit is paid with what it is to be given. -/
theorem run_signal (c : Dev nD) (o : Fin 7) (O : CellTallies nD τ sig Unit) (k : PR F) (Q : PUnit → sProp 𝕄) :
    iprop(recs I K ∗ owesE c (O + oB o c) ∗ dutyTok ER (barC (nx o c)) 0 c ∗ give c (nx o c))
      ⊢ iprop((owesE c O -∗ runs c k Q) -∗ runs c (opSignal ⟨devS o c, devS_lt o c⟩ k) Q) := by
  rw [devS_nx]
  unfold owesE opSignal
  iintro ⟨#HR, ⟨%W, HO⟩, Ht, Hg⟩ Hk
  iapply (Rounds.wp_signal 𝒱₀ ER (Rd I) (c : Thread nD τ) none (dst := (nx o c : Thread nD τ)) (κ := K (nx o c, kBar))
      (d := c) (by rw [duties_bar]; exact Finset.mem_erase.2 ⟨(nx_ne o c).symm, Finset.mem_univ _⟩)
      ((amount_bar I (nx o c) c).trans (by decide)) () O rfl) $$ [HO Ht Hg]
  · isplitr; · iapply (inv_bar I K (nx o c)); iexact HR
    isplitl [HO]; · iexact HO
    isplitl [Ht]; · iexact Ht
    isplitl [Hg]; · rw [payload_bar]; iexact Hg
    iapply (at_bar I K (nx o c)); iexact HR
  iintro HO
  iapply Hk; iexists W; iexact HO

/-- Waiting for the other seven: what each of them gives. -/
theorem run_barWait (c : Dev nD) (O : CellTallies nD τ sig Unit) (hO : Above 1 O) (k : PR F) (Q : PUnit → sProp 𝕄) :
    iprop(recs I K ∗ owesE c O ∗ cred (tallyAt (barC c) () 7) ∗ atPos ER (barC c) 0 ∅ 0)
      ⊢ iprop(((owesE c O ∗ atPos ER (barC c) 1 ∅ 0 ∗ bigSep (Finset.univ.erase c) fun d => give d c) -∗ runs c k Q)
          -∗ runs c (.op (.semWait barSem (7#32).toInt) fun _ => k) Q) := by
  unfold owesE
  iintro ⟨#HR, ⟨%W, HO⟩, Hc, Hat⟩ Hk
  iapply (Rounds.wp_wait_rest_token 𝒱₀ ER (Rd I) (c : Thread nD τ) none (κ := K (c, kBar))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (inv_bar I K c); iexact HR
    isplitl [Hc]; · iexact Hc
    isplitl [HO]; · iexact HO
    isplitr; · iapply (mayWait_of c (.reg barSem) O hO); iapply (recs_lev I K); iexact HR
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

/-! ### Waits on transfers -/

/-- A cell this device is through with. -/
def done (g : GSem nD τ sig) : sProp 𝕄 := iprop(∃ R, ⌜∀ r, R ≤ r → (Rd (F := F) I).duties g r = ∅⌝ ∗ atPos ER g R ∅ 0)

theorem done_one (g : GSem nD τ sig) : (atPos ER g 1 ∅ 0 : sProp 𝕄) ⊢ done I g := by
  unfold done; iintro H; iexists 1
  isplitr; · ipureintro; exact duties_later I g
  iexact H
theorem done_zero (g : GSem nD τ sig) (h : ∀ r, (Rd (F := F) I).duties g r = ∅) : (atPos ER g 0 ∅ 0 : sProp 𝕄) ⊢ done I g := by
  unfold done; iintro H; iexists 0
  isplitr; · ipureintro; exact fun r _ => h r
  iexact H

theorem done_close (ck : Dev nD × Fin 31) : iprop(recs I K ∗ done I (cell ck.1 ck.2)) ⊢ iprop(|={Set.univ}=> semVal (cell ck.1 ck.2) 0) := by
  unfold done
  iintro ⟨#HR, ⟨%R, %hR, Hat⟩⟩
  iapply (Rounds.cell_close ER (Rd I) (Set.mem_univ (K ck)) (fun h => h) (R := R) hR)
  isplitr; · iapply (recs_inv I K ck); iexact HR
  iexact Hat

/-- Waiting for a whole round of one of the device's own transfer cells. -/
theorem run_wait {sp sp' : Space} {s s' : Shape} {e e' : EltTy} {src : Memref sig .tc sp' s' e'} {dst : Memref sig .tc sp s e}
    {hsrc : src.view.WordExact} {hdst : dst.view.WordExact} (c : Dev nD) (sm : DmaSem sig) (κ N : ℕ) (hN : dst.view.dmaCredit = N)
    (hE : (Rd (F := F) I).expect ((c : Thread nD τ), .dma sm) 0 = N) {P : sProp 𝕄}
    (hP : bigSep ((Rd (F := F) I).duties ((c : Thread nD τ), .dma sm) 0 \ ∅) (fun d => (Rd (F := F) I).payload ((c : Thread nD τ), .dma sm) 0 d) = P)
    (O : CellTallies nD τ sig Unit) (k : PR F) (Q : PUnit → sProp 𝕄) :
    iprop(cellInv ER (Rd I) κ ((c : Thread nD τ), .dma sm) ∗ owesE c O ∗ cred (tallyAt ((c : Thread nD τ), .dma sm) () N)
        ∗ MayWait (c : Thread nD τ) (.dma sm) () O ∗ atPos ER ((c : Thread nD τ), .dma sm) 0 ∅ 0)
      ⊢ iprop(((owesE c O ∗ P ∗ done I ((c : Thread nD τ), .dma sm)) -∗ runs c k Q)
          -∗ runs c (.op (.waitDma2 sm src dst hsrc hdst) fun _ => k) Q) := by
  subst hN
  unfold owesE
  iintro ⟨#HI, ⟨%W, HO⟩, Hc, HM, Hat⟩ Hk
  iapply (Rounds.wp_wait_rest_token 𝒱₀ ER (Rd I) (c : Thread nD τ) none (κ := κ)
      (wpE_waitDma2_eq 𝒱₀ (c : Thread nD τ) none Set.univ) (Set.mem_univ _) () (O := O) (W := W) (R := 0) (m := 0) (T := ∅)
      (by rw [hE, Nat.zero_add])) $$ [Hc HO HM Hat]
  · isplitr; · iexact HI
    isplitl [Hc]; · iexact Hc
    isplitl [HO]; · iexact HO
    isplitl [HM]; · iexact HM
    iexact Hat
  iintro ⟨HO, Hat, -, Hpay⟩
  ihave Hp := (Entails.of_eq hP) $$ Hpay
  iapply Hk
  isplitl [HO]; · iexists _; iexact HO
  isplitl [Hp]; · iexact Hp
  iapply (done_one I); iexact Hat

/-- Waiting until the queries of step `o` have left. -/
theorem run_waitQS (c : Dev nD) (o : Fin 7) (h : o.val + 1 ≤ c.val) (O : CellTallies nD τ sig Unit) (hO : Above 0 O) (k : PR F) (Q : PUnit → sProp 𝕄) :
    iprop(recs I K ∗ owesE c O ∗ cred (tallyAt (qsC c o) () NQ) ∗ atPos ER (qsC c o) 0 ∅ 0)
      ⊢ iprop(((owesE c O ∗ qAt c c (shareO o) I.qAll ∗ done I (qsC c o)) -∗ runs c k Q)
          -∗ runs c (opWaitQ (.at c) (sQS o) k) Q) := by
  iintro ⟨#HR, HO, Hc, Hat⟩ Hk
  unfold opWaitQ
  iapply (run_wait I c (sQS o) (K (c, kQS o)) NQ (credit_q c) (expect_qs I c o h) (rest_qs I c o h) O k Q) $$ [HO Hc Hat]
  · isplitr; · iapply (inv_qs I K c o); iexact HR
    isplitl [HO]; · iexact HO
    isplitl [Hc]; · iexact Hc
    isplitr; · iapply (mayWait_of c (.dma (sQS o)) O (by rw [dec_qs]; exact hO)); iapply (recs_lev I K); iexact HR
    iexact Hat
  iexact Hk

/-- Waiting for the queries of device `s`. -/
theorem run_waitQR (c : Dev nD) (s : Fin 8) (h : c.val < s.val) (O : CellTallies nD τ sig Unit) (hO : Above 2 O) (k : PR F) (Q : PUnit → sProp 𝕄) :
    iprop(recs I K ∗ owesE c O ∗ cred (tallyAt (qrC c s) () NQ) ∗ atPos ER (qrC c s) 0 ∅ 0)
      ⊢ iprop(((owesE c O ∗ qAt c s fullShare I.qAll ∗ done I (qrC c s)) -∗ runs c k Q)
          -∗ runs c (opWaitQ (.at s) (sQR s) k) Q) := by
  iintro ⟨#HR, HO, Hc, Hat⟩ Hk
  unfold opWaitQ
  iapply (run_wait I c (sQR s) (K (c, kQR s)) NQ (credit_q s) (expect_qr I c s h) (rest_qr I c s h) O k Q) $$ [HO Hc Hat]
  · isplitr; · iapply (inv_qr I K c s); iexact HR
    isplitl [HO]; · iexact HO
    isplitl [Hc]; · iexact Hc
    isplitr; · iapply (mayWait_of c (.dma (sQR s)) O (by rw [dec_qr]; exact hO)); iapply (recs_lev I K); iexact HR
    iexact Hat
  iexact Hk

/-- Waiting until the answer of step `o` has left. -/
theorem run_waitPS (c : Dev nD) (o : Fin 7) (h : c.val + (o.val + 1) < 8) (O : CellTallies nD τ sig Unit) (hO : Above 0 O) (k : PR F) (Q : PUnit → sProp 𝕄) :
    iprop(recs I K ∗ owesE c O ∗ cred (tallyAt (psC c o) () NP) ∗ atPos ER (psC c o) 0 ∅ 0)
      ⊢ iprop(((owesE c O ∗ psAt c (nx o c) (I.psAll c) ∗ done I (psC c o)) -∗ runs c k Q)
          -∗ runs c (opWaitS (.at c) (.at (nx o c)) (sPS o) k) Q) := by
  iintro ⟨#HR, HO, Hc, Hat⟩ Hk
  unfold opWaitS
  iapply (run_wait I c (sPS o) (K (c, kPS o)) NP (credit_ps (nx o c)) (expect_ps I c o h) (rest_ps I c o h) O k Q) $$ [HO Hc Hat]
  · isplitr; · iapply (inv_ps I K c o); iexact HR
    isplitl [HO]; · iexact HO
    isplitl [Hc]; · iexact Hc
    isplitr; · iapply (mayWait_of c (.dma (sPS o)) O (by rw [dec_ps]; exact hO)); iapply (recs_lev I K); iexact HR
    iexact Hat
  iexact Hk

/-- Waiting for the answer of device `s`. -/
theorem run_waitPR (c : Dev nD) (s : Fin 8) (h : s.val < c.val) (k : PR F) (Q : PUnit → sProp 𝕄) :
    iprop(recs I K ∗ owesE c 0 ∗ cred (tallyAt (prC c s) () NP) ∗ atPos ER (prC c s) 0 ∅ 0)
      ⊢ iprop(((owesE c 0 ∗ prAt c s (I.prAll c) ∗ done I (prC c s)) -∗ runs c k Q)
          -∗ runs c (opWaitP (.at s) (sPR s) k) Q) := by
  iintro ⟨#HR, HO, Hc, Hat⟩ Hk
  unfold opWaitP
  iapply (run_wait I c (sPR s) (K (c, kPR s)) NP (credit_pr s) (expect_pr I c s h) (rest_pr I c s h) 0 k Q) $$ [HO Hc Hat]
  · isplitr; · iapply (inv_pr I K c s); iexact HR
    isplitl [HO]; · iexact HO
    isplitl [Hc]; · iexact Hc
    isplitr; · rw [MayWait_zero]; iempintro
    iexact Hat
  iexact Hk

/-! ### Sends -/

theorem dn_lt (o : Fin 7) (c : Dev nD) (h : o.val + 1 ≤ c.val) : (dn o c).val < c.val := by
  show c.val - (o.val + 1) < c.val; omega
theorem lt_nx (o : Fin 7) (c : Dev nD) (h : c.val + (o.val + 1) < 8) : c.val < (nx o c).val := by
  show c.val < (c.val + (o.val + 1)) % 8; omega

/-- Sending from one of the device's own blocks to a block of another device. -/
theorem run_send {sp sp' : Space} {s : Shape} {e : EltTy} (c c' : Dev nD) {src : Memref sig .tc sp s e} {dst : Memref sig .tc sp' s e}
    {hsc : dst.view.ref.isScScratch = false} (sS sR : DmaSem sig)
    {hsrc : src.view.WordExact} {hdst : dst.view.WordExact} {hsem : DmaTarget.Typed sp (.dma sR) (.remote (Dev.tc c' : Thread nD τ) dst (.dma sS) hsc)}
    (κ₁ κ₂ N : ℕ) (hN : dst.view.dmaCredit = N) (q : PosShare TreeShare) (fs : Buf (Elt F) (src.view.loc (c : Thread nD τ))) (fd : Buf (Elt F) (dst.view.loc (c' : Thread nD τ)))
    (hd₁ : c ∈ (Rd (F := F) I).duties ((c : Thread nD τ), .dma sS) 0) (hd₂ : c ∈ (Rd (F := F) I).duties ((c' : Thread nD τ), .dma sR) 0)
    (hk₁ : (Rd (F := F) I).amount ((c : Thread nD τ), .dma sS) 0 c = N) (hk₂ : (Rd (F := F) I).amount ((c' : Thread nD τ), .dma sR) 0 c = N)
    (hp₁ : (src.view.loc (c : Thread nD τ) ↦[src.view.set]{q} fs) ⊢ (Rd (F := F) I).payload ((c : Thread nD τ), .dma sS) 0 c)
    (hp₂ : (dst.view.loc (c' : Thread nD τ) ↦[dst.view.set]{fullShare} (dst.view.write (Elt F) fd (src.view.read (Elt F) fs) Finset.univ))
      ⊢ (Rd (F := F) I).payload ((c' : Thread nD τ), .dma sR) 0 c)
    (O : CellTallies nD τ sig Unit) (k : PR F) (Q : PUnit → sProp 𝕄) :
    iprop(cellInv ER (Rd I) κ₁ ((c : Thread nD τ), .dma sS) ∗ cellInv ER (Rd I) κ₂ ((c' : Thread nD τ), .dma sR)
        ∗ owesE c (O + tallyAt ((c' : Thread nD τ), .dma sR) () N)
        ∗ (src.view.loc (c : Thread nD τ) ↦[src.view.set]{q} fs) ∗ (dst.view.loc (c' : Thread nD τ) ↦[dst.view.set]{fullShare} fd)
        ∗ dutyTok ER ((c : Thread nD τ), .dma sS) 0 c ∗ dutyTok ER ((c' : Thread nD τ), .dma sR) 0 c
        ∗ reached ER ((c : Thread nD τ), .dma sS) 0 ∗ reached ER ((c' : Thread nD τ), .dma sR) 0)
      ⊢ iprop(((owesE c O ∗ cred (tallyAt ((c : Thread nD τ), .dma sS) () N)) -∗ runs c k Q)
          -∗ runs c (.op (.enqueueDma src (.remote (Dev.tc c') dst (.dma sS) hsc) (.dma sR) hsrc hdst hsem) fun _ => k) Q) := by
  unfold owesE
  iintro ⟨HI1, HI2, ⟨%W, HO⟩, Hs, Hd, Ht1, Ht2, Hr1, Hr2⟩ Hk
  iapply (Rounds.wp_send_pointsTo 𝒱₀ ER (Rd I) (c : Thread nD τ) none (κ₁ := κ₁) (κ₂ := κ₂)
      (r₁ := 0) (r₂ := 0) (d₁ := c) (d₂ := c) (fd := fd) (fs := fs) (q := q) hd₁ hd₂ () () N hN hk₁ hk₂ O rfl (W := W) hp₁ hp₂)
    $$ [HI1 HI2 HO Hs Hd Ht1 Ht2 Hr1 Hr2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  iexact Hc

/-- Sending the own queries `o + 1` devices back. -/
theorem run_sendQ (c : Dev nD) (o : Fin 7) (h : o.val + 1 ≤ c.val) (O : CellTallies nD τ sig Unit) (k : PR F) (Q : PUnit → sProp 𝕄) :
    iprop(recs I K ∗ owesE c (O + tallyAt (qrC (dn o c) c) () NQ) ∗ qAt c c (shareO o) I.qAll ∗ (∃ f, qAt (dn o c) c fullShare f)
        ∗ dutyTok ER (qsC c o) 0 c ∗ dutyTok ER (qrC (dn o c) c) 0 c)
      ⊢ iprop(((owesE c O ∗ cred (tallyAt (qsC c o) () NQ)) -∗ runs c k Q)
          -∗ runs c (opSendQ (.at c) (dn o c) (sQS o) (sQR c) k) Q) := by
  unfold opSendQ qAt
  iintro ⟨#HR, HO, Hs, ⟨%fd, Hd⟩, Ht1, Ht2⟩ Hk
  iapply (run_send I c (dn o c) (src := qWin (.at c)) (dst := qWin (.at c)) (sQS o) (sQR c) (K (c, kQS o)) (K (dn o c, kQR c)) NQ (credit_q c) (shareO o) I.qAll fd
      (by rw [duties_qs I c o h]; exact Finset.mem_singleton_self _)
      (by rw [duties_qr I (dn o c) c (dn_lt o c h)]; exact Finset.mem_singleton_self _)
      (amount_qs I c c o) (amount_qr I (dn o c) c c)
      (by rw [payload_qs]; exact BI.Entails.refl _)
      (by rw [payload_qr]; exact Entails.of_eq (pointsTo_congr fun i hi => q_landed c fd I.qAll i hi)) O k Q)
    $$ [HO Hs Hd Ht1 Ht2]
  · isplitr; · iapply (inv_qs I K c o); iexact HR
    isplitr; · iapply (inv_qr I K (dn o c) c); iexact HR
    isplitl [HO]; · iexact HO
    isplitl [Hs]; · iexact Hs
    isplitl [Hd]; · iexact Hd
    isplitl [Ht1]; · iexact Ht1
    isplitl [Ht2]; · iexact Ht2
    isplitr; · iapply (at_qs I K c o); iexact HR
    iapply (at_qr I K (dn o c) c); iexact HR
  iexact Hk

/-- Sending the answer to the device `o + 1` further on. -/
theorem run_sendP (c : Dev nD) (o : Fin 7) (h : c.val + (o.val + 1) < 8) (O : CellTallies nD τ sig Unit) (k : PR F) (Q : PUnit → sProp 𝕄) :
    iprop(recs I K ∗ owesE c (O + tallyAt (prC (nx o c) c) () NP) ∗ psAt c (nx o c) (I.psAll c) ∗ (∃ f, prAt (nx o c) c f)
        ∗ dutyTok ER (psC c o) 0 c ∗ dutyTok ER (prC (nx o c) c) 0 c)
      ⊢ iprop(((owesE c O ∗ cred (tallyAt (psC c o) () NP)) -∗ runs c k Q)
          -∗ runs c (opSendP (.at (nx o c)) (.at c) (nx o c) (sPS o) (sPR c) k) Q) := by
  unfold opSendP psAt prAt
  iintro ⟨#HR, HO, Hs, ⟨%fd, Hd⟩, Ht1, Ht2⟩ Hk
  iapply (run_send I c (nx o c) (src := psWin (.at (nx o c))) (dst := prWin (.at c)) (sPS o) (sPR c) (K (c, kPS o)) (K (nx o c, kPR c)) NP (credit_pr c) fullShare (I.psAll c) fd
      (by rw [duties_ps I c o h]; exact Finset.mem_singleton_self _)
      (by rw [duties_pr I (nx o c) c (lt_nx o c h)]; exact Finset.mem_singleton_self _)
      (amount_ps I c c o) (amount_pr I (nx o c) c c)
      (by rw [payload_ps]; exact BI.Entails.refl _)
      (by rw [payload_pr]; exact Entails.of_eq (pointsTo_congr fun i hi => ans_landed I (nx o c) c fd i hi)) O k Q)
    $$ [HO Hs Hd Ht1 Ht2]
  · isplitr; · iapply (inv_ps I K c o); iexact HR
    isplitr; · iapply (inv_pr I K (nx o c) c); iexact HR
    isplitl [HO]; · iexact HO
    isplitl [Hs]; · iexact Hs
    isplitl [Hd]; · iexact Hd
    isplitl [Ht1]; · iexact Ht1
    isplitl [Ht2]; · iexact Ht2
    isplitr; · iapply (at_ps I K c o); iexact HR
    iapply (at_pr I K (nx o c) c); iexact HR
  iexact Hk

end Cert.KernelIdeal.Attn
-- ==== Proof.Blocks.lean ====
module

public import proofs.«01_k».proof.Proof.Comm
public import Idealize.ShloMosaic.Lib.Pipeline.BigSepL

/-!
# The blocks of a device's program

The signals, the sends of the queries, the answers, the merges and the closing waits, each
from what it takes to what it gives.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Ins F) (K : Dev nD × Fin 31 → ℕ)

/-! ### Loads and stores of the blocks -/

theorem run_loadQ (c : Dev nD) (s : Fin 8) (b : Fin 2) (q : PosShare TreeShare) (f : QBuf F) (k : FVec F S1x1x128x256 .bf16 → PR F) (Q : PUnit → sProp 𝕄) :
    qAt c s q f ⊢ iprop((qAt c s q f -∗ runs c (k (qM.view.readAt (Elt F) (qbRect s b).toLoadRect f)) Q) -∗ runs c (opLoadQ (.at s b) k) Q) := by
  unfold opLoadQ qAt
  exact wp_load 𝒱₀ (c : Thread nD τ) none Set.univ (m := qM) (readOn_q s b)

theorem run_storeQ (c : Dev nD) (s : Fin 8) (b : Fin 2) (w : FVec F S1x1x128x256 .bf16) (f : QBuf F) (k : PR F) (Q : PUnit → sProp 𝕄) :
    qAt c s fullShare f ⊢ iprop((qAt c s fullShare ((qM.access (qbRect s b)).write (Elt F) f w Finset.univ) -∗ runs c k Q)
      -∗ runs c (opStoreQ (.at s b) w k) Q) := by
  unfold opStoreQ qAt
  iintro H Hk
  iapply (wp_store 𝒱₀ (c : Thread nD τ) none Set.univ (m := qM) (r := qbRect s b) (Mk := Finset.univ) (setOn_q s b _)) $$ H
  iexact Hk

theorem run_storeP (c : Dev nD) (s : Fin 8) (b : Fin 2) (h : Fin 4) (w : FVec F S1x1x1x128x66 .bf16) (f : PBuf F) (k : PR F) (Q : PUnit → sProp 𝕄) :
    psAt c s f ⊢ iprop((psAt c s ((psM.access (ptRect s b h)).write (Elt F) f w Finset.univ) -∗ runs c k Q)
      -∗ runs c (opStoreP (.at s b h) w k) Q) := by
  unfold opStoreP psAt
  iintro H Hk
  iapply (wp_load 𝒱₀ (c : Thread nD τ) none Set.univ (m := psM) (readOn_ps s b h)) $$ H; iintro H
  iapply (wp_store 𝒱₀ (c : Thread nD τ) none Set.univ (m := psM) (r := ptRect s b h) (Mk := Finset.univ) (setOn_ps s b h _)) $$ H; iintro H
  iapply Hk; iexact H

theorem run_loadP (c : Dev nD) (s : Fin 8) (b : Fin 2) (h : Fin 4) (f : PBuf F) (k : FVec F S1x1x1x128x66 .bf16 → PR F) (Q : PUnit → sProp 𝕄) :
    prAt c s f ⊢ iprop((prAt c s f -∗ runs c (k (prM.view.readAt (Elt F) (ptRect s b h).toLoadRect f)) Q) -∗ runs c (opLoadP (.at s b h) k) Q) := by
  unfold opLoadP prAt
  exact wp_load 𝒱₀ (c : Thread nD τ) none Set.univ (m := prM) (readOn_pr s b h)

/-! ### Loops -/

/-- Steps done one after the other, each paying its debt and turning its resources into its results. -/
theorem run_loop {A : Type} (c : Dev nD) (P : sProp 𝕄) [BI.Persistent P] (n : ℕ) (step : A → PR F → PR F)
    (ow : A → CellTallies nD τ sig Unit) (R S : A → sProp 𝕄)
    (hs : ∀ (a : A) (O : CellTallies nD τ sig Unit) (k : PR F) (Q : PUnit → sProp 𝕄), Above n O →
      iprop(P ∗ owesE c (O + ow a) ∗ R a) ⊢ iprop(((owesE c O ∗ S a) -∗ runs c k Q) -∗ runs c (step a k) Q))
    (how : ∀ a, Above n (ow a)) (O : CellTallies nD τ sig Unit) (hO : Above n O) (k : PR F) (Q : PUnit → sProp 𝕄) :
    ∀ l : List A, iprop(P ∗ owesE c (owL ow O l) ∗ bigSepL l R)
      ⊢ iprop(((owesE c O ∗ bigSepL l S) -∗ runs c k Q) -∗ runs c (l.foldr step k) Q)
  | [] => by
    rw [bigSepL_nil, bigSepL_nil]
    iintro ⟨-, HO, -⟩ Hk
    iapply Hk
    isplitl [HO]; · iexact HO
    iempintro
  | a :: l => by
    rw [bigSepL_cons', bigSepL_cons', show owL ow O (a :: l) = owL ow O l + ow a from rfl, List.foldr_cons]
    iintro ⟨#HP, HO, HR, Hl⟩ Hk
    iapply (hs a (owL ow O l) (l.foldr step k) Q (Above.owL hO how l)) $$ [HO HR]
    · isplitr; · iexact HP
      isplitl [HO]; · iexact HO
      iexact HR
    iintro ⟨HO, HS⟩
    iapply (run_loop c P n step ow R S hs how O hO k Q l) $$ [HO Hl]
    · isplitr; · iexact HP
      isplitl [HO]; · iexact HO
      iexact Hl
    iintro ⟨HO, HSl⟩
    iapply Hk
    isplitl [HO]; · iexact HO
    isplitl [HS]; · iexact HS
    iexact HSl

/-! ### The signals -/

theorem run_signals (c : Dev nD) (k : PR F) (Q : PUnit → sProp 𝕄) :
    iprop(recs I K ∗ owesE c (O₀ c) ∗ bigSepL steps fun o => iprop(dutyTok ER (barC (nx o c)) 0 c ∗ give c (nx o c)))
      ⊢ iprop(((owesE c (oQry c) ∗ bigSepL steps fun _ => iprop(emp)) -∗ runs c k Q)
        -∗ runs c (steps.foldr (fun o k => opSignal ⟨devS o c, devS_lt o c⟩ k) k) Q) :=
  run_loop c (recs I K) 0 (fun o k => opSignal ⟨devS o c, devS_lt o c⟩ k) (fun o => oB o c) _ _
    (fun o O k Q _ => by
      iintro ⟨#HR, HO, Ht, Hg⟩ Hk
      iapply (run_signal I K c o O k Q) $$ [HO Ht Hg]
      · isplitr; · iexact HR
        isplitl [HO]; · iexact HO
        isplitl [Ht]; · iexact Ht
        iexact Hg
      iintro HO
      iapply Hk
      isplitl [HO]; · iexact HO
      iempintro)
    (fun o => above_oB o c) (oQry c) ((above_oQry c).mono (by decide)) k Q steps

/-! ### The sends of the own queries -/

theorem sendQ_pos (o : Fin 7) (d : Dev nD) (h : o.val + 1 ≤ d.val) (k : PR F) :
    sendQ o d k = opSendQ (.at d) (dn o d) (sQS o) (sQR d) k := by
  have hc := (condQ_iff o d).2 h
  unfold sendQ
  rw [dif_pos hc, show (⟨devQ o d, devQ_lt o d hc⟩ : Dev nD) = dn o d from Fin.ext (devQ_eq o d hc)]
  unfold oMe4 oMe1
  rw [OffQ.of_eq, Off8.of_eq]

theorem sendQ_neg (o : Fin 7) (d : Dev nD) (h : ¬ o.val + 1 ≤ d.val) (k : PR F) : sendQ o d k = k := by
  unfold sendQ; rw [dif_neg fun hc => h ((condQ_iff o d).1 hc)]

/-- What the send of step `o` takes and gives. -/
def GQ (c : Dev nD) (o : Fin 7) : sProp 𝕄 :=
  if o.val + 1 ≤ c.val then iprop(∃ f, qAt (F := F) (dn o c) c fullShare f) else iprop(emp)
def TQ (c : Dev nD) (o : Fin 7) : sProp 𝕄 :=
  if o.val + 1 ≤ c.val then iprop(dutyTok ER (qsC c o) 0 c ∗ dutyTok ER (qrC (dn o c) c) 0 c) else iprop(emp)
def SQ (c : Dev nD) (o : Fin 7) : sProp 𝕄 :=
  if o.val + 1 ≤ c.val then cred (tallyAt (qsC c o) () NQ) else qAt c c (shareO o) I.qAll

theorem run_sendQs (c : Dev nD) (k : PR F) (Q : PUnit → sProp 𝕄) :
    iprop(recs I K ∗ owesE c (oQry c) ∗ bigSepL steps fun o => iprop(qAt c c (shareO o) I.qAll ∗ GQ c o ∗ TQ c o))
      ⊢ iprop(((owesE c (oAns c) ∗ bigSepL steps fun o => SQ I c o) -∗ runs c k Q)
        -∗ runs c (steps.foldr (fun o k => sendQ o c k) k) Q) :=
  run_loop c (recs I K) 1 (fun o k => sendQ o c k) (fun o => oQ o c) _ _
    (fun o O k Q _ => by
      unfold oQ GQ TQ SQ
      by_cases h : o.val + 1 ≤ c.val
      · rw [if_pos h, if_pos h, if_pos h, if_pos h, sendQ_pos o c h]
        iintro ⟨#HR, HO, Hq, Hd, Ht1, Ht2⟩ Hk
        iapply (run_sendQ I K c o h O k Q) $$ [HO Hq Hd Ht1 Ht2]
        · isplitr; · iexact HR
          isplitl [HO]; · iexact HO
          isplitl [Hq]; · iexact Hq
          isplitl [Hd]; · iexact Hd
          isplitl [Ht1]; · iexact Ht1
          iexact Ht2
        iexact Hk
      · rw [if_neg h, if_neg h, if_neg h, if_neg h, sendQ_neg o c h, add_zero]
        iintro ⟨#HR, HO, Hq, -, -⟩ Hk
        iapply Hk
        isplitl [HO]; · iexact HO
        iexact Hq)
    (fun o => above_oQ o c) (oAns c) ((above_oAns c).mono (by decide)) k Q steps

/-! ### The answers -/

/-- The tiles of an answer in the order in which they are written. -/
def tiles : List (Fin 2 × Fin 4) := [(0, 0), (0, 1), (0, 2), (0, 3), (1, 0), (1, 1), (1, 2), (1, 3)]

/-- Block `s` of the answers to be sent, of which only the tiles in `l` need not be right yet. -/
def tilesAt (c : Dev nD) (s : Fin 8) (l : List (Fin 2 × Fin 4)) : sProp 𝕄 :=
  iprop(∃ f, ⌜∀ i ∈ psSet s, (i 1, i 2) ∉ l → f i = I.psAll c i⌝ ∗ psAt c s f)

theorem run_tiles (c : Dev nD) (s : Fin 8) (k : PR F) (Q : PUnit → sProp 𝕄) : ∀ l : List (Fin 2 × Fin 4),
    tilesAt I c s l ⊢ iprop((tilesAt I c s [] -∗ runs c k Q)
      -∗ runs c (l.foldr (fun e k => opStoreP (.at s e.1 e.2) (I.ans c s e.1 e.2) k) k) Q)
  | [] => by iintro H Hk; iapply Hk; iexact H
  | e :: l => by
    rw [List.foldr_cons]
    unfold tilesAt
    iintro ⟨%f, %hf, H⟩ Hk
    iapply (run_storeP c s e.1 e.2 (I.ans c s e.1 e.2) f) $$ H
    iintro H
    iapply (run_tiles c s k Q l) $$ [H]
    · unfold tilesAt
      iexists _
      isplitr
      swap
      · iexact H
      ipureintro
      intro i hi hl
      refine write_ps I c s e.1 e.2 f i hi fun hne => hf i hi fun hmem => ?_
      rcases List.mem_cons.1 hmem with heq | hmem
      · exact hne ⟨congrArg Prod.fst heq, congrArg Prod.snd heq⟩
      · exact hl hmem
    iexact Hk

theorem mem_tiles : ∀ e : Fin 2 × Fin 4, e ∈ tiles := by decide

theorem tilesAt_any (c : Dev nD) (s : Fin 8) : iprop(∃ f, psAt c s f) ⊢ tilesAt I c s tiles := by
  unfold tilesAt
  iintro ⟨%f, H⟩
  iexists f
  isplitr
  · ipureintro; exact fun i _ h => absurd (mem_tiles _) h
  iexact H
theorem tilesAt_done (c : Dev nD) (s : Fin 8) : tilesAt I c s [] ⊢ psAt c s (I.psAll c) := by
  unfold tilesAt
  iintro ⟨%f, %hf, H⟩
  have he : psAt c s f = psAt c s (I.psAll c) := pointsTo_congr fun i hi => hf i hi List.not_mem_nil
  rw [← he]
  iexact H

theorem up_nx (o : Fin 7) (d : Dev nD) (h : condP o d = 1#1) : up o d h = nx o d :=
  Fin.ext (Nat.mod_eq_of_lt ((condP_iff o d).1 h)).symm

/-- An answer in closed form. -/
theorem answer_pos (o : Fin 7) (d : Dev nD) (h : d.val + (o.val + 1) < 8) (kf vf : FVec F S2x128x256 .bf16) (k : PR F) :
    answer o d kf vf k = opWaitQ (.at (nx o d)) (sQR (nx o d)) (opLoadQ (.at (nx o d) 0) fun q0 => opLoadQ (.at (nx o d) 1) fun q1 =>
      tiles.foldr (fun e k => opStoreP (.at (nx o d) e.1 e.2) (msg e.1 e.2 ((![q0, q1] : Fin 2 → FVec F S1x1x128x256 .bf16) e.1) kf vf) k)
        (opSendP (.at (nx o d)) (.at d) (nx o d) (sPS o) (sPR d) k)) := by
  have hc := (condP_iff o d).2 h
  unfold answer
  rw [dif_pos hc, show (⟨devP o d, devP_lt o d hc⟩ : Dev nD) = nx o d from
    Fin.ext ((devP_eq o d hc).trans (Nat.mod_eq_of_lt h).symm)]
  unfold storeTiles oN4 oN1 oNB oNT oN5 oMe5 oMe1
  simp only [OffQ.of_eq, OffQB.of_eq, OffP.of_eq, OffPT.of_eq, Off8.of_eq, up_nx]
  rfl

theorem answer_neg (o : Fin 7) (d : Dev nD) (h : ¬ d.val + (o.val + 1) < 8) (kf vf : FVec F S2x128x256 .bf16) (k : PR F) :
    answer o d kf vf k = k := by
  unfold answer; rw [dif_neg fun hc => h ((condP_iff o d).1 hc)]

/-- What the answer of step `o` takes and gives. -/
def GA (c : Dev nD) (o : Fin 7) : sProp 𝕄 :=
  if c.val + (o.val + 1) < 8 then iprop(∃ f, prAt (F := F) (nx o c) c f) else iprop(emp)
def TA (c : Dev nD) (o : Fin 7) : sProp 𝕄 :=
  if c.val + (o.val + 1) < 8 then
    iprop(cred (tallyAt (qrC c (nx o c)) () NQ) ∗ atPos ER (qrC c (nx o c)) 0 ∅ 0 ∗ (∃ f, psAt (F := F) c (nx o c) f)
      ∗ dutyTok ER (psC c o) 0 c ∗ dutyTok ER (prC (nx o c) c) 0 c)
  else iprop(emp)
def SA (c : Dev nD) (o : Fin 7) : sProp 𝕄 :=
  if c.val + (o.val + 1) < 8 then iprop(qAt c (nx o c) fullShare I.qAll ∗ done I (qrC c (nx o c))) else iprop(emp)
/-- The credit of an answer sent. -/
def RWP (c : Dev nD) (o : Fin 7) : sProp 𝕄 :=
  if c.val + (o.val + 1) < 8 then cred (tallyAt (psC c o) () NP) else iprop(emp)

theorem run_answer (c : Dev nD) (o : Fin 7) (h : c.val + (o.val + 1) < 8) (O : CellTallies nD τ sig Unit) (hO : Above 2 O) (k : PR F) (Q : PUnit → sProp 𝕄) :
    iprop(recs I K ∗ owesE c (O + tallyAt (prC (nx o c) c) () NP) ∗ (∃ f, prAt (nx o c) c f)
        ∗ cred (tallyAt (qrC c (nx o c)) () NQ) ∗ atPos ER (qrC c (nx o c)) 0 ∅ 0
        ∗ (∃ f, psAt c (nx o c) f) ∗ dutyTok ER (psC c o) 0 c ∗ dutyTok ER (prC (nx o c) c) 0 c)
      ⊢ iprop(((owesE c O ∗ (qAt c (nx o c) fullShare I.qAll ∗ done I (qrC c (nx o c))) ∗ cred (tallyAt (psC c o) () NP)) -∗ runs c k Q)
        -∗ runs c (answer o c (kvFlat (I.k c)) (kvFlat (I.v c)) k) Q) := by
  rw [answer_pos o c h]
  iintro ⟨#HR, HO, Hpr, Hc, Hat, Hps, Ht1, Ht2⟩ Hk
  iapply (run_waitQR I K c (nx o c) (lt_nx o c h) (O + tallyAt (prC (nx o c) c) () NP)
    (hO.add (Above.tally _ _ _ (by rw [dec_pr]; exact Nat.lt_succ_self 2))) _ Q) $$ [HO Hc Hat]
  · isplitr; · iexact HR
    isplitl [HO]; · iexact HO
    isplitl [Hc]; · iexact Hc
    iexact Hat
  iintro ⟨HO, Hq, Hdone⟩
  iapply (run_loadQ c (nx o c) 0 fullShare I.qAll) $$ Hq; iintro Hq
  iapply (run_loadQ c (nx o c) 1 fullShare I.qAll) $$ Hq; iintro Hq
  rw [read_q I (nx o c) 0 I.qAll (fun _ _ => rfl), read_q I (nx o c) 1 I.qAll (fun _ _ => rfl)]
  rw [show (fun (e : Fin 2 × Fin 4) (k : PR F) => opStoreP (.at (nx o c) e.1 e.2)
        (msg e.1 e.2 ((![I.q (nx o c) 0, I.q (nx o c) 1] : Fin 2 → FVec F S1x1x128x256 .bf16) e.1) (kvFlat (I.k c)) (kvFlat (I.v c))) k)
      = fun e k => opStoreP (.at (nx o c) e.1 e.2) (I.ans c (nx o c) e.1 e.2) k from by
    funext e k
    unfold Ins.ans
    rw [show ((![I.q (nx o c) 0, I.q (nx o c) 1] : Fin 2 → FVec F S1x1x128x256 .bf16) e.1) = I.q (nx o c) e.1 from by
      obtain ⟨b, h⟩ := e; fin_cases b <;> rfl]]
  iapply (run_tiles I c (nx o c) _ Q tiles) $$ [Hps]
  · iapply (tilesAt_any I c (nx o c)); iexact Hps
  iintro Hps
  ihave Hps' := (tilesAt_done I c (nx o c)) $$ Hps
  iapply (run_sendP I K c o h O k Q) $$ [HO Hps' Hpr Ht1 Ht2]
  · isplitr; · iexact HR
    isplitl [HO]; · iexact HO
    isplitl [Hps']; · iexact Hps'
    isplitl [Hpr]; · iexact Hpr
    isplitl [Ht1]; · iexact Ht1
    iexact Ht2
  iintro ⟨HO, Hc⟩
  iapply Hk
  isplitl [HO]; · iexact HO
  isplitl [Hq Hdone]
  · isplitl [Hq]; · iexact Hq
    iexact Hdone
  iexact Hc

theorem run_answers (c : Dev nD) (k : PR F) (Q : PUnit → sProp 𝕄) :
    iprop(recs I K ∗ owesE c (oAns c) ∗ bigSepL steps fun o => iprop(GA c o ∗ TA c o))
      ⊢ iprop(((owesE c 0 ∗ bigSepL steps fun o => iprop(SA I c o ∗ RWP c o)) -∗ runs c k Q)
        -∗ runs c (steps.foldr (fun o k => answer o c (kvFlat (I.k c)) (kvFlat (I.v c)) k) k) Q) :=
  run_loop c (recs I K) 2 (fun o k => answer o c (kvFlat (I.k c)) (kvFlat (I.v c)) k) (fun o => oP o c) _ _
    (fun o O k Q hO => by
      unfold oP GA TA SA RWP
      by_cases h : c.val + (o.val + 1) < 8
      · rw [if_pos h, if_pos h, if_pos h, if_pos h, if_pos h]
        exact run_answer I K c o h O hO k Q
      · rw [if_neg h, if_neg h, if_neg h, if_neg h, if_neg h, answer_neg o c h, add_zero]
        iintro ⟨#HR, HO, -, -⟩ Hk
        iapply Hk
        isplitl [HO]; · iexact HO
        isplitl <;> iempintro)
    (fun o => above_oP o c) 0 (Above.zero _) k Q steps

/-! ### The closing waits -/

theorem waitQ_pos (o : Fin 7) (d : Dev nD) (h : o.val + 1 ≤ d.val) (k : PR F) : waitQ o d k = opWaitQ (.at d) (sQS o) k := by
  unfold waitQ oMe4
  rw [if_pos ((condQ_iff o d).2 h), OffQ.of_eq]
theorem waitQ_neg (o : Fin 7) (d : Dev nD) (h : ¬ o.val + 1 ≤ d.val) (k : PR F) : waitQ o d k = k := by
  unfold waitQ; rw [if_neg fun hc => h ((condQ_iff o d).1 hc)]
theorem waitP_pos (o : Fin 7) (d : Dev nD) (h : d.val + (o.val + 1) < 8) (k : PR F) :
    waitP o d k = opWaitS (.at d) (.at (nx o d)) (sPS o) k := by
  have hc := (condP_iff o d).2 h
  unfold waitP oMe5 oW5
  rw [dif_pos hc, OffP.of_eq, OffP.of_eq, up_nx]
theorem waitP_neg (o : Fin 7) (d : Dev nD) (h : ¬ d.val + (o.val + 1) < 8) (k : PR F) : waitP o d k = k := by
  unfold waitP; rw [dif_neg fun hc => h ((condP_iff o d).1 hc)]

/-- What the wait for an answer sent gives. -/
def SWP (c : Dev nD) (o : Fin 7) : sProp 𝕄 :=
  if c.val + (o.val + 1) < 8 then psAt c (nx o c) (I.psAll c) else iprop(emp)

theorem run_waitQ (c : Dev nD) (o : Fin 7) (O : CellTallies nD τ sig Unit) (hO : Above 0 O) (k : PR F) (Q : PUnit → sProp 𝕄) :
    iprop(recs I K ∗ owesE c O ∗ SQ I c o ∗ atPos ER (qsC c o) 0 ∅ 0)
      ⊢ iprop(((owesE c O ∗ qAt c c (shareO o) I.qAll ∗ done I (qsC c o)) -∗ runs c k Q) -∗ runs c (waitQ o c k) Q) := by
  unfold SQ
  by_cases h : o.val + 1 ≤ c.val
  · rw [if_pos h, waitQ_pos o c h]
    exact run_waitQS I K c o h O hO k Q
  · rw [if_neg h, waitQ_neg o c h]
    iintro ⟨-, HO, Hq, Hat⟩ Hk
    iapply Hk
    isplitl [HO]; · iexact HO
    isplitl [Hq]; · iexact Hq
    iapply (done_zero I (qsC c o) (no_qs I c o h)); iexact Hat

theorem run_waitP (c : Dev nD) (o : Fin 7) (O : CellTallies nD τ sig Unit) (hO : Above 0 O) (k : PR F) (Q : PUnit → sProp 𝕄) :
    iprop(recs I K ∗ owesE c O ∗ RWP c o ∗ atPos ER (psC c o) 0 ∅ 0)
      ⊢ iprop(((owesE c O ∗ SWP I c o ∗ done I (psC c o)) -∗ runs c k Q) -∗ runs c (waitP o c k) Q) := by
  unfold RWP SWP
  by_cases h : c.val + (o.val + 1) < 8
  · rw [if_pos h, if_pos h, waitP_pos o c h]
    exact run_waitPS I K c o h O hO k Q
  · rw [if_neg h, if_neg h, waitP_neg o c h]
    iintro ⟨-, HO, Hq, Hat⟩ Hk
    iapply Hk
    isplitl [HO]; · iexact HO
    isplitl [Hq]; · iexact Hq
    iapply (done_zero I (psC c o) (no_ps I c o h)); iexact Hat

theorem owL_zero {A : Type} : ∀ l : List A, owL (fun _ => 0) 0 l = 0
  | [] => rfl
  | _ :: l => (add_zero _).trans (owL_zero l)

theorem run_waits (c : Dev nD) (k : PR F) (Q : PUnit → sProp 𝕄) :
    iprop(recs I K ∗ owesE c 0 ∗ bigSepL steps fun o => iprop((SQ I c o ∗ atPos ER (qsC c o) 0 ∅ 0) ∗ (RWP c o ∗ atPos ER (psC c o) 0 ∅ 0)))
      ⊢ iprop(((owesE c 0 ∗ bigSepL steps fun o => iprop((qAt c c (shareO o) I.qAll ∗ done I (qsC c o)) ∗ (SWP I c o ∗ done I (psC c o)))) -∗ runs c k Q)
        -∗ runs c (steps.foldr (fun o k => waitQ o c (waitP o c k)) k) Q) := by
  have := run_loop c (recs I K) 0 (fun o k => waitQ o c (waitP o c k)) (fun _ => 0)
    (fun o => iprop((SQ I c o ∗ atPos ER (qsC c o) 0 ∅ 0) ∗ (RWP c o ∗ atPos ER (psC c o) 0 ∅ 0)))
    (fun o => iprop((qAt c c (shareO o) I.qAll ∗ done I (qsC c o)) ∗ (SWP I c o ∗ done I (psC c o))))
    (fun o O k Q hO => by
      rw [add_zero]
      iintro ⟨#HR, HO, ⟨Hq, Hat⟩, Hp, Hat'⟩ Hk
      iapply (run_waitQ I K c o O hO (waitP o c k) Q) $$ [HO Hq Hat]
      · isplitr; · iexact HR
        isplitl [HO]; · iexact HO
        isplitl [Hq]; · iexact Hq
        iexact Hat
      iintro ⟨HO, Hq⟩
      iapply (run_waitP I K c o O hO k Q) $$ [HO Hp Hat']
      · isplitr; · iexact HR
        isplitl [HO]; · iexact HO
        isplitl [Hp]; · iexact Hp
        iexact Hat'
      iintro ⟨HO, Hp⟩
      iapply Hk
      isplitl [HO]; · iexact HO
      isplitl [Hq]; · iexact Hq
      iexact Hp)
    (fun _ => Above.zero _) 0 (Above.zero _) k Q steps
  rwa [owL_zero] at this

/-! ### The merges -/

/-- The state of all batches and heads after the answer of device `s`. -/
def Ins.mergeOne (d : Dev nD) (a : Fin 2 → Fin 4 → Acc F) (s : Fin 8) : Fin 2 → Fin 4 → Acc F :=
  fun b h => merge (valid s d) (I.ans s d b h) (a b h)

/-- A message that is not valid is not looked at. -/
theorem merge_invalid (s : Fin 8) (d : Dev nD) (h : ¬ s.val < d.val) (g g' : FVec F S1x1x1x128x66 .bf16) (a : Acc F) :
    merge (valid s d) g a = merge (valid s d) g' a := by
  have hv : ¬ valid s d = (1 : BitVec 1) := fun hv => h ((valid_iff s d).1 hv)
  unfold merge msgCtx msgMax msgSum
  simp only [Scalar.select, hv, if_false]

def PRin (d : Dev nD) (s : Fin 8) : sProp 𝕄 :=
  iprop(atPos ER (prC d s) 0 ∅ 0 ∗ if s.val < d.val then cred (tallyAt (prC d s) () NP) else iprop(∃ f, prAt (F := F) d s f))
def PRout (d : Dev nD) (s : Fin 8) : sProp 𝕄 := iprop(done I (prC d s) ∗ ∃ f, prAt d s f)

theorem run_recv (d : Dev nD) (s : Fin 8) (k : PR F) (Q : PUnit → sProp 𝕄) :
    iprop(recs I K ∗ owesE d 0 ∗ PRin d s)
      ⊢ iprop(((owesE d 0 ∗ done I (prC d s) ∗ ∃ f, ⌜s.val < d.val → f = I.prAll d⌝ ∗ prAt d s f) -∗ runs d k Q) -∗ runs d (recv s d k) Q) := by
  unfold PRin recv
  by_cases h : s.val < d.val
  · rw [if_pos h, if_pos ((condM_iff s d).2 h)]
    iintro ⟨#HR, HO, Hat, Hc⟩ Hk
    iapply (run_waitPR I K d s h k Q) $$ [HO Hat Hc]
    · isplitr; · iexact HR
      isplitl [HO]; · iexact HO
      isplitl [Hc]; · iexact Hc
      iexact Hat
    iintro ⟨HO, Hp, Hd⟩
    iapply Hk
    isplitl [HO]; · iexact HO
    isplitl [Hd]; · iexact Hd
    iexists (I.prAll d)
    isplitr; · ipureintro; exact fun _ => rfl
    iexact Hp
  · rw [if_neg h, if_neg fun hc => h ((condM_iff s d).1 hc)]
    iintro ⟨-, HO, Hat, ⟨%f, Hp⟩⟩ Hk
    iapply Hk
    isplitl [HO]; · iexact HO
    isplitl [Hat]; · iapply (done_zero I (prC d s) (no_pr I d s h)); iexact Hat
    iexists f
    isplitr; · ipureintro; exact fun hc => absurd hc h
    iexact Hp

theorem run_loadTiles (d : Dev nD) (s : Fin 8) (f : PBuf F) (k : (Fin 2 → Fin 4 → FVec F S1x1x1x128x66 .bf16) → PR F) (Q : PUnit → sProp 𝕄) :
    prAt d s f ⊢ iprop((prAt d s f -∗ runs d (k fun b h => prM.view.readAt (Elt F) (ptRect s b h).toLoadRect f) Q) -∗ runs d (loadTiles s k) Q) := by
  unfold loadTiles
  iintro H Hk
  iapply (run_loadP d s 0 0 f) $$ H; iintro H
  iapply (run_loadP d s 0 1 f) $$ H; iintro H
  iapply (run_loadP d s 0 2 f) $$ H; iintro H
  iapply (run_loadP d s 0 3 f) $$ H; iintro H
  iapply (run_loadP d s 1 0 f) $$ H; iintro H
  iapply (run_loadP d s 1 1 f) $$ H; iintro H
  iapply (run_loadP d s 1 2 f) $$ H; iintro H
  iapply (run_loadP d s 1 3 f) $$ H; iintro H
  generalize hR : (fun (b : Fin 2) (h : Fin 4) => prM.view.readAt (Elt F) (ptRect s b h).toLoadRect f) = R
  simp only [show ∀ b h, prM.view.readAt (Elt F) (ptRect s b h).toLoadRect f = R b h from fun b h => congrFun (congrFun hR b) h]
  rw [show (![![R 0 0, R 0 1, R 0 2, R 0 3], ![R 1 0, R 1 1, R 1 2, R 1 3]] : Fin 2 → Fin 4 → FVec F S1x1x1x128x66 .bf16) = R from by
    funext b h; fin_cases b <;> fin_cases h <;> rfl]
  iapply Hk; iexact H

theorem run_mergeIn (d : Dev nD) (s : Fin 8) (a : Fin 2 → Fin 4 → Acc F) (k : (Fin 2 → Fin 4 → Acc F) → PR F) (Q : PUnit → sProp 𝕄) :
    iprop(recs I K ∗ owesE d 0 ∗ PRin d s)
      ⊢ iprop(((owesE d 0 ∗ PRout I d s) -∗ runs d (k (I.mergeOne d a s)) Q) -∗ runs d (mergeIn s d a k) Q) := by
  unfold mergeIn
  iintro H Hk
  iapply (run_recv I K d s _ Q) $$ H
  iintro ⟨HO, Hd, ⟨%f, %hf, Hp⟩⟩
  iapply (run_loadTiles d s f) $$ Hp; iintro Hp
  rw [show (fun (b : Fin 2) (h : Fin 4) => merge (valid s d) (prM.view.readAt (Elt F) (ptRect s b h).toLoadRect f) (a b h)) = I.mergeOne d a s from by
    funext b h
    unfold Ins.mergeOne
    by_cases hs : s.val < d.val
    · rw [hf hs, read_pr I d s b h _ (fun _ _ => rfl)]
    · exact merge_invalid s d hs _ _ _]
  iapply Hk
  isplitl [HO]; · iexact HO
  unfold PRout
  isplitl [Hd]; · iexact Hd
  iexists f; iexact Hp

/-- The merges of the devices in a list, one after the other. -/
def mergesL (d : Dev nD) (k : (Fin 2 → Fin 4 → Acc F) → PR F) : List (Fin 8) → (Fin 2 → Fin 4 → Acc F) → PR F
  | [], a => k a
  | s :: l, a => mergeIn s d a (mergesL d k l)

theorem run_merges (d : Dev nD) (k : (Fin 2 → Fin 4 → Acc F) → PR F) (Q : PUnit → sProp 𝕄) : ∀ (l : List (Fin 8)) (a : Fin 2 → Fin 4 → Acc F),
    iprop(recs I K ∗ owesE d 0 ∗ bigSepL l fun s => PRin d s)
      ⊢ iprop(((owesE d 0 ∗ bigSepL l fun s => PRout I d s) -∗ runs d (k (l.foldl (I.mergeOne d) a)) Q) -∗ runs d (mergesL d k l a) Q)
  | [], a => by
    rw [bigSepL_nil, bigSepL_nil]
    iintro ⟨-, HO, -⟩ Hk
    iapply Hk
    isplitl [HO]; · iexact HO
    iempintro
  | s :: l, a => by
    rw [bigSepL_cons', bigSepL_cons', List.foldl_cons]
    unfold mergesL
    iintro ⟨#HR, HO, Hs, Hl⟩ Hk
    iapply (run_mergeIn I K d s a (mergesL d k l) Q) $$ [HO Hs]
    · isplitr; · iexact HR
      isplitl [HO]; · iexact HO
      iexact Hs
    iintro ⟨HO, Hs⟩
    iapply (run_merges d k Q l (I.mergeOne d a s)) $$ [HO Hl]
    · isplitr; · iexact HR
      isplitl [HO]; · iexact HO
      iexact Hl
    iintro ⟨HO, Hl⟩
    iapply Hk
    isplitl [HO]; · iexact HO
    isplitl [Hs]; · iexact Hs
    iexact Hl

end Cert.KernelIdeal.Attn
-- ==== Proof.RunBody.lean ====
module

public import proofs.«01_k».proof.Proof.Blocks

/-!
# One device's program

The blocks put together: from the start of a device's program to its end, with its output.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Ins F) (K : Dev nD × Fin 31 → ℕ)

/-! ### The output -/

/-- Index `(0, r, t)` of one batch of the output. -/
abbrev ixO (r : Fin 128) (t : Fin 512) : S1x128x512.Idx := fun | 0 => (0 : Fin 1) | 1 => r | 2 => t

theorem ixO_eta (x : S1x128x512.Idx) : ixO (x 1) (x 2) = x := by
  funext a; fin_cases a
  · exact Subsingleton.elim (α := Fin 1) _ _
  · rfl
  · rfl

theorem two_cases : ∀ b : Fin 2, b = 0 ∨ b = 1 := by decide

/-- A device's output from the states of all batches and heads. -/
def outAll (wo : FVec F S256x512 .f32) (a : Fin 2 → Fin 4 → Acc F) : FVec F S2x128x512 .f32 :=
  fun i => outBlock wo (a (i 0)) (ixO (i 1) (i 2))

abbrev obRect (b : Fin 2) : Rect S2x128x512 := Rect.unit (s := S2x128x512) ![b.val, 0, 0] S1x128x512.size (inb_out b)

theorem mem_obRect (b : Fin 2) (i : S2x128x512.Idx) : i ∈ (obRect b).set ↔ i 0 = b := by
  rw [Rect.mem_set_unit]
  constructor
  · intro h
    have := h 0
    refine Fin.ext ?_
    have h1 : b.val ≤ (i 0).val := this.1
    have h2 : (i 0).val < b.val + 1 := this.2
    omega
  · rintro rfl a
    fin_cases a
    · exact ⟨le_rfl, Nat.lt_succ_self _⟩
    · exact ⟨Nat.zero_le _, (Nat.zero_add _).symm ▸ (i 1).isLt⟩
    · exact ⟨Nat.zero_le _, (Nat.zero_add _).symm ▸ (i 2).isLt⟩

theorem ob_emb (b : Fin 2) (x : S1x128x512.Idx) :
    (obRect b).emb x 0 = b ∧ (obRect b).emb x 1 = x 1 ∧ (obRect b).emb x 2 = x 2 := by
  have h0 : (x 0).val = 0 := Nat.lt_one_iff.1 (x 0).isLt
  refine ⟨Fin.ext ?_, Fin.ext ?_, Fin.ext ?_⟩
  · show b.val + 1 * (x 0).val = b.val; omega
  · show 0 + 1 * (x 1).val = (x 1).val; omega
  · show 0 + 1 * (x 2).val = (x 2).val; omega

theorem write_ob (b : Fin 2) (f : (outM.access (obRect b)).ty.Contents (Elt F)) (w : (obRect b).shape.Idx → Elt F .f32) (x : (obRect b).shape.Idx) :
    (outM.access (obRect b)).write (Elt F) f w Finset.univ ((outM.access (obRect b)).emb x) = w x := by
  have h := View.write_emb_of_mem (v := outM.access (obRect b)) (Val := Elt F) f w (M := Finset.univ) (x := x) (Finset.mem_univ x)
  exact h

theorem write_out (wo : FVec F S256x512 .f32) (a : Fin 2 → Fin 4 → Acc F) (b : Fin 2) (f : FVec F S2x128x512 .f32) (i : S2x128x512.Idx)
    (h : i 0 ≠ b → f i = outAll wo a i) :
    (outM.access (obRect b)).write (Elt F) f (outBlock wo (a b)) Finset.univ i = outAll wo a i := by
  by_cases hb : i 0 = b
  · have hm : i ∈ (obRect b).set := (mem_obRect b i).2 hb
    obtain ⟨x, rfl⟩ : ∃ x, (obRect b).emb x = i := by
      have := (Rect.map_emb_univ (obRect b)) ▸ hm
      obtain ⟨x, -, e⟩ := Finset.mem_map.1 this
      exact ⟨x, e⟩
    obtain ⟨e0, e1, e2⟩ := ob_emb b x
    have hx : outAll wo a ((obRect b).emb x) = outBlock wo (a b) x := by
      unfold outAll
      rw [e0, e1, e2, ixO_eta]
    have he : (obRect b).emb x = (outM.access (obRect b)).emb x := rfl
    rw [hx, he]
    exact write_ob b f (outBlock wo (a b)) x
  · rw [View.write_of_not_mem]
    · exact h hb
    · intro hm
      rw [View.setOn_univ, View.set_slice] at hm
      have hm' : i ∈ (obRect b).set := (by obtain ⟨x, hx, rfl⟩ := Finset.mem_map.1 hm; exact hx)
      exact hb ((mem_obRect b i).1 hm')

theorem write_outs (wo : FVec F S256x512 .f32) (a : Fin 2 → Fin 4 → Acc F) (f : FVec F S2x128x512 .f32) :
    (outM.access (obRect 1)).write (Elt F) ((outM.access (obRect 0)).write (Elt F) f (outBlock wo (a 0)) Finset.univ)
      (outBlock wo (a 1)) Finset.univ = outAll wo a := by
  funext i
  refine write_out wo a 1 _ i fun h1 => write_out wo a 0 f i fun h0 => ?_
  rcases two_cases (i 0) with h | h
  · exact absurd h h0
  · exact absurd h h1

/-- Device `c`'s states before the merges, after them, and its output. -/
def Ins.own (c : Dev nD) : Fin 2 → Fin 4 → Acc F := fun b h => ownAcc b h (I.q c b) (kvFlat (I.k c)) (kvFlat (I.v c))
def mergeOrder : List (Fin 8) := [6, 5, 4, 3, 2, 1, 0]
def Ins.acc (c : Dev nD) : Fin 2 → Fin 4 → Acc F := mergeOrder.foldl (I.mergeOne c) (I.own c)
def Ins.out (c : Dev nD) : FVec F S2x128x512 .f32 := outAll (I.wo c) (I.acc c)

/-! ### Reads and writes of the operands -/

/-- A whole buffer of device `c`. -/
abbrev has (c : Dev nD) (b : Ref sig .tc) (X : b.ty.Contents (Elt F)) : sProp 𝕄 :=
  ((c : Thread nD τ).loc b) ↦{fullShare} (X : Buf (Elt F) ((c : Thread nD τ).loc b))

theorem run_loadX (c : Dev nD) (f : FVec F S2x128x512 .f32) (k : FVec F S2x128x512 .f32 → PR F) (Q : PUnit → sProp 𝕄) :
    has c cc0_stg0_0 f ⊢ iprop((has c cc0_stg0_0 f -∗ runs c (k f) Q) -∗ runs c (opLoadX k) Q) := by
  unfold opLoadX
  have hr : xM.view.readAt (Elt F) (Rect.unit (s := S2x128x512) ![0, 0, 0] S2x128x512.size inb_S2x128x512_S2x128x512_0_0_0).toLoadRect f = f :=
    Memref.readAt_unit_zero (Elt F) cc0_stg0_0 (off := ![0, 0, 0]) (by funext a; fin_cases a <;> rfl) inb_S2x128x512_S2x128x512_0_0_0 f
  iintro H Hk
  iapply (wp_load 𝒱₀ (c : Thread nD τ) none Set.univ (m := xM) (Finset.subset_univ _)) $$ H; iintro H
  rw [hr]
  iapply Hk; iexact H

theorem run_loadWq (c : Dev nD) (f : FVec F S512x256 .f32) (k : FVec F S512x256 .f32 → PR F) (Q : PUnit → sProp 𝕄) :
    has c cc0_stg1_0 f ⊢ iprop((has c cc0_stg1_0 f -∗ runs c (k f) Q) -∗ runs c (opLoadWq k) Q) := by
  unfold opLoadWq
  have hr : wqM.view.readAt (Elt F) (Rect.unit (s := S512x256) ![0, 0] S512x256.size inb_S512x256_S512x256_0_0).toLoadRect f = f :=
    Memref.readAt_unit_zero (Elt F) cc0_stg1_0 (off := ![0, 0]) (by funext a; fin_cases a <;> rfl) inb_S512x256_S512x256_0_0 f
  iintro H Hk
  iapply (wp_load 𝒱₀ (c : Thread nD τ) none Set.univ (m := wqM) (Finset.subset_univ _)) $$ H; iintro H
  rw [hr]
  iapply Hk; iexact H

theorem run_loadWo (c : Dev nD) (f : FVec F S256x512 .f32) (k : FVec F S256x512 .f32 → PR F) (Q : PUnit → sProp 𝕄) :
    has c cc0_stg4_0 f ⊢ iprop((has c cc0_stg4_0 f -∗ runs c (k f) Q) -∗ runs c (opLoadWo k) Q) := by
  unfold opLoadWo
  have hr : woM.view.readAt (Elt F) (Rect.unit (s := S256x512) ![0, 0] S256x512.size inb_S256x512_S256x512_0_0).toLoadRect f = f :=
    Memref.readAt_unit_zero (Elt F) cc0_stg4_0 (off := ![0, 0]) (by funext a; fin_cases a <;> rfl) inb_S256x512_S256x512_0_0 f
  iintro H Hk
  iapply (wp_load 𝒱₀ (c : Thread nD τ) none Set.univ (m := woM) (Finset.subset_univ _)) $$ H; iintro H
  rw [hr]
  iapply Hk; iexact H

theorem run_loadK (c : Dev nD) (f : FVec F S2x128x4x64 .f32) (k : FVec F S2x128x4x64 .f32 → PR F) (Q : PUnit → sProp 𝕄) :
    has c cc0_stg2_0 f ⊢ iprop((has c cc0_stg2_0 f -∗ runs c (k f) Q) -∗ runs c (opLoadK k) Q) := by
  unfold opLoadK
  have hr : kM.view.readAt (Elt F) (Rect.unit (s := S2x128x4x64) ![0, 0, 0, 0] S2x128x4x64.size inb_S2x128x4x64_S2x128x4x64_0_0_0_0).toLoadRect f = f :=
    Memref.readAt_unit_zero (Elt F) cc0_stg2_0 (off := ![0, 0, 0, 0]) (by funext a; fin_cases a <;> rfl) inb_S2x128x4x64_S2x128x4x64_0_0_0_0 f
  iintro H Hk
  iapply (wp_load 𝒱₀ (c : Thread nD τ) none Set.univ (m := kM) (Finset.subset_univ _)) $$ H; iintro H
  rw [hr]
  iapply Hk; iexact H

theorem run_loadV (c : Dev nD) (f : FVec F S2x128x4x64 .f32) (k : FVec F S2x128x4x64 .f32 → PR F) (Q : PUnit → sProp 𝕄) :
    has c cc0_stg3_0 f ⊢ iprop((has c cc0_stg3_0 f -∗ runs c (k f) Q) -∗ runs c (opLoadV k) Q) := by
  unfold opLoadV
  have hr : vM.view.readAt (Elt F) (Rect.unit (s := S2x128x4x64) ![0, 0, 0, 0] S2x128x4x64.size inb_S2x128x4x64_S2x128x4x64_0_0_0_0).toLoadRect f = f :=
    Memref.readAt_unit_zero (Elt F) cc0_stg3_0 (off := ![0, 0, 0, 0]) (by funext a; fin_cases a <;> rfl) inb_S2x128x4x64_S2x128x4x64_0_0_0_0 f
  iintro H Hk
  iapply (wp_load 𝒱₀ (c : Thread nD τ) none Set.univ (m := vM) (Finset.subset_univ _)) $$ H; iintro H
  rw [hr]
  iapply Hk; iexact H

theorem run_storeOut (c : Dev nD) (b : Fin 2) (w : FVec F S1x128x512 .f32) (f : FVec F S2x128x512 .f32) (k : PR F) (Q : PUnit → sProp 𝕄) :
    has c cc0_stg5_0 f ⊢ iprop((has c cc0_stg5_0 ((outM.access (obRect b)).write (Elt F) f w Finset.univ) -∗ runs c k Q)
      -∗ runs c (opStoreOut b w k) Q) := by
  unfold opStoreOut
  iintro H Hk
  iapply (wp_load 𝒱₀ (c : Thread nD τ) none Set.univ (m := outM) (Finset.subset_univ _)) $$ H; iintro H
  iapply (wp_store 𝒱₀ (c : Thread nD τ) none Set.univ (m := outM) (r := obRect b) (Mk := Finset.univ) (Finset.subset_univ _)) $$ H; iintro H
  iapply Hk; iexact H

/-! ### Lists and sums -/

theorem steps_eq (Φ : Fin 7 → sProp 𝕄) : bigSepL steps Φ = bigSep Finset.univ Φ :=
  (bigSep_univ_eq_bigSepL steps (by decide) (by decide) Φ).symm
theorem order_eq (Φ : Fin 8 → sProp 𝕄) : bigSepL mergeOrder Φ = bigSep (Finset.univ.erase 7) Φ :=
  (bigSep_eq_bigSepL_of_eq mergeOrder (by decide) (by decide) Φ).symm

theorem emp_left (P : sProp 𝕄) : iprop(emp ∗ P) = P := equiv_iff.mp BI.emp_sep

/-- A sum over a list kept to those with a property. -/
theorem bigSepL_kept {A : Type} (p : A → Prop) [DecidablePred p] (Φ : A → sProp 𝕄) : ∀ l : List A,
    bigSepL (l.filter (fun a => decide (p a))) Φ = bigSepL l fun a => if p a then Φ a else iprop(emp)
  | [] => rfl
  | a :: l => by
    rw [List.filter_cons, bigSepL_cons' a l]
    by_cases h : p a
    · rw [if_pos (decide_eq_true h), if_pos h, bigSepL_cons', bigSepL_kept p Φ l]
    · rw [if_neg (by rw [decide_eq_false h]; exact Bool.false_ne_true), if_neg h, emp_left, bigSepL_kept p Φ l]

def ups (c : Dev nD) : List (Fin 7) := steps.filter fun o => decide (c.val + (o.val + 1) < 8)
def dns (c : Dev nD) : List (Fin 7) := steps.filter fun o => decide (o.val + 1 ≤ c.val)

/-- The devices after `c` and the devices before `c`, by steps. -/
theorem over_ups (c : Dev nD) (Φ : Dev nD → sProp 𝕄) :
    bigSep (Finset.univ.filter fun d => c < d) Φ = bigSep Finset.univ fun o : Fin 7 => if c.val + (o.val + 1) < 8 then Φ (nx o c) else iprop(emp) := by
  rw [← steps_eq, ← bigSepL_kept (fun o : Fin 7 => c.val + (o.val + 1) < 8) (fun o => Φ (nx o c)) steps]
  exact (bigSep_eq_bigSepL_of_eq ((ups c).map fun o => nx o c) (by revert c; decide) (by revert c; decide) Φ).trans (bigSepL_map (fun o => nx o c) (ups c) Φ)
theorem over_dns (c : Dev nD) (Φ : Dev nD → sProp 𝕄) :
    bigSep (Finset.univ.filter fun d => d < c) Φ = bigSep Finset.univ fun o : Fin 7 => if o.val + 1 ≤ c.val then Φ (dn o c) else iprop(emp) := by
  rw [← steps_eq, ← bigSepL_kept (fun o : Fin 7 => o.val + 1 ≤ c.val) (fun o => Φ (dn o c)) steps]
  exact (bigSep_eq_bigSepL_of_eq ((dns c).map fun o => dn o c) (by revert c; decide) (by revert c; decide) Φ).trans (bigSepL_map (fun o => dn o c) (dns c) Φ)
/-- All the other devices, by steps. -/
theorem over_nx (c : Dev nD) (Φ : Dev nD → sProp 𝕄) :
    bigSep (Finset.univ.erase c) Φ = bigSep Finset.univ fun o : Fin 7 => Φ (nx o c) := by
  rw [← steps_eq, ← bigSepL_map (fun o => nx o c) steps Φ]
  exact bigSep_eq_bigSepL_of_eq _ (by revert c; decide) (by revert c; decide) Φ
/-- The other devices are those before and those after. -/
theorem others_split (c : Dev nD) (Φ : Dev nD → sProp 𝕄) :
    bigSep (Finset.univ.erase c) Φ = iprop(bigSep (Finset.univ.filter fun d => d < c) Φ ∗ bigSep (Finset.univ.filter fun d => c < d) Φ) := by
  rw [show (Finset.univ.erase c : Finset (Dev nD)) = (Finset.univ.filter fun d => d < c) ∪ (Finset.univ.filter fun d => c < d) from by
    revert c; decide]
  refine bigSep_union ?_
  revert c; decide

theorem give_lt (d c : Dev nD) (h : d.val < c.val) : give (F := F) d c = iprop(∃ f, qAt (F := F) d c fullShare f) := if_pos h
theorem give_ge (d c : Dev nD) (h : c.val ≤ d.val) : give (F := F) d c = iprop(∃ f, prAt (F := F) d c f) := if_neg (Nat.not_lt.2 h)

/-- What the other devices gave at the barrier. -/
theorem given (c : Dev nD) : bigSep (Finset.univ.erase c) (fun d => give (F := F) d c)
    ⊢ iprop((bigSep Finset.univ fun o => GQ (F := F) c o) ∗ bigSep Finset.univ fun o => GA (F := F) c o) := by
  rw [others_split]
  refine BIClass.sep_mono ?_ ?_
  · exact Entails.of_eq ((bigSep_congr fun d hd => give_lt d c (Finset.mem_filter.1 hd).2).trans
      (over_dns c fun d => iprop(∃ f, qAt (F := F) d c fullShare f)))
  · exact Entails.of_eq ((bigSep_congr fun d hd => give_ge d c (Nat.le_of_lt (Finset.mem_filter.1 hd).2)).trans
      (over_ups c fun d => iprop(∃ f, prAt (F := F) d c f)))

/-! ### A device's program -/

/-- The own queries' share a device keeps for its own reads. -/
abbrev shareK : PosShare TreeShare := Transfers.shareDrop fullShare 7

/-- What a device's program starts from. -/
def bodyPre (c : Dev nD) : sProp 𝕄 :=
  iprop(owesE c (O₀ c) ∗ (cred (tallyAt (barC c) () 7) ∗ atPos ER (barC c) 0 ∅ 0)
    ∗ (bigSep Finset.univ fun o => iprop(dutyTok ER (barC (nx o c)) 0 c ∗ give (F := F) c (nx o c)))
    ∗ (∃ f, qAt (F := F) c c fullShare f)
    ∗ (bigSep Finset.univ fun o => TQ (F := F) c o) ∗ (bigSep Finset.univ fun o => TA (F := F) c o)
    ∗ ((bigSep Finset.univ fun o : Fin 7 => atPos ER (qsC c o) 0 ∅ 0) ∗ bigSep Finset.univ fun o : Fin 7 => atPos ER (psC c o) 0 ∅ 0)
    ∗ bigSep (Finset.univ.erase 7) fun s => PRin (F := F) c s)

/-- What it ends with. -/
def bodyEnd (c : Dev nD) : sProp 𝕄 :=
  iprop(owesE (F := F) c 0 ∗ done I (barC c) ∗ qAt c c fullShare I.qAll
    ∗ (bigSep Finset.univ fun o => SA I c o) ∗ (bigSep Finset.univ fun o => SWP I c o)
    ∗ ((bigSep Finset.univ fun o : Fin 7 => done I (qsC c o)) ∗ bigSep Finset.univ fun o : Fin 7 => done I (psC c o))
    ∗ bigSep (Finset.univ.erase 7) fun s => PRout I c s)

/-- The operands. -/
def args (c : Dev nD) : sProp 𝕄 :=
  iprop(has c cc0_stg0_0 (I.x c) ∗ has c cc0_stg1_0 (I.wq c) ∗ has c cc0_stg2_0 (I.k c) ∗ has c cc0_stg3_0 (I.v c) ∗ has c cc0_stg4_0 (I.wo c))

/-- The part before the answers: the barrier, the own queries, the sends. -/
def part2 (c : Dev nD) (wo : FVec F S256x512 .f32) : PR F :=
  opLoadK fun kk => opLoadV fun vv =>
  answers c (kvFlat kk) (kvFlat vv) <|
  opLoadQ (oMeB 0 c) fun q0 => opLoadQ (oMeB 1 c) fun q1 =>
  merges c (fun b h => ownAcc b h ((![q0, q1] : Fin 2 → FVec F S1x1x128x256 .bf16) b) (kvFlat kk) (kvFlat vv)) fun a =>
  opStoreOut 0 (outBlock wo (a 0)) <| opStoreOut 1 (outBlock wo (a 1)) <|
  waits c <| .ret ⟨⟩
def part1 (c : Dev nD) (x : FVec F S2x128x512 .f32) (wq : FVec F S512x256 .f32) (k : PR F) : PR F :=
  opLoadQ (oMeB 0 c) fun _ => opStoreQ (oMeB 0 c) (qBlock 0 x wq) <|
  opLoadQ (oMeB 1 c) fun _ => opStoreQ (oMeB 1 c) (qBlock 1 x wq) <|
  sendQs c k

/-- Both batches of the own queries written. -/
theorem own_written (c : Dev nD) (f : QBuf F) (i : S8x2x128x256.Idx) (hi : i ∈ qSet c) :
    (qM.access (qbRect c 1)).write (Elt F) ((qM.access (qbRect c 0)).write (Elt F) f (I.q c 0) Finset.univ) (I.q c 1) Finset.univ i = I.qAll i :=
  write_q I c 1 _ i hi fun h1 => write_q I c 0 f i hi fun h0 => by
    rcases two_cases (i 1) with h | h
    · exact absurd h h0
    · exact absurd h h1

theorem own_split (c : Dev nD) :
    qAt c c fullShare I.qAll ⊢ iprop(qAt c c shareK I.qAll ∗ bigSep Finset.univ fun o : Fin 7 => qAt c c (shareO o) I.qAll) :=
  Transfers.pointsTo_toks_split fullShare 7
theorem own_share (c : Dev nD) (f : QBuf F) :
    qAt c c fullShare ((qM.access (qbRect c 1)).write (Elt F) ((qM.access (qbRect c 0)).write (Elt F) f (qBlock 0 (I.x c) (I.wq c)) Finset.univ)
      (qBlock 1 (I.x c) (I.wq c)) Finset.univ)
      ⊢ iprop(qAt c c shareK I.qAll ∗ bigSep Finset.univ fun o : Fin 7 => qAt c c (shareO o) I.qAll) := by
  have he : qAt c c fullShare ((qM.access (qbRect c 1)).write (Elt F) ((qM.access (qbRect c 0)).write (Elt F) f (qBlock 0 (I.x c) (I.wq c)) Finset.univ)
      (qBlock 1 (I.x c) (I.wq c)) Finset.univ) = qAt c c fullShare I.qAll := pointsTo_congr (own_written I c f)
  rw [he]
  exact own_split I c
theorem own_join (c : Dev nD) :
    iprop(qAt c c shareK I.qAll ∗ bigSep Finset.univ fun o : Fin 7 => qAt c c (shareO o) I.qAll) ⊢ qAt c c fullShare I.qAll :=
  Transfers.pointsTo_toks_join fullShare 7

theorem barrier_eq (d : Dev nD) (k : PR F) :
    barrier d k = steps.foldr (fun o k => opSignal ⟨devS o d, devS_lt o d⟩ k) (.op (.semWait barSem (7#32).toInt) fun _ => k) := by
  simp only [barrier, steps, List.foldr_cons, List.foldr_nil]
theorem sendQs_eq (d : Dev nD) (k : PR F) : sendQs d k = steps.foldr (fun o k => sendQ o d k) k := by
  simp only [sendQs, steps, List.foldr_cons, List.foldr_nil]
theorem answers_eq (d : Dev nD) (kf vf : FVec F S2x128x256 .bf16) (k : PR F) :
    answers d kf vf k = steps.foldr (fun o k => answer o d kf vf k) k := by
  simp only [answers, steps, List.foldr_cons, List.foldr_nil]
theorem waits_eq (d : Dev nD) (k : PR F) : waits d k = steps.foldr (fun o k => waitQ o d (waitP o d k)) k := by
  simp only [waits, steps, List.foldr_cons, List.foldr_nil]
theorem merges_eq (d : Dev nD) (a : Fin 2 → Fin 4 → Acc F) (k : (Fin 2 → Fin 4 → Acc F) → PR F) :
    merges d a k = mergesL d k mergeOrder a := by
  unfold mergeOrder merges
  simp only [mergesL]

/-- The own queries written and sent. -/
theorem run_part1 (c : Dev nD) (k : PR F) (Q : PUnit → sProp 𝕄) :
    iprop(recs I K ∗ owesE c (oQry c) ∗ (∃ f, qAt c c fullShare f) ∗ (bigSep Finset.univ fun o => GQ c o) ∗ (bigSep Finset.univ fun o => TQ c o))
      ⊢ iprop(((owesE c (oAns c) ∗ qAt c c shareK I.qAll ∗ bigSep Finset.univ fun o => SQ I c o) -∗ runs c k Q)
        -∗ runs c (part1 c (I.x c) (I.wq c) k) Q) := by
  unfold part1 oMeB
  simp only [OffQB.of_eq]
  iintro ⟨#HR, HO, ⟨%f, Hq⟩, HG, HT⟩ Hk
  iapply (run_loadQ c c 0 fullShare f) $$ Hq; iintro Hq
  iapply (run_storeQ c c 0 (qBlock 0 (I.x c) (I.wq c)) f) $$ Hq; iintro Hq
  iapply (run_loadQ c c 1 fullShare _) $$ Hq; iintro Hq
  iapply (run_storeQ c c 1 (qBlock 1 (I.x c) (I.wq c)) _) $$ Hq; iintro Hq
  ihave Hqs := (own_share I c f) $$ Hq
  icases Hqs with ⟨Hq, Hqs⟩
  rw [sendQs_eq]
  iapply (run_sendQs I K c k Q) $$ [HO Hqs HG HT]
  · isplitr; · iexact HR
    isplitl [HO]; · iexact HO
    rw [steps_eq, bigSep_sep', bigSep_sep']
    isplitl [Hqs]; · iexact Hqs
    isplitl [HG]; · iexact HG
    iexact HT
  rw [steps_eq]
  iintro ⟨HO, HS⟩
  iapply Hk
  isplitl [HO]; · iexact HO
  isplitl [Hq]; · iexact Hq
  iexact HS

/-- Both batches of the output written. -/
theorem out_written (c : Dev nD) (f : FVec F S2x128x512 .f32) :
    has c cc0_stg5_0 ((outM.access (obRect 1)).write (Elt F) ((outM.access (obRect 0)).write (Elt F) f (outBlock (I.wo c) (I.acc c 0)) Finset.univ)
      (outBlock (I.wo c) (I.acc c 1)) Finset.univ) ⊢ has c cc0_stg5_0 (I.out c) := by
  rw [write_outs (I.wo c) (I.acc c) f]
  exact Entails.of_eq rfl

/-- The answers, the merges, the output and the closing waits. -/
theorem run_part2 (c : Dev nD) (fo : FVec F S2x128x512 .f32) (Q : PUnit → sProp 𝕄) :
    iprop(recs I K ∗ owesE c (oAns c) ∗ qAt c c shareK I.qAll ∗ (bigSep Finset.univ fun o => SQ I c o)
        ∗ (bigSep Finset.univ fun o => GA c o) ∗ (bigSep Finset.univ fun o => TA c o)
        ∗ ((bigSep Finset.univ fun o : Fin 7 => atPos ER (qsC c o) 0 ∅ 0) ∗ bigSep Finset.univ fun o : Fin 7 => atPos ER (psC c o) 0 ∅ 0)
        ∗ (bigSep (Finset.univ.erase 7) fun s => PRin c s)
        ∗ has c cc0_stg2_0 (I.k c) ∗ has c cc0_stg3_0 (I.v c) ∗ has c cc0_stg5_0 fo)
      ⊢ iprop(((owesE c 0 ∗ qAt c c fullShare I.qAll
          ∗ (bigSep Finset.univ fun o => SA I c o) ∗ (bigSep Finset.univ fun o => SWP I c o)
          ∗ ((bigSep Finset.univ fun o : Fin 7 => done I (qsC c o)) ∗ bigSep Finset.univ fun o : Fin 7 => done I (psC c o))
          ∗ (bigSep (Finset.univ.erase 7) fun s => PRout I c s)
          ∗ has c cc0_stg2_0 (I.k c) ∗ has c cc0_stg3_0 (I.v c) ∗ has c cc0_stg5_0 (I.out c)) -∗ Q ⟨⟩)
        -∗ runs c (part2 c (I.wo c)) Q) := by
  unfold part2
  iintro ⟨#HR, HO, Hq, HSQ, HGA, HTA, ⟨Hat1, Hat2⟩, HPR, HK, HV, Hout⟩ Hk
  iapply (run_loadK c (I.k c)) $$ HK; iintro HK
  iapply (run_loadV c (I.v c)) $$ HV; iintro HV
  rw [answers_eq]
  iapply (run_answers I K c _ Q) $$ [HO HGA HTA]
  · isplitr; · iexact HR
    isplitl [HO]; · iexact HO
    rw [steps_eq, bigSep_sep']
    isplitl [HGA]; · iexact HGA
    iexact HTA
  rw [steps_eq, bigSep_sep']
  iintro ⟨HO, HSA, HRW⟩
  unfold oMeB
  simp only [OffQB.of_eq]
  iapply (run_loadQ c c 0 shareK I.qAll) $$ Hq; iintro Hq
  iapply (run_loadQ c c 1 shareK I.qAll) $$ Hq; iintro Hq
  rw [read_q I c 0 I.qAll (fun _ _ => rfl), read_q I c 1 I.qAll (fun _ _ => rfl)]
  rw [show (fun (b : Fin 2) (h : Fin 4) => ownAcc b h ((![I.q c 0, I.q c 1] : Fin 2 → FVec F S1x1x128x256 .bf16) b) (kvFlat (I.k c)) (kvFlat (I.v c))) = I.own c from by
    funext b h; fin_cases b <;> rfl]
  rw [merges_eq]
  iapply (run_merges I K c _ Q mergeOrder (I.own c)) $$ [HO HPR]
  · isplitr; · iexact HR
    isplitl [HO]; · iexact HO
    rw [order_eq]; iexact HPR
  rw [order_eq]
  iintro ⟨HO, HPR⟩
  iapply (run_storeOut c 0 (outBlock (I.wo c) (I.acc c 0)) fo) $$ Hout; iintro Hout
  iapply (run_storeOut c 1 (outBlock (I.wo c) (I.acc c 1)) _) $$ Hout; iintro Hout
  ihave Hout := (out_written I c fo) $$ Hout
  rw [waits_eq]
  iapply (run_waits I K c (.ret ⟨⟩) Q) $$ [HO HSQ Hat1 HRW Hat2]
  · isplitr; · iexact HR
    isplitl [HO]; · iexact HO
    rw [steps_eq, bigSep_sep', bigSep_sep', bigSep_sep']
    isplitl [HSQ Hat1]
    · isplitl [HSQ]; · iexact HSQ
      iexact Hat1
    isplitl [HRW]; · iexact HRW
    iexact Hat2
  rw [steps_eq, bigSep_sep', bigSep_sep', bigSep_sep']
  iintro ⟨HO, ⟨Hqs, Hd1⟩, Hps, Hd2⟩
  ihave Hq := (own_join I c) $$ [Hq Hqs]
  · isplitl [Hq]; · iexact Hq
    iexact Hqs
  unfold runs
  rw [wp_ret]; imodintro
  iapply Hk
  isplitl [HO]; · iexact HO
  isplitl [Hq]; · iexact Hq
  isplitl [HSA]; · iexact HSA
  isplitl [Hps]; · iexact Hps
  isplitl [Hd1 Hd2]
  · isplitl [Hd1]; · iexact Hd1
    iexact Hd2
  isplitl [HPR]; · iexact HPR
  isplitl [HK]; · iexact HK
  isplitl [HV]; · iexact HV
  iexact Hout

/-- A device's program: from the start to the end, with the output written. -/
theorem run_body (c : Dev nD) (fo : FVec F S2x128x512 .f32) (Q : PUnit → sProp 𝕄) :
    iprop(recs I K ∗ bodyPre c ∗ args I c ∗ has c cc0_stg5_0 fo)
      ⊢ iprop(((bodyEnd I c ∗ args I c ∗ has c cc0_stg5_0 (I.out c)) -∗ Q ⟨⟩) -∗ runs c (body c) Q) := by
  unfold bodyPre args bodyEnd
  unfold body
  rw [barrier_eq]
  iintro ⟨#HR, ⟨HO, ⟨Hc, Hat⟩, HtG, Hq, HTQ, HTA, Hats, HPR⟩, ⟨Hx, Hwq, HK, HV, Hwo⟩, Hout⟩ Hk
  iapply (run_signals I K c _ Q) $$ [HO HtG]
  · isplitr; · iexact HR
    isplitl [HO]; · iexact HO
    rw [steps_eq]; iexact HtG
  iintro ⟨HO, -⟩
  iapply (run_barWait I K c (oQry c) (above_oQry c) _ Q) $$ [HO Hc Hat]
  · isplitr; · iexact HR
    isplitl [HO]; · iexact HO
    isplitl [Hc]; · iexact Hc
    iexact Hat
  iintro ⟨HO, Hat, Hg⟩
  ihave Hg' := (given c) $$ Hg
  icases Hg' with ⟨HGQ, HGA⟩
  iapply (run_loadX c (I.x c)) $$ Hx; iintro Hx
  iapply (run_loadWq c (I.wq c)) $$ Hwq; iintro Hwq
  iapply (run_loadWo c (I.wo c)) $$ Hwo; iintro Hwo
  iapply (run_part1 I K c (part2 c (I.wo c)) Q) $$ [HO Hq HGQ HTQ]
  · isplitr; · iexact HR
    isplitl [HO]; · iexact HO
    isplitl [Hq]; · iexact Hq
    isplitl [HGQ]; · iexact HGQ
    iexact HTQ
  iintro ⟨HO, Hq, HSQ⟩
  iapply (run_part2 I K c fo Q) $$ [HO Hq HSQ HGA HTA Hats HPR HK HV Hout]
  · isplitr; · iexact HR
    isplitl [HO]; · iexact HO
    isplitl [Hq]; · iexact Hq
    isplitl [HSQ]; · iexact HSQ
    isplitl [HGA]; · iexact HGA
    isplitl [HTA]; · iexact HTA
    isplitl [Hats]; · iexact Hats
    isplitl [HPR]; · iexact HPR
    isplitl [HK]; · iexact HK
    isplitl [HV]; · iexact HV
    iexact Hout
  iintro ⟨HO, Hq, HSA, Hps, Hd, HPR, HK, HV, Hout⟩
  iapply Hk
  isplitl [HO Hat Hq HSA Hps Hd HPR]
  · isplitl [HO]; · iexact HO
    isplitl [Hat]; · iapply (done_one I (barC c)); iexact Hat
    isplitl [Hq]; · iexact Hq
    isplitl [HSA]; · iexact HSA
    isplitl [Hps]; · iexact Hps
    isplitl [Hd]; · iexact Hd
    iexact HPR
  isplitr [Hout]
  · isplitl [Hx]; · iexact Hx
    isplitl [Hwq]; · iexact Hwq
    isplitl [HK]; · iexact HK
    isplitl [HV]; · iexact HV
    iexact Hwo
  iexact Hout

end Cert.KernelIdeal.Attn
-- ==== Proof.Credits.lean ====
module

public import proofs.«01_k».proof.Proof.RunBody

/-!
# The cells by use, and the credit at the start

How sums over cells and devices split, and what the other devices owe a device's cells when
the kernel begins.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ### The thirty-one cells of a device by what they are for -/

def eights : List (Fin 8) := [0, 1, 2, 3, 4, 5, 6, 7]
theorem eights_eq (Φ : Fin 8 → sProp 𝕄) : bigSepL eights Φ = bigSep Finset.univ Φ :=
  (bigSep_univ_eq_bigSepL eights (by decide) (by decide) Φ).symm

theorem by_use (Φ : Fin 31 → sProp 𝕄) : bigSep Finset.univ Φ
    = iprop(Φ kBar ∗ (bigSep Finset.univ fun o => Φ (kQS o)) ∗ (bigSep Finset.univ fun s => Φ (kQR s))
        ∗ (bigSep Finset.univ fun o => Φ (kPS o)) ∗ bigSep Finset.univ fun s => Φ (kPR s)) := by
  rw [bigSep_univ_eq_bigSepL (kBar :: (steps.map kQS ++ (eights.map kQR ++ (steps.map kPS ++ eights.map kPR)))) (by decide) (by decide) Φ,
    bigSepL_cons', bigSepL_append, bigSepL_append, bigSepL_append, bigSepL_map, bigSepL_map, bigSepL_map, bigSepL_map,
    steps_eq, steps_eq, eights_eq, eights_eq]

/-- The same for the cells themselves. -/
theorem cells_by_use (c : Dev nD) (Ψ : GSem nD τ sig → sProp 𝕄) : (bigSep Finset.univ fun k : Fin 31 => Ψ (cell c k))
    = iprop(Ψ (barC c) ∗ (bigSep Finset.univ fun o => Ψ (qsC c o)) ∗ (bigSep Finset.univ fun s => Ψ (qrC c s))
        ∗ (bigSep Finset.univ fun o => Ψ (psC c o)) ∗ bigSep Finset.univ fun s => Ψ (prC c s)) := by
  rw [by_use fun k => Ψ (cell c k)]
  unfold cell
  simp only [csem_qs, csem_qr, csem_ps, csem_pr]
  rfl

theorem csem_inj : Function.Injective csem := by
  intro i j h
  unfold csem at h
  split at h <;> split at h
  · exact Fin.ext (by omega)
  · exact absurd h (by simp)
  · exact absurd h (by simp)
  · have := congrArg Fin.val (SemLoc.dma.inj h)
    exact Fin.ext (by simpa using this)

theorem cell_inj : Function.Injective (fun ck : Dev nD × Fin 31 => cell ck.1 ck.2) := by
  rintro ⟨c, k⟩ ⟨c', k'⟩ h
  have h1 : c = c' := congrArg (fun g : GSem nD τ sig => g.1.1) h
  have h2 : k = k' := csem_inj (congrArg Prod.snd h)
  subst h1; subst h2; rfl

/-! ### Sums with conditions -/

theorem keep (p : Fin 8 → Prop) [DecidablePred p] (Φ : Fin 8 → sProp 𝕄) :
    bigSep (Finset.univ.filter p) Φ = bigSep Finset.univ fun s => if p s then Φ s else iprop(emp) := by
  have h1 : bigSep (Finset.univ.filter p) (fun s => if p s then Φ s else iprop(emp)) = bigSep (Finset.univ.filter p) Φ :=
    bigSep_congr fun s hs => if_pos (Finset.mem_filter.1 hs).2
  have h2 : bigSep (Finset.univ.filter fun s => ¬ p s) (fun s => if p s then Φ s else iprop(emp)) = (iprop(emp) : sProp 𝕄) :=
    (bigSep_congr fun s hs => if_neg (Finset.mem_filter.1 hs).2).trans (bigSep_emp_const _)
  rw [bigSep_filter_split Finset.univ p (Φ := fun s => if p s then Φ s else iprop(emp)), h1, h2]
  exact (equiv_iff.mp BI.sep_emp).symm

theorem split_at (p : Fin 8 → Prop) [DecidablePred p] (Φ : Fin 8 → sProp 𝕄) :
    bigSep Finset.univ Φ = iprop(bigSep (Finset.univ.filter p) Φ ∗ bigSep (Finset.univ.filter fun s => ¬ p s) Φ) :=
  bigSep_filter_split Finset.univ p

theorem split_last (Φ : Fin 8 → sProp 𝕄) : bigSep Finset.univ Φ = iprop(Φ 7 ∗ bigSep (Finset.univ.erase 7) Φ) :=
  bigSep_erase (Finset.mem_univ _)

theorem split_own (c : Dev nD) (Φ : Dev nD → sProp 𝕄) : bigSep Finset.univ Φ
    = iprop(Φ c ∗ bigSep (Finset.univ.filter fun d => d < c) Φ ∗ bigSep (Finset.univ.filter fun d => c < d) Φ) := by
  rw [← others_split]; exact bigSep_erase (Finset.mem_univ _)

theorem mono {J : Type} {S : Finset J} {Φ Ψ : J → sProp 𝕄} (h : ∀ i ∈ S, Φ i ⊢ Ψ i) : (bigSep S Φ : sProp 𝕄) ⊢ bigSep S Ψ := bigSep_mono h
theorem fewer {J : Type} [DecidableEq J] {S T : Finset J} (h : T ⊆ S) (Φ : J → sProp 𝕄) : (bigSep S Φ : sProp 𝕄) ⊢ bigSep T Φ := bigSep_subset h

/-- Only those with a property kept. -/
theorem only {J : Type} {S : Finset J} (p : J → Prop) [DecidablePred p] (Φ : J → sProp 𝕄) :
    (bigSep S Φ : sProp 𝕄) ⊢ bigSep S fun i => if p i then Φ i else iprop(emp) :=
  mono fun i _ => by
    split
    · exact Entails.of_eq rfl
    · iintro -; iempintro

theorem both {J : Type} {S : Finset J} (p : J → Prop) [DecidablePred p] (Φ Ψ : J → sProp 𝕄) :
    (iprop((bigSep S fun i => if p i then Φ i else iprop(emp)) ∗ bigSep S fun i => if p i then Ψ i else iprop(emp)) : sProp 𝕄)
      ⊢ bigSep S fun i => if p i then iprop(Φ i ∗ Ψ i) else iprop(emp) := by
  rw [← bigSep_sep']
  refine mono fun i _ => ?_
  split
  · exact Entails.of_eq rfl
  · iintro -; iempintro

theorem apart {J : Type} {S : Finset J} (p : J → Prop) [DecidablePred p] (Φ Ψ : J → sProp 𝕄) :
    (bigSep S fun i => if p i then iprop(Φ i ∗ Ψ i) else iprop(emp) : sProp 𝕄)
      ⊢ iprop((bigSep S fun i => if p i then Φ i else iprop(emp)) ∗ bigSep S fun i => if p i then Ψ i else iprop(emp)) := by
  rw [← bigSep_sep']
  refine mono fun i _ => ?_
  split
  · exact Entails.of_eq rfl
  · iintro -
    isplitl <;> iempintro

/-! ### The launch credit -/

theorem owL_apply {A : Type} (ow : A → CellTallies nD τ sig Unit) (O : CellTallies nD τ sig Unit) (g : GSem nD τ sig) : ∀ l : List A,
    owL ow O l g () = O g () + (l.map fun a => ow a g ()).sum
  | [] => by simp [owL]
  | a :: l => by
    show (owL ow O l + ow a) g () = _
    rw [Pi.add_apply, Finsupp.add_apply, owL_apply ow O g l, List.map_cons, List.sum_cons]
    omega

theorem O₀_apply (d : Dev nD) (g : GSem nD τ sig) :
    O₀ d g () = (steps.map fun o => oP o d g ()).sum + (steps.map fun o => oQ o d g ()).sum + (steps.map fun o => oB o d g ()).sum := by
  unfold O₀ oQry oAns
  rw [owL_apply, owL_apply, owL_apply]
  show (0 : CellTallies nD τ sig Unit) g () + _ + _ + _ = _
  rw [Pi.zero_apply, Finsupp.zero_apply, Nat.zero_add]

theorem tally_ne {g g' : GSem nD τ sig} (n : ℕ) (h : dec g.2 ≠ dec g'.2) : (tallyAt g' () n : CellTallies nD τ sig Unit) g () = 0 := by
  rw [tallyAt_apply, if_neg]
  rintro ⟨rfl, -⟩
  exact h rfl

theorem dec_of_eq {g g' : GSem nD τ sig} (h : g = g') : dec g.2 = dec g'.2 := congrArg (fun g : GSem nD τ sig => dec g.2) h

theorem bar_eq {a b : Dev nD} : barC a = barC b ↔ a = b :=
  ⟨fun h => congrArg (fun g : GSem nD τ sig => g.1.1) h, fun h => h ▸ rfl⟩
theorem qr_eq {a b s t : Fin 8} : qrC a s = qrC b t ↔ a = b ∧ s = t := by
  constructor
  · intro h
    have h1 := dec_of_eq h
    rw [dec_qr, dec_qr] at h1
    exact ⟨congrArg (fun g : GSem nD τ sig => g.1.1) h, by injection h1⟩
  · rintro ⟨rfl, rfl⟩; rfl
theorem pr_eq {a b s t : Fin 8} : prC a s = prC b t ↔ a = b ∧ s = t := by
  constructor
  · intro h
    have h1 := dec_of_eq h
    rw [dec_pr, dec_pr] at h1
    exact ⟨congrArg (fun g : GSem nD τ sig => g.1.1) h, by injection h1⟩
  · rintro ⟨rfl, rfl⟩; rfl

theorem sum_zero {A : Type} (l : List A) (f : A → ℕ) (h : ∀ a, f a = 0) : (l.map f).sum = 0 := by
  induction l with
  | nil => rfl
  | cons a l ih => rw [List.map_cons, List.sum_cons, h, ih]

theorem sum_mul {A : Type} (l : List A) (n : ℕ) (f : A → ℕ) : (l.map fun a => f a * n).sum = (l.map f).sum * n := by
  induction l with
  | nil => exact (Nat.zero_mul n).symm
  | cons a l ih => rw [List.map_cons, List.sum_cons, List.map_cons, List.sum_cons, ih, Nat.add_mul]

/-- What the devices owe a cell at the start. -/
theorem owed_bar (c : Dev nD) : ∑ d : Dev nD, O₀ d (barC c) () = 7 := by
  have h : ∀ d, O₀ d (barC c) () = (steps.map fun o => if c = nx o d then 1 else 0).sum := fun d => by
    rw [O₀_apply, sum_zero _ _ fun o => ?_, sum_zero _ _ fun o => ?_, Nat.zero_add]
    · refine congrArg List.sum (List.map_congr_left fun o _ => ?_)
      unfold oB
      rw [tallyAt_apply]
      simp only [bar_eq, and_true]
    · unfold oQ
      split
      · exact tally_ne _ (by rw [dec_bar, dec_qr]; exact fun h => by cases h)
      · rfl
    · unfold oP
      split
      · exact tally_ne _ (by rw [dec_bar, dec_pr]; exact fun h => by cases h)
      · rfl
  rw [Finset.sum_congr rfl fun d _ => h d]
  clear h; revert c; decide

theorem owed_qr (c s : Fin 8) : ∑ d : Dev nD, O₀ d (qrC c s) () = (if c < s then 1 else 0) * NQ := by
  have h : ∀ d, O₀ d (qrC c s) () = (steps.map fun o : Fin 7 => if o.val + 1 ≤ d.val ∧ c = dn o d ∧ s = d then 1 else 0).sum * NQ := fun d => by
    rw [O₀_apply, sum_zero _ _ fun o => ?_, Nat.zero_add, sum_zero steps (fun o => oB o d (qrC c s) ()) fun o => ?_, Nat.add_zero, ← sum_mul]
    · refine congrArg List.sum (List.map_congr_left fun o _ => ?_)
      unfold oQ
      by_cases h : o.val + 1 ≤ d.val
      · rw [if_pos h, tallyAt_apply]
        simp only [qr_eq, and_true, h, true_and]
        split <;> simp
      · rw [if_neg h, if_neg fun h' => h h'.1, Nat.zero_mul]; rfl
    · exact tally_ne _ (by rw [dec_bar, dec_qr]; exact fun h => by cases h)
    · unfold oP
      split
      · exact tally_ne _ (by rw [dec_qr, dec_pr]; exact fun h => by cases h)
      · rfl
  rw [Finset.sum_congr rfl fun d _ => h d, ← Finset.sum_mul]
  congr 1
  clear h; revert c s; decide

theorem owed_pr (c s : Fin 8) : ∑ d : Dev nD, O₀ d (prC c s) () = (if s < c then 1 else 0) * NP := by
  have h : ∀ d, O₀ d (prC c s) () = (steps.map fun o : Fin 7 => if d.val + (o.val + 1) < 8 ∧ c = nx o d ∧ s = d then 1 else 0).sum * NP := fun d => by
    rw [O₀_apply, sum_zero steps (fun o => oQ o d (prC c s) ()) fun o => ?_, Nat.add_zero,
      sum_zero steps (fun o => oB o d (prC c s) ()) fun o => ?_, Nat.add_zero, ← sum_mul]
    · refine congrArg List.sum (List.map_congr_left fun o _ => ?_)
      unfold oP
      by_cases h : d.val + (o.val + 1) < 8
      · rw [if_pos h, tallyAt_apply]
        simp only [pr_eq, and_true, h, true_and]
        split <;> simp
      · rw [if_neg h, if_neg fun h' => h h'.1, Nat.zero_mul]; rfl
    · exact tally_ne _ (by rw [dec_bar, dec_pr]; exact fun h => by cases h)
    · unfold oQ
      split
      · exact tally_ne _ (by rw [dec_qr, dec_pr]; exact fun h => by cases h)
      · rfl
  rw [Finset.sum_congr rfl fun d _ => h d, ← Finset.sum_mul]
  congr 1
  clear h; revert c s; decide

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The credit a device starts with. -/
theorem creds (c : Dev nD) : (Pipeline.launchCred O₀ c : sProp 𝕄)
    ⊢ iprop(cred (tallyAt (barC c) () 7)
        ∗ (bigSep Finset.univ fun s : Fin 8 => cred (tallyAt (qrC c s) () ((if c < s then 1 else 0) * NQ)))
        ∗ bigSep Finset.univ fun s : Fin 8 => cred (tallyAt (prC c s) () ((if s < c then 1 else 0) * NP))) := by
  have h1 : (Pipeline.launchCred O₀ c : sProp 𝕄)
      ⊢ bigSep Finset.univ fun k : Fin 31 => cred (tallyOn (cell c k) (launchCredit (Pipeline.owing O₀) 0 (cell c k))) := by
    unfold Pipeline.launchCred
    refine (fewer (Finset.subset_univ (Finset.univ.map ⟨csem, csem_inj⟩)) _).trans (Entails.of_eq ?_)
    rw [bigSep_map]
    rfl
  refine h1.trans ?_
  rw [cells_by_use c fun g => cred (tallyOn g (launchCredit (Pipeline.owing O₀) 0 g))]
  simp only [launch_at _ _ (owed_bar c), launch_at _ _ (owed_qr c _), launch_at _ _ (owed_pr c _)]
  iintro ⟨H1, -, H2, -, H3⟩
  isplitl [H1]; · iexact H1
  isplitl [H2]; · iexact H2
  iexact H3

end Cert.KernelIdeal.Attn
-- ==== Proof.Deal.lean ====
module

public import proofs.«01_k».proof.Proof.Credits
public import Idealize.ShloMosaic.Lib.Ring

/-!
# What a device starts with, and what it ends with

The positions, tokens, credit and buffers of a device, put as its program takes them; and put
back after it, with every counter at zero.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Ins F)

/-! ### Buffers into blocks and back -/

theorem cut_q (c : Dev nD) : iprop(∃ f : Buf (Elt F) ((c : Thread nD τ).loc cc0_scratch0), ((c : Thread nD τ).loc cc0_scratch0) ↦{fullShare} f)
    ⊢ (bigSep Finset.univ fun s : Fin 8 => iprop(∃ f, qAt (F := F) c s fullShare f) : sProp 𝕄) := by
  iintro ⟨%f, H⟩
  iapply (show (((c : Thread nD τ).loc cc0_scratch0) ↦{fullShare} f : sProp 𝕄) ⊢ _ from
    (Entails.of_eq (Ring.pointsTo_blocks (ℓ := (c : Thread nD τ).loc cc0_scratch0) qSet (fun b b' h => qSet_disjoint b b' h) qSet_cover f)).trans
      (mono fun s _ => by unfold qAt; iintro H; iexists f; iexact H))
  iexact H
theorem cut_ps (c : Dev nD) : iprop(∃ f : Buf (Elt F) ((c : Thread nD τ).loc cc0_scratch1), ((c : Thread nD τ).loc cc0_scratch1) ↦{fullShare} f)
    ⊢ (bigSep Finset.univ fun s : Fin 8 => iprop(∃ f, psAt (F := F) c s f) : sProp 𝕄) := by
  iintro ⟨%f, H⟩
  iapply (show (((c : Thread nD τ).loc cc0_scratch1) ↦{fullShare} f : sProp 𝕄) ⊢ _ from
    (Entails.of_eq (Ring.pointsTo_blocks (ℓ := (c : Thread nD τ).loc cc0_scratch1) psSet (fun b b' h => psSet_disjoint b b' h) psSet_cover f)).trans
      (mono fun s _ => by unfold psAt; iintro H; iexists f; iexact H))
  iexact H
theorem cut_pr (c : Dev nD) : iprop(∃ f : Buf (Elt F) ((c : Thread nD τ).loc cc0_scratch2), ((c : Thread nD τ).loc cc0_scratch2) ↦{fullShare} f)
    ⊢ (bigSep Finset.univ fun s : Fin 8 => iprop(∃ f, prAt (F := F) c s f) : sProp 𝕄) := by
  iintro ⟨%f, H⟩
  iapply (show (((c : Thread nD τ).loc cc0_scratch2) ↦{fullShare} f : sProp 𝕄) ⊢ _ from
    (Entails.of_eq (Ring.pointsTo_blocks (ℓ := (c : Thread nD τ).loc cc0_scratch2) prSet (fun b b' h => prSet_disjoint b b' h) prSet_cover f)).trans
      (mono fun s _ => by unfold prAt; iintro H; iexists f; iexact H))
  iexact H

theorem join_q (c : Dev nD) (f₀ : QBuf F) : (bigSep Finset.univ fun s : Fin 8 => iprop(∃ f, qAt (F := F) c s fullShare f) : sProp 𝕄)
    ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) qSet (fun b b' h => qSet_disjoint b b' h) qSet_cover f₀
theorem join_ps (c : Dev nD) (f₀ : PBuf F) : (bigSep Finset.univ fun s : Fin 8 => iprop(∃ f, psAt (F := F) c s f) : sProp 𝕄)
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) psSet (fun b b' h => psSet_disjoint b b' h) psSet_cover f₀
theorem join_pr (c : Dev nD) (f₀ : PBuf F) : (bigSep Finset.univ fun s : Fin 8 => iprop(∃ f, prAt (F := F) c s f) : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) prSet (fun b b' h => prSet_disjoint b b' h) prSet_cover f₀

/-- The three scratch buffers at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-! ### What a device has at the start -/

/-- Its positions, and the tokens of the duties it pays. -/
def linear (c : Dev nD) : sProp 𝕄 :=
  iprop((bigSep Finset.univ fun k : Fin 31 => atPos ER (cell c k) 0 ∅ 0)
    ∗ bigSep Finset.univ fun p : Dev nD => bigSep Finset.univ fun k : Fin 31 => dutyTok ER (cell p k) 0 c)

theorem tokens (c : Dev nD) : (bigSep Finset.univ fun p : Dev nD => bigSep Finset.univ fun k : Fin 31 => dutyTok ER (cell p k) 0 c : sProp 𝕄)
    ⊢ iprop((bigSep Finset.univ fun o => dutyTok ER (barC (nx o c)) 0 c)
      ∗ (bigSep Finset.univ fun o => dutyTok ER (qsC c o) 0 c) ∗ (bigSep Finset.univ fun o => dutyTok ER (psC c o) 0 c)
      ∗ (bigSep Finset.univ fun o : Fin 7 => if o.val + 1 ≤ c.val then dutyTok ER (qrC (dn o c) c) 0 c else iprop(emp))
      ∗ bigSep Finset.univ fun o : Fin 7 => if c.val + (o.val + 1) < 8 then dutyTok ER (prC (nx o c) c) 0 c else iprop(emp)) := by
  rw [bigSep_congr fun p _ => cells_by_use p fun g => (dutyTok ER g 0 c : sProp 𝕄), bigSep_sep', bigSep_sep', bigSep_sep', bigSep_sep']
  have hb : (bigSep Finset.univ fun p : Dev nD => dutyTok ER (barC p) 0 c : sProp 𝕄) ⊢ bigSep Finset.univ fun o => dutyTok ER (barC (nx o c)) 0 c :=
    (fewer (Finset.subset_univ _) _).trans (Entails.of_eq (over_nx c fun p => (dutyTok ER (barC p) 0 c : sProp 𝕄)))
  have hqs : (bigSep Finset.univ fun p : Dev nD => bigSep Finset.univ fun o => dutyTok ER (qsC p o) 0 c : sProp 𝕄)
      ⊢ bigSep Finset.univ fun o => dutyTok ER (qsC c o) 0 c :=
    bigSep_pick (Φ := fun p : Dev nD => (bigSep Finset.univ fun o => dutyTok ER (qsC p o) 0 c : sProp 𝕄)) (Finset.mem_univ c)
  have hps : (bigSep Finset.univ fun p : Dev nD => bigSep Finset.univ fun o => dutyTok ER (psC p o) 0 c : sProp 𝕄)
      ⊢ bigSep Finset.univ fun o => dutyTok ER (psC c o) 0 c :=
    bigSep_pick (Φ := fun p : Dev nD => (bigSep Finset.univ fun o => dutyTok ER (psC p o) 0 c : sProp 𝕄)) (Finset.mem_univ c)
  have hqr : (bigSep Finset.univ fun p : Dev nD => bigSep Finset.univ fun s => dutyTok ER (qrC p s) 0 c : sProp 𝕄)
      ⊢ bigSep Finset.univ fun o : Fin 7 => if o.val + 1 ≤ c.val then dutyTok ER (qrC (dn o c) c) 0 c else iprop(emp) :=
    ((mono fun p _ => bigSep_pick (Φ := fun s => (dutyTok ER (qrC p s) 0 c : sProp 𝕄)) (Finset.mem_univ c)).trans
      (fewer (Finset.subset_univ _) _)).trans (Entails.of_eq (over_dns c fun p => (dutyTok ER (qrC p c) 0 c : sProp 𝕄)))
  have hpr : (bigSep Finset.univ fun p : Dev nD => bigSep Finset.univ fun s => dutyTok ER (prC p s) 0 c : sProp 𝕄)
      ⊢ bigSep Finset.univ fun o : Fin 7 => if c.val + (o.val + 1) < 8 then dutyTok ER (prC (nx o c) c) 0 c else iprop(emp) :=
    ((mono fun p _ => bigSep_pick (Φ := fun s => (dutyTok ER (prC p s) 0 c : sProp 𝕄)) (Finset.mem_univ c)).trans
      (fewer (Finset.subset_univ _) _)).trans (Entails.of_eq (over_ups c fun p => (dutyTok ER (prC p c) 0 c : sProp 𝕄)))
  iintro ⟨Hb, Hqs, Hqr, Hps, Hpr⟩
  isplitl [Hb]; · iapply hb; iexact Hb
  isplitl [Hqs]; · iapply hqs; iexact Hqs
  isplitl [Hps]; · iapply hps; iexact Hps
  isplitl [Hqr]; · iapply hqr; iexact Hqr
  iapply hpr; iexact Hpr

/-- What a device has that its program does not use. -/
def kept (c : Dev nD) : sProp 𝕄 :=
  iprop((bigSep (Finset.univ.filter fun s => s < c) fun s : Fin 8 => iprop(∃ f, qAt (F := F) c s fullShare f))
    ∗ (bigSep (Finset.univ.filter fun s => ¬ c < s) fun s : Fin 8 => iprop(∃ f, psAt (F := F) c s f))
    ∗ (∃ f, prAt (F := F) c 7 f)
    ∗ (bigSep (Finset.univ.filter fun s => ¬ c < s) fun s : Fin 8 => atPos ER (qrC c s) 0 ∅ 0)
    ∗ atPos ER (prC c 7) 0 ∅ 0)

theorem upwards (c : Dev nD) (Φ : Dev nD → sProp 𝕄) : bigSep Finset.univ Φ
    ⊢ iprop((bigSep Finset.univ fun o : Fin 7 => if c.val + (o.val + 1) < 8 then Φ (nx o c) else iprop(emp))
      ∗ bigSep (Finset.univ.filter fun s => ¬ c < s) Φ) := by
  rw [← over_ups]
  exact Entails.of_eq (split_at (fun s => c < s) Φ)
theorem upwards_back (c : Dev nD) (Φ : Dev nD → sProp 𝕄) :
    iprop((bigSep Finset.univ fun o : Fin 7 => if c.val + (o.val + 1) < 8 then Φ (nx o c) else iprop(emp))
      ∗ bigSep (Finset.univ.filter fun s => ¬ c < s) Φ) ⊢ bigSep Finset.univ Φ := by
  rw [← over_ups]
  exact Entails.of_eq (split_at (fun s => c < s) Φ).symm

theorem not_above (c : Dev nD) : ¬ ((7 : Fin 8) < c) := fun h => by
  have := c.isLt; have h' : (7 : ℕ) < c.val := h
  simp only [nD] at this; omega

theorem queries (c : Dev nD) : (bigSep Finset.univ fun s : Fin 8 => iprop(∃ f, qAt (F := F) c s fullShare f) : sProp 𝕄)
    ⊢ iprop((∃ f, qAt (F := F) c c fullShare f) ∗ (bigSep (Finset.univ.filter fun s => s < c) fun s : Fin 8 => iprop(∃ f, qAt (F := F) c s fullShare f))
      ∗ bigSep (Finset.univ.filter fun d => c < d) fun d => give (F := F) c d) := by
  rw [bigSep_congr (s := Finset.univ.filter fun d => c < d) fun d hd => give_lt (F := F) c d (Finset.mem_filter.1 hd).2]
  exact Entails.of_eq (split_own c fun s => iprop(∃ f, qAt (F := F) c s fullShare f))

theorem received (c : Dev nD) : (bigSep Finset.univ fun s : Fin 8 => iprop(∃ f, prAt (F := F) c s f) : sProp 𝕄)
    ⊢ iprop((bigSep (Finset.univ.filter fun d => d < c) fun d => give (F := F) c d) ∗ (∃ f, prAt (F := F) c 7 f)
      ∗ bigSep (Finset.univ.erase 7) fun s => if ¬ s < c then iprop(∃ f, prAt (F := F) c s f) else iprop(emp)) := by
  rw [bigSep_congr (s := Finset.univ.filter fun d => d < c) fun d hd => give_ge (F := F) c d (Nat.le_of_lt (Finset.mem_filter.1 hd).2),
    split_at (fun s => s < c), keep (fun s => ¬ s < c), split_last, if_pos (not_above c)]

theorem answered (c : Dev nD) :
    iprop((bigSep Finset.univ fun s : Fin 8 => atPos ER (prC c s) 0 ∅ 0)
      ∗ (bigSep Finset.univ fun s : Fin 8 => cred (tallyAt (prC c s) () ((if s < c then 1 else 0) * NP)))
      ∗ bigSep (Finset.univ.erase 7) fun s => if ¬ s < c then iprop(∃ f, prAt (F := F) c s f) else iprop(emp))
    ⊢ iprop(atPos ER (prC c 7) 0 ∅ 0 ∗ bigSep (Finset.univ.erase 7) fun s => PRin (F := F) c s) := by
  rw [split_last fun s : Fin 8 => (atPos ER (prC c s) 0 ∅ 0 : sProp 𝕄)]
  have h : iprop((bigSep (Finset.univ.erase 7) fun s : Fin 8 => atPos ER (prC c s) 0 ∅ 0)
      ∗ (bigSep (Finset.univ.erase 7) fun s : Fin 8 => cred (tallyAt (prC c s) () ((if s < c then 1 else 0) * NP)))
      ∗ bigSep (Finset.univ.erase 7) fun s : Fin 8 => if ¬ s < c then iprop(∃ f, prAt (F := F) c s f) else iprop(emp))
      ⊢ bigSep (Finset.univ.erase 7) fun s : Fin 8 => PRin (F := F) c s := by
    rw [← bigSep_sep', ← bigSep_sep']
    refine mono fun s _ => ?_
    unfold PRin
    by_cases h : s < c
    · rw [if_pos h, if_neg (fun h' => h' h), if_pos (show s.val < c.val from h), Nat.one_mul]
      iintro ⟨H1, H2, -⟩
      isplitl [H1] <;> iassumption
    · rw [if_neg h, if_pos h, if_neg (show ¬ s.val < c.val from h)]
      iintro ⟨H1, -, H2⟩
      isplitl [H1] <;> iassumption
  iintro ⟨⟨H1, H2⟩, H3, H4⟩
  ihave H3' := (fewer (Finset.subset_univ (Finset.univ.erase 7)) fun s : Fin 8 => (cred (tallyAt (prC c s) () ((if s < c then 1 else 0) * NP)) : sProp 𝕄)) $$ H3
  isplitl [H1]; · iexact H1
  iapply h
  isplitl [H2]; · iexact H2
  isplitl [H3'] <;> iassumption

/-- What the answers need. -/
theorem tickets (c : Dev nD) :
    iprop((bigSep Finset.univ fun s : Fin 8 => cred (tallyAt (qrC c s) () ((if c < s then 1 else 0) * NQ)))
      ∗ (bigSep Finset.univ fun s : Fin 8 => atPos ER (qrC c s) 0 ∅ 0)
      ∗ (bigSep Finset.univ fun s : Fin 8 => iprop(∃ f, psAt (F := F) c s f))
      ∗ (bigSep Finset.univ fun o => dutyTok ER (psC c o) 0 c)
      ∗ bigSep Finset.univ fun o : Fin 7 => if c.val + (o.val + 1) < 8 then dutyTok ER (prC (nx o c) c) 0 c else iprop(emp))
    ⊢ iprop((bigSep Finset.univ fun o => TA (F := F) c o)
      ∗ (bigSep (Finset.univ.filter fun s => ¬ c < s) fun s : Fin 8 => atPos ER (qrC c s) 0 ∅ 0)
      ∗ bigSep (Finset.univ.filter fun s => ¬ c < s) fun s : Fin 8 => iprop(∃ f, psAt (F := F) c s f)) := by
  have hc : (bigSep Finset.univ fun s : Fin 8 => cred (tallyAt (qrC c s) () ((if c < s then 1 else 0) * NQ)) : sProp 𝕄)
      ⊢ bigSep Finset.univ fun o : Fin 7 => if c.val + (o.val + 1) < 8 then cred (tallyAt (qrC c (nx o c)) () NQ) else iprop(emp) := by
    refine ((fewer (Finset.filter_subset (fun s => c < s) _) _).trans (mono fun s hs => ?_)).trans
      (Entails.of_eq (over_ups c fun s => (cred (tallyAt (qrC c s) () NQ) : sProp 𝕄)))
    rw [if_pos (Finset.mem_filter.1 hs).2, Nat.one_mul]
  unfold TA
  iintro ⟨Hc, Ha, Hp, Ht, Hu⟩
  ihave Hc := hc $$ Hc
  ihave Ha := (upwards c fun s => (atPos ER (qrC c s) 0 ∅ 0 : sProp 𝕄)) $$ Ha
  ihave Hp := (upwards c fun s => iprop(∃ f, psAt (F := F) c s f)) $$ Hp
  ihave Ht := (only (fun o : Fin 7 => c.val + (o.val + 1) < 8) fun o => (dutyTok ER (psC c o) 0 c : sProp 𝕄)) $$ Ht
  icases Ha with ⟨Ha, Ha'⟩
  icases Hp with ⟨Hp, Hp'⟩
  isplitr [Ha' Hp']
  · iapply (both (fun o : Fin 7 => c.val + (o.val + 1) < 8))
    isplitl [Hc]; · iexact Hc
    iapply (both (fun o : Fin 7 => c.val + (o.val + 1) < 8))
    isplitl [Ha]; · iexact Ha
    iapply (both (fun o : Fin 7 => c.val + (o.val + 1) < 8))
    isplitl [Hp]; · iexact Hp
    iapply (both (fun o : Fin 7 => c.val + (o.val + 1) < 8))
    isplitl [Ht] <;> iassumption
  isplitl [Ha'] <;> iassumption

theorem gifts (c : Dev nD) :
    iprop((bigSep Finset.univ fun o => dutyTok ER (barC (nx o c)) 0 c)
      ∗ (bigSep (Finset.univ.filter fun d => d < c) fun d => give (F := F) c d) ∗ bigSep (Finset.univ.filter fun d => c < d) fun d => give (F := F) c d)
    ⊢ bigSep Finset.univ fun o => iprop(dutyTok ER (barC (nx o c)) 0 c ∗ give (F := F) c (nx o c)) := by
  rw [← others_split, over_nx, ← bigSep_sep']

theorem askings (c : Dev nD) :
    iprop((bigSep Finset.univ fun o => dutyTok ER (qsC c o) 0 c)
      ∗ bigSep Finset.univ fun o : Fin 7 => if o.val + 1 ≤ c.val then dutyTok ER (qrC (dn o c) c) 0 c else iprop(emp))
    ⊢ bigSep Finset.univ fun o => TQ (F := F) c o := by
  unfold TQ
  iintro ⟨H1, H2⟩
  iapply (both (fun o : Fin 7 => o.val + 1 ≤ c.val))
  isplitl [H1]
  · iapply (only (fun o : Fin 7 => o.val + 1 ≤ c.val) fun o => (dutyTok ER (qsC c o) 0 c : sProp 𝕄)); iexact H1
  iexact H2

/-- All of it, put as the program takes it. -/
theorem pre_intro (c : Dev nD) :
    iprop(owesE c (O₀ c) ∗ Pipeline.launchCred O₀ c ∗ linear c ∗ scratches c) ⊢ iprop(bodyPre (F := F) c ∗ kept (F := F) c) := by
  unfold linear scratches
  rw [cells_by_use c fun g => (atPos ER g 0 ∅ 0 : sProp 𝕄)]
  unfold bodyPre kept
  iintro ⟨HO, Hc, ⟨⟨Hb, Hqs, Hqr, Hps, Hpr⟩, Ht⟩, Hq, Hp, Hr⟩
  ihave Hc := (creds (F := F) c) $$ Hc
  ihave Ht := (tokens (F := F) c) $$ Ht
  ihave Hq := (cut_q (F := F) c) $$ Hq
  ihave Hp := (cut_ps (F := F) c) $$ Hp
  ihave Hr := (cut_pr (F := F) c) $$ Hr
  ihave Hq := (queries (F := F) c) $$ Hq
  ihave Hr := (received (F := F) c) $$ Hr
  icases Hc with ⟨Hc1, Hc2, Hc3⟩
  icases Ht with ⟨Ht1, Ht2, Ht3, Ht4, Ht5⟩
  icases Hq with ⟨Hq, Hq', Hg1⟩
  icases Hr with ⟨Hg2, Hr', Hr⟩
  ihave HA := (tickets (F := F) c) $$ [Hc2 Hqr Hp Ht3 Ht5]
  · isplitl [Hc2]; · iexact Hc2
    isplitl [Hqr]; · iexact Hqr
    isplitl [Hp]; · iexact Hp
    isplitl [Ht3] <;> iassumption
  ihave HP := (answered (F := F) c) $$ [Hpr Hc3 Hr]
  · isplitl [Hpr]; · iexact Hpr
    isplitl [Hc3] <;> iassumption
  ihave HG := (gifts (F := F) c) $$ [Ht1 Hg1 Hg2]
  · isplitl [Ht1]; · iexact Ht1
    isplitl [Hg2] <;> iassumption
  ihave HQ := (askings (F := F) c) $$ [Ht2 Ht4]
  · isplitl [Ht2] <;> iassumption
  icases HA with ⟨HA, HA1, HA2⟩
  icases HP with ⟨HP1, HP⟩
  isplitr [Hq' HA1 HA2 HP1 Hr']
  · isplitl [HO]; · iexact HO
    isplitl [Hc1 Hb]
    · isplitl [Hc1] <;> iassumption
    isplitl [HG]; · iexact HG
    isplitl [Hq]; · iexact Hq
    isplitl [HQ]; · iexact HQ
    isplitl [HA]; · iexact HA
    isplitl [Hqs Hps]
    · isplitl [Hqs] <;> iassumption
    iexact HP
  · isplitl [Hq']; · iexact Hq'
    isplitl [HA2]; · iexact HA2
    isplitl [Hr']; · iexact Hr'
    isplitl [HA1] <;> iassumption

/-! ### And at the end -/

theorem somewhere {J : Type} {S : Finset J} {A : Type} (Φ : J → A → sProp 𝕄) (f : A) :
    (bigSep S fun j => Φ j f : sProp 𝕄) ⊢ bigSep S fun j => iprop(∃ f, Φ j f) :=
  mono fun j _ => by iintro H; iexists f; iexact H

theorem end_q (c : Dev nD) :
    iprop(qAt c c fullShare I.qAll ∗ (bigSep (Finset.univ.filter fun s => s < c) fun s : Fin 8 => iprop(∃ f, qAt (F := F) c s fullShare f))
      ∗ bigSep Finset.univ fun o : Fin 7 => if c.val + (o.val + 1) < 8 then qAt c (nx o c) fullShare I.qAll else iprop(emp))
    ⊢ (iprop(∃ f : Buf (Elt F) ((c : Thread nD τ).loc cc0_scratch0), ((c : Thread nD τ).loc cc0_scratch0) ↦{fullShare} f) : sProp 𝕄) := by
  refine BIBase.Entails.trans ?_ (join_q c I.qAll)
  rw [← over_ups c fun s => qAt (F := F) c s fullShare I.qAll, split_own c fun s => iprop(∃ f, qAt (F := F) c s fullShare f)]
  iintro ⟨H1, H2, H3⟩
  isplitl [H1]; · iexists _; iexact H1
  isplitl [H2]; · iexact H2
  iapply (somewhere (fun (s : Fin 8) (f : QBuf F) => qAt (F := F) c s fullShare f) I.qAll); iexact H3

theorem end_ps (c : Dev nD) :
    iprop((bigSep Finset.univ fun o => SWP I c o) ∗ bigSep (Finset.univ.filter fun s => ¬ c < s) fun s : Fin 8 => iprop(∃ f, psAt (F := F) c s f))
    ⊢ (iprop(∃ f : Buf (Elt F) ((c : Thread nD τ).loc cc0_scratch1), ((c : Thread nD τ).loc cc0_scratch1) ↦{fullShare} f) : sProp 𝕄) := by
  refine BIBase.Entails.trans ?_ (join_ps c (I.psAll c))
  unfold SWP
  rw [← over_ups c fun s => psAt (F := F) c s (I.psAll c), split_at (fun s => c < s)]
  iintro ⟨H1, H2⟩
  isplitl [H1]
  · iapply (somewhere (fun (s : Fin 8) (f : PBuf F) => psAt (F := F) c s f) (I.psAll c)); iexact H1
  iexact H2

theorem end_pr (I : Ins F) (c : Dev nD) :
    iprop((∃ f, prAt (F := F) c 7 f) ∗ bigSep (Finset.univ.erase 7) fun s : Fin 8 => iprop(∃ f, prAt (F := F) c s f))
    ⊢ (iprop(∃ f : Buf (Elt F) ((c : Thread nD τ).loc cc0_scratch2), ((c : Thread nD τ).loc cc0_scratch2) ↦{fullShare} f) : sProp 𝕄) :=
  (Entails.of_eq (split_last _).symm).trans (join_pr c (I.psAll c))

variable (K : Dev nD × Fin 31 → ℕ)

theorem close_all (c : Dev nD) : iprop(recs I K ∗ bigSep Finset.univ fun k : Fin 31 => done I (cell c k))
    ⊢ iprop(|={Set.univ}=> bigSep Finset.univ fun k : Fin 31 => semVal (cell c k) 0) := by
  refine ((sep_mono_left (BI.bigSep_of_persistent (Finset.univ : Finset (Fin 31)) (recs I K))).trans ?_).trans (bigSep_fupd _ _)
  rw [← bigSep_sep']
  exact mono fun k _ => done_close I K (c, k)

theorem end_elim (c : Dev nD) : iprop(recs I K ∗ bodyEnd I c ∗ kept (F := F) c)
    ⊢ iprop(|={Set.univ}=> (owesE c 0 ∗ scratches c ∗ bigSep Finset.univ fun k : Fin 31 => semVal (cell c k) 0)) := by
  unfold bodyEnd kept SA PRout scratches
  rw [bigSep_sep']
  iintro ⟨#HR, ⟨HO, Hb, Hq, HA, HP, ⟨Hqs, Hps⟩, Hpr, Hr⟩, Hq', Hp', Hr', Hqr, Hp7⟩
  ihave HA := (apart (fun o : Fin 7 => c.val + (o.val + 1) < 8) _ _) $$ HA
  icases HA with ⟨HA, Hd⟩
  ihave Hz := (mono (S := Finset.univ.filter fun s : Fin 8 => ¬ c < s) fun s hs => done_zero I (qrC c s) (no_qr I c s (Finset.mem_filter.1 hs).2)) $$ Hqr
  ihave Hz7 := (done_zero I (prC c 7) (no_pr I c 7 (not_above c))) $$ Hp7
  ihave H0 := (end_q I c) $$ [Hq Hq' HA]
  · isplitl [Hq]; · iexact Hq
    isplitl [Hq'] <;> iassumption
  ihave H1 := (end_ps I c) $$ [HP Hp']
  · isplitl [HP] <;> iassumption
  ihave H2 := (end_pr I c) $$ [Hr Hr']
  · isplitl [Hr'] <;> iassumption
  imod (close_all I K c) $$ [HR Hb Hqs Hps Hd Hz Hz7 Hpr] with Hs
  · isplitr; · iexact HR
    iapply (Entails.of_eq (cells_by_use c fun g => done I g).symm)
    isplitl [Hb]; · iexact Hb
    isplitl [Hqs]; · iexact Hqs
    isplitl [Hd Hz]
    · iapply (upwards_back c fun s => done I (qrC c s))
      isplitl [Hd] <;> iassumption
    isplitl [Hps]; · iexact Hps
    iapply (Entails.of_eq (split_last fun s => done I (prC c s)).symm)
    isplitl [Hz7] <;> iassumption
  imodintro
  isplitl [HO]; · iexact HO
  isplitr [Hs]
  · isplitl [H0]; · iexact H0
    isplitl [H1] <;> iassumption
  iexact Hs

end Cert.KernelIdeal.Attn
-- ==== Proof.Fund.lean ====
module

public import proofs.«01_k».proof.Proof.Deal

/-!
# The cells opened

The cells of all devices are set up together, and their records, positions and tokens dealt.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (I : Ins F)

/-- The kernel's own semaphores. -/
abbrev osem : Fin 30 → SemLoc sig := fun i => .dma ⟨6 + i.val, by have := i.isLt; show 6 + i.val < 36; omega⟩

theorem ownSemFacts : Pipeline.OwnSemFacts cfg0.spec osem := by decide

def cells : Finset (GSem nD τ sig) := Finset.univ.map ⟨fun ck : Dev nD × Fin 31 => cell ck.1 ck.2, cell_inj⟩

/-- Every duty a device may have at a cell, in the first round. -/
abbrev tokOf (x : (Dev nD × Fin 31) × Dev nD) : GSem nD τ sig × ℕ × Dev nD := (cell x.1.1 x.1.2, 0, x.2)
theorem tokOf_inj : Function.Injective tokOf := by
  rintro ⟨a, d⟩ ⟨b, e⟩ h
  have h1 : a = b := cell_inj (congrArg Prod.fst h)
  have h2 : d = e := congrArg (fun y : GSem nD τ sig × ℕ × Dev nD => y.2.2) h
  rw [h1, h2]
def toks : Finset (GSem nD τ sig × ℕ × Dev nD) := Finset.univ.map ⟨tokOf, tokOf_inj⟩

def u₀ : UU := (initOf (Pipeline.cells cfgs cellOf_inj) (Pipeline.launchToks cfgs cellOf_inj), initOf cells toks)

/-- What each device is dealt of its own cells. -/
def G (c : Dev nD) : sProp 𝕄 :=
  iprop((bigSep Finset.univ fun k : Fin 31 => roundState ER (Rd I) (cell c k) 0)
    ∗ ((bigSep Finset.univ fun k : Fin 31 => atPos ER (cell c k) 0 ∅ 0) ∗ bigSep Finset.univ fun k : Fin 31 => reached ER (cell c k) 0)
    ∗ bigSep Finset.univ fun k : Fin 31 => bigSep Finset.univ fun d : Dev nD => dutyTok ER (cell c k) 0 d)

theorem fund_cells : BI.own (ER (initOf cells toks)) ⊢ (|==> bigSep Finset.univ (G I) : sProp 𝕄) := by
  have hX (Φ : GSem nD τ sig → sProp 𝕄) : bigSep cells Φ = bigSep Finset.univ fun c : Dev nD => bigSep Finset.univ fun k : Fin 31 => Φ (cell c k) := by
    unfold cells; rw [bigSep_map, bigSep_univ_prod]; rfl
  have hT : bigSep toks (fun x => (dutyTok ER x.1 x.2.1 x.2.2 : sProp 𝕄))
      = bigSep Finset.univ fun c : Dev nD => bigSep Finset.univ fun k : Fin 31 => bigSep Finset.univ fun d : Dev nD => dutyTok ER (cell c k) 0 d := by
    unfold toks; rw [bigSep_map, bigSep_univ_prod, bigSep_univ_prod]; rfl
  iintro HX
  imod (Rounds.fund ER (Rd I) cells toks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The cells' counters -/

def thirty : List (Fin 30) := List.finRange 30

theorem own_list (c : Dev nD) : (Pipeline.ownSems0 (Ix := Unit) (Name := ℕ) (U := UU) (Lvl := ℕ) (Val := Elt F) (τ := τ) osem c : sProp 𝕄)
    = bigSepL thirty fun i => semVal (cell c ⟨i.val + 1, by have := i.isLt; omega⟩) 0 := by
  rw [Pipeline.ownSems0_eq_of_list c osem thirty (by decide) (by decide)]
  rfl

theorem unscoped_eq (c : Dev nD) : (unscopedSems0 c : sProp 𝕄) = semVal (barC c) 0 := by
  unfold unscopedSems0; rw [bigSep_eq_bigSepL_of_eq [csem kBar] (by decide) (by decide)]; rfl

theorem sems_eq (c : Dev nD) : (bigSep Finset.univ fun k : Fin 31 => semVal (cell c k) 0 : sProp 𝕄)
    = iprop(unscopedSems0 c ∗ Pipeline.ownSems0 (Ix := Unit) (Name := ℕ) (U := UU) (Lvl := ℕ) (Val := Elt F) (τ := τ) osem c) := by
  rw [own_list, unscoped_eq, bigSep_univ_eq_bigSepL (kBar :: thirty.map fun i => (⟨i.val + 1, by have := i.isLt; omega⟩ : Fin 31)) (by decide) (by decide),
    bigSepL_cons', bigSepL_map]
  rfl

/-! ### The cells opened, and everything dealt -/

/-- The records of all cells, the levels aside. -/
def known (K : Dev nD × Fin 31 → ℕ) : sProp 𝕄 :=
  iprop((bigSep Finset.univ fun ck : Dev nD × Fin 31 => cellInv ER (Rd I) (K ck) (cell ck.1 ck.2))
    ∗ bigSep Finset.univ fun ck : Dev nD × Fin 31 => reached ER (cell ck.1 ck.2) 0)

instance known_persistent (K : Dev nD × Fin 31 → ℕ) : BI.Persistent (known (F := F) I K) := by unfold known; infer_instance

def G' (c : Dev nD) : sProp 𝕄 := iprop((∃ K, known I K) ∗ linear (F := F) c)

theorem opened (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (cell c k)))
          ∗ ((bigSep Finset.univ fun k : Fin 31 => atPos ER (cell c k) 0 ∅ 0) ∗ bigSep Finset.univ fun k : Fin 31 => reached ER (cell c k) 0)
          ∗ bigSep Finset.univ fun k : Fin 31 => bigSep Finset.univ fun d : Dev nD => dutyTok ER (cell c k) 0 d) := by
  have h : iprop((bigSep Finset.univ fun k : Fin 31 => semVal (cell c k) 0) ∗ bigSep Finset.univ fun k : Fin 31 => roundState ER (Rd I) (cell c k) 0)
      ⊢ (|={Set.univ}=> bigSep Finset.univ fun k => iprop(∃ κ : ℕ, cellInv ER (Rd I) κ (cell c k)) : sProp 𝕄) := by
    rw [← bigSep_sep']
    exact (mono fun k _ => (Rounds.body_intro ER (Rd I) (cell c k)).trans inv_alloc).trans (bigSep_fupd _ _)
  rw [sems_eq] at h
  unfold G
  iintro ⟨Hos, Hus, Hst, Hat, Htok⟩
  imod h $$ [Hos Hus Hst] with Hinv
  · isplitl [Hos Hus]
    · isplitl [Hus] <;> iassumption
    iexact Hst
  imodintro
  isplitl [Hinv]; · iexact Hinv
  isplitl [Hat] <;> iassumption

theorem dealt :
    (bigSep Finset.univ fun c : Dev nD => iprop((bigSep Finset.univ fun k => iprop(∃ κ : ℕ, cellInv ER (Rd I) κ (cell c k)))
          ∗ ((bigSep Finset.univ fun k : Fin 31 => atPos ER (cell c k) 0 ∅ 0) ∗ bigSep Finset.univ fun k : Fin 31 => reached ER (cell c k) 0)
          ∗ bigSep Finset.univ fun k : Fin 31 => bigSep Finset.univ fun d : Dev nD => dutyTok ER (cell c k) 0 d) : sProp 𝕄)
      ⊢ bigSep Finset.univ (G' I) := by
  have hT : (bigSep Finset.univ fun c : Dev nD => bigSep Finset.univ fun k : Fin 31 => bigSep Finset.univ fun d : Dev nD => dutyTok ER (cell c k) 0 d : sProp 𝕄)
      = bigSep Finset.univ fun d : Dev nD => bigSep Finset.univ fun c : Dev nD => bigSep Finset.univ fun k : Fin 31 => dutyTok ER (cell c k) 0 d := by
    rw [bigSep_univ_comm fun (d c : Dev nD) => (bigSep Finset.univ fun k : Fin 31 => dutyTok ER (cell c k) 0 d : sProp 𝕄)]
    exact bigSep_congr fun c _ => bigSep_univ_comm _
  rw [bigSep_sep', bigSep_sep', bigSep_sep', ← bigSep_univ_prod (fun ck : Dev nD × Fin 31 => iprop(∃ κ : ℕ, cellInv ER (Rd I) κ (cell ck.1 ck.2))),
    ← bigSep_univ_prod (fun ck : Dev nD × Fin 31 => (reached ER (cell ck.1 ck.2) 0 : sProp 𝕄)), hT]
  have hL (K : Dev nD × Fin 31 → ℕ) : iprop(known I K ∗ (bigSep Finset.univ fun c : Dev nD => linear (F := F) c)) ⊢ bigSep Finset.univ (G' I) := by
    refine (sep_mono_left (BI.bigSep_of_persistent (Finset.univ : Finset (Dev nD)) (known I K))).trans ?_
    rw [← bigSep_sep']
    refine mono fun c _ => ?_
    unfold G'
    iintro ⟨H1, H2⟩
    isplitl [H1]; · iexists K; iexact H1
    iexact H2
  iintro ⟨HI, ⟨Hat, #HR⟩, Htok⟩
  ihave HK := (BI.bigSep_exists_pi Finset.univ (fun (ck : Dev nD × Fin 31) (κ : ℕ) => (cellInv ER (Rd I) κ (cell ck.1 ck.2) : sProp 𝕄))) $$ HI
  icases HK with ⟨%K, #HI⟩
  iapply (hL K)
  isplitr
  · unfold known
    isplitr; · iexact HI
    iexact HR
  · unfold linear
    iapply (Entails.of_eq (bigSep_sep' Finset.univ (fun c : Dev nD => (bigSep Finset.univ fun k : Fin 31 => atPos ER (cell c k) 0 ∅ 0 : sProp 𝕄)) _).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((mono fun c _ => opened I c).trans (bigSep_fupd _ _)).trans (BI.fupd_mono (dealt I))

end Cert.KernelIdeal.Attn
-- ==== Proof.BodyEq.lean ====
module

public import proofs.«01_k».proof.Proof.Body
public import Idealize.ShloMosaic.Lib.Pipeline.Regions

/-!
# The printed body is the body of blocks
-/

@[expose] public noncomputable section

namespace Cert.KernelIdeal.Attn

open Idealize.ShloMosaic Idealize.SL.Sem Cert.KernelIdeal Cert.KernelIdeal.Gen

variable {F : FTy → Type} [FloatOps F] [Named F]

/-- What a program goes on with once it is told its device. -/
def told : PR F → Dev nD → PR F
  | .op .deviceId k, d => k d
  | p, _ => p

theorem forall8 {P : Fin 8 → Prop} (h0 : P 0) (h1 : P 1) (h2 : P 2) (h3 : P 3) (h4 : P 4) (h5 : P 5)
    (h6 : P 6) (h7 : P 7) : ∀ d, P d
  | 0 => h0 | 1 => h1 | 2 => h2 | 3 => h3 | 4 => h4 | 5 => h5 | 6 => h6 | 7 => h7

/-- The printed body, at the buffers it runs on. -/
abbrev printed : PR F :=
  cc0_body (F := F) xM (hstage0_0 0) wqM (hstage0_1 0) kM (hstage0_2 0) vM (hstage0_3 0) woM (hstage0_4 0)
    outM (hstage0_5 0) qM qM_whole psM psM_whole prM prM_whole cc0_scratch3 cc0_scratch4 cc0_scratch5 cc0_scratch6

theorem told_printed0 : told (printed (F := F)) 0 = body 0 := by chain_rfl
theorem told_printed1 : told (printed (F := F)) 1 = body 1 := by chain_rfl
theorem told_printed2 : told (printed (F := F)) 2 = body 2 := by chain_rfl
theorem told_printed3 : told (printed (F := F)) 3 = body 3 := by chain_rfl
theorem told_printed4 : told (printed (F := F)) 4 = body 4 := by chain_rfl
theorem told_printed5 : told (printed (F := F)) 5 = body 5 := by chain_rfl
theorem told_printed6 : told (printed (F := F)) 6 = body 6 := by chain_rfl
theorem told_printed7 : told (printed (F := F)) 7 = body 7 := by chain_rfl

theorem told_printed : ∀ d : Dev nD, told (printed (F := F)) d = body d :=
  forall8 told_printed0 told_printed1 told_printed2 told_printed3 told_printed4 told_printed5 told_printed6
    told_printed7

theorem printed_eq : printed (F := F) = .op .deviceId fun d => body d := by
  have h := funext (told_printed (F := F))
  refine Eq.trans ?_ (congrArg (Prog.op TpuEff.deviceId) h)
  chain_rfl

end Cert.KernelIdeal.Attn
-- ==== Proof.Launch.lean ====
module

public import proofs.«01_k».proof.Proof.Fund
public import proofs.«01_k».proof.Proof.BodyEq
public import proofs.«01_k».proof.Proof.Gen.KernelIdeal.Launch
public import proofs.«01_k».proof.Proof.Gen.KernelIdeal.Points
public import Idealize.ShloMosaic.Lib.Pipeline.CollectiveSegs
public import Idealize.ShloMosaic.Lib.Quiescent

/-!
# The run

The region set up on every device, and the run of the whole program.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ### The operands in memory -/

/-- The operands as every device has them in memory. -/
def insOf : Ins F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-! ### The region's data -/

def start (c : Dev nD) : sProp 𝕄 := iprop(G' (insOf m) c ∗ Pipeline.launchCred O₀ c ∗ levAts L lv)
def Φ₀ (c : Dev nD) : sProp 𝕄 := iprop(start m c ∗ scratches (F := F) c)
def Φ₁ (c : Dev nD) : sProp 𝕄 := iprop(scratches (F := F) c ∗ bigSep Finset.univ fun k : Fin 31 => semVal (cell c k) 0)

def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).k c
    | ⟨3, _⟩ => (insOf m).v c
    | ⟨4, _⟩ => (insOf m).wo c
    | ⟨5, _⟩ => (insOf m).out c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem at_stage (c : Dev nD) (b : Ref sig .tc) (X : b.ty.Contents (Elt F)) : stg c b X ⊢ has c b X := by
  iintro ⟨%f, %hf, H⟩
  subst hf
  iexact H
theorem to_stage (c : Dev nD) (b : Ref sig .tc) (X : b.ty.Contents (Elt F)) : has c b X ⊢ stg c b X := by
  iintro H; iexists X; isplitr; · (ipureintro; rfl)
  iexact H

theorem before_0 (c : Dev nD) (d) : (dats m 0 c).before (0 : Fin 6) t0_0 d = (insOf m).x c := by
  unfold Dat.before; rw [if_pos (fetch0_0 t0_0)]; rfl
theorem before_1 (c : Dev nD) (d) : (dats m 0 c).before (1 : Fin 6) t0_0 d = (insOf m).wq c := by
  unfold Dat.before; rw [if_pos (fetch0_1 t0_0)]; rfl
theorem before_2 (c : Dev nD) (d) : (dats m 0 c).before (2 : Fin 6) t0_0 d = (insOf m).k c := by
  unfold Dat.before; rw [if_pos (fetch0_2 t0_0)]; rfl
theorem before_3 (c : Dev nD) (d) : (dats m 0 c).before (3 : Fin 6) t0_0 d = (insOf m).v c := by
  unfold Dat.before; rw [if_pos (fetch0_3 t0_0)]; rfl
theorem before_4 (c : Dev nD) (d) : (dats m 0 c).before (4 : Fin 6) t0_0 d = (insOf m).wo c := by
  unfold Dat.before; rw [if_pos (fetch0_4 t0_0)]; rfl

theorem owesE_of (c : Dev nD) : (dats (F := F) m 0 c).owesAt () (t0_0 : Fin cfg0.N).castSucc ⊢ owesE (F := F) c (O₀ c) := by
  unfold Dat.owesAt Pipeline.owesWithin owesE
  iintro ⟨%W, -, H⟩
  iexists W
  iexact H
theorem of_owesE (c : Dev nD) : owesE (F := F) c 0 ⊢ (dats (F := F) m 0 c).owesAt () (t0_0 : Fin cfg0.N).succ := by
  unfold Dat.owesAt Pipeline.owesWithin owesE
  iintro ⟨%W, H⟩
  iexists W
  isplitr; · ipureintro; exact fun _ _ => Or.inl trivial
  iexact H

theorem recs_of (K : Dev nD × Fin 31 → ℕ) : iprop(known (insOf m) K ∗ levAts L lv) ⊢ recs (insOf m) K := by
  unfold known recs
  iintro ⟨⟨H1, H2⟩, H3⟩
  isplitl [H1]; · iexact H1
  isplitl [H2] <;> iassumption

/-- A device's program, from what the region hands it to what the region takes back. -/
theorem run_device (c : Dev nD) (fo : FVec F S2x128x512 .f32) :
    iprop(Φ₀ m c ∗ owesE c (O₀ c) ∗ args (insOf m) c ∗ has c cc0_stg5_0 fo)
      ⊢ runs c printed fun _ => iprop(Φ₁ c ∗ owesE c 0 ∗ args (insOf m) c ∗ has c cc0_stg5_0 ((insOf m).out c)) := by
  rw [printed_eq]
  unfold runs
  rw [wp_deviceId]
  unfold Φ₀ start G'
  iintro ⟨⟨⟨⟨⟨%K, Hk⟩, Hlin⟩, Hcred, Hlev⟩, Hscr⟩, HO, Hargs, Hout⟩
  ihave HR := (recs_of m K) $$ [Hk Hlev]
  · isplitl [Hk] <;> iassumption
  icases HR with #HR
  ihave Hpre := (pre_intro (F := F) c) $$ [HO Hlin Hcred Hscr]
  · isplitl [HO]; · iexact HO
    isplitl [Hcred]; · iexact Hcred
    isplitl [Hlin] <;> iassumption
  icases Hpre with ⟨Hpre, Hkept⟩
  iapply fupd_wp
  imodintro
  iapply (wp_fupd (Q := fun _ => iprop(Φ₁ c ∗ owesE c 0 ∗ args (insOf m) c ∗ has c cc0_stg5_0 ((insOf m).out c))))
  iapply (run_body (insOf m) K c fo) $$ [Hpre Hargs Hout]
  · isplitr; · iexact HR
    isplitl [Hpre]; · iexact Hpre
    isplitl [Hargs] <;> iassumption
  iintro ⟨Hend, Hargs, Hout⟩
  imod (end_elim (insOf m) K c) $$ [Hend Hkept] with ⟨HO, Hscr, Hsem⟩
  · isplitr; · iexact HR
    isplitl [Hend] <;> iassumption
  imodintro
  unfold Φ₁
  isplitl [Hscr Hsem]
  · isplitl [Hscr] <;> iassumption
  isplitl [HO]; · iexact HO
  isplitl [Hargs] <;> iassumption

set_option maxRecDepth 4000 in
def stagePre (c : Dev nD) : sProp 𝕄 :=
  iprop(Φ₀ m c ∗ (dats m 0 c).owesAt () (t0_0 : Fin cfg0.N).castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def stagePost (c : Dev nD) : sProp 𝕄 :=
  iprop(Φ₁ (F := F) c ∗ (dats m 0 c).owesAt () (t0_0 : Fin cfg0.N).succ
    ∗ stg c cc0_stg0_0 ((insOf m).x c) ∗ stg c cc0_stg1_0 ((insOf m).wq c) ∗ stg c cc0_stg2_0 ((insOf m).k c)
    ∗ stg c cc0_stg3_0 ((insOf m).v c) ∗ stg c cc0_stg4_0 ((insOf m).wo c) ∗ stg c cc0_stg5_0 ((insOf m).out c))

theorem staged (c : Dev nD) : stagePre m c ⊢ runs c printed fun _ => stagePost m c := by
  have h (fo : FVec F S2x128x512 .f32) : iprop(Φ₀ m c ∗ owesE c (O₀ c) ∗ args (insOf m) c ∗ has c cc0_stg5_0 fo) ⊢ runs c printed fun _ => stagePost m c := by
    refine (run_device m c fo).trans (wp_mono _ _ _ fun _ => ?_)
    · unfold args stagePost
      iintro ⟨H, HO, ⟨H0, H1, H2, H3, H4⟩, H5⟩
      isplitl [H]; · iexact H
      isplitl [HO]; · iapply (of_owesE m c); iexact HO
      isplitl [H0]; · iapply (to_stage c cc0_stg0_0); iexact H0
      isplitl [H1]; · iapply (to_stage c cc0_stg1_0); iexact H1
      isplitl [H2]; · iapply (to_stage c cc0_stg2_0); iexact H2
      isplitl [H3]; · iapply (to_stage c cc0_stg3_0); iexact H3
      isplitl [H4]; · iapply (to_stage c cc0_stg4_0); iexact H4
      iapply (to_stage c cc0_stg5_0); iexact H5
  unfold stagePre
  simp only [before_0, before_1, before_2, before_3, before_4]
  iintro ⟨H, HO, ⟨%_, H0⟩, ⟨%_, H1⟩, ⟨%_, H2⟩, ⟨%_, H3⟩, ⟨%_, H4⟩, ⟨%d, H5⟩⟩
  iapply (h _)
  isplitl [H]; · iexact H
  isplitl [HO]; · iapply (owesE_of m c); iexact HO
  isplitr [H5]
  · unfold args
    isplitl [H0]; · iapply (at_stage c cc0_stg0_0); iexact H0
    isplitl [H1]; · iapply (at_stage c cc0_stg1_0); iexact H1
    isplitl [H2]; · iapply (at_stage c cc0_stg2_0); iexact H2
    isplitl [H3]; · iapply (at_stage c cc0_stg3_0); iexact H3
    iapply (at_stage c cc0_stg4_0); iexact H4
  iapply (at_stage c cc0_stg5_0); iexact H5

theorem sixfold (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

attribute [local irreducible] cc0_body

set_option maxRecDepth 4000 in
theorem body_obligation (c : Dev nD) : BodyObligation (dats (F := F) m 0 c) (defs₀ (F := F)) 𝒱₀ () Set.univ := fun t => by
  rw [fin_N0 t]
  rw [sixfold, sixfold]
  simp only [owns_whole_eq]
  show stagePre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => stagePost m c)
  exact staged m c

/-! ### The region's launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  iintro ⟨-, Hlev, Hcr, -, HG⟩
  imodintro
  unfold start
  isplitl
  · isplitl [HG]; · iexact HG
    isplitl [Hcr] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratches
  rw [sems_eq]
  iintro ⟨Hr, HU, HO⟩
  isplitl [HU]; · iexact HU
  isplitl [HO] <;> iassumption

theorem waits_ok (c : Dev nD) : (levAts L lv : sProp 𝕄) ⊢ Pipeline.cellsWaits cfgs (dats m) () 0 c :=
  Pipeline.cellsWaits_intro cfgs (dats m) () 0 c fun w s t =>
    mayWait_of c _ _ (by
      rw [show lvK (dec (.dma (((cfgs 0).win w).sem s))) = 0 from by fin_cases w <;> fin_cases s <;> decide]
      rcases t with ⟨_ | _, ht⟩
      · exact above_O₀ c
      · exact Above.zero _)

/-! ### The run -/

/-- What the windows' arrays hold after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory and counters at zero the kernel runs to an end on every device, the arrays as computed and every counter back at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits_ok m)
    (G := G (insOf m)) (G' := G' (insOf m)) (u₀ := u₀)
    (hu₀ := by
      unfold u₀
      iintro Hu
      ihave H := (ownU_pair _ _) $$ Hu
      icases H with ⟨HP, HX⟩
      imod (fund_cells (insOf m)) $$ HX with HG
      imodintro
      isplitl [HP] <;> iassumption)
    (hglob := glob (insOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin cfg0.W) (h : (cfg0.win w).isOut = false) :
    finalA m c w = m ((cfg0.win w).arr.view.loc (c : Thread nD τ)) := (dats (F := F) m 0 c).arrAt_in w h _

end Cert.KernelIdeal.Attn
-- ==== Proof.FrameIdeal.lean ====
module

public import proofs.«01_k».proof.Proof.Launch

/-!
# The frame

The operands end as they were.
-/

@[expose] public noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- The kernel runs to an end from any memory, leaves its operands as they were, and every counter back at zero. -/
def Frame (F : FTy → Type) [FloatOps F] [Named F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame : Frame F := fun m g _ =>
  (θ_run defs _ _).mono (fun _ h => ⟨fun c =>
    ⟨(h.1 c (0 : Fin 6)).trans (final_in m c (0 : Fin 6) rfl), (h.1 c (1 : Fin 6)).trans (final_in m c (1 : Fin 6) rfl),
      (h.1 c (2 : Fin 6)).trans (final_in m c (2 : Fin 6) rfl), (h.1 c (3 : Fin 6)).trans (final_in m c (3 : Fin 6) rfl),
      (h.1 c (4 : Fin 6)).trans (final_in m c (4 : Fin 6) rfl)⟩, h.2⟩) (run_main m g)

end Cert.KernelIdeal.Attn
-- ==== Proof.Same.lean ====
module

public import proofs.«01_k».proof.Defs
public import proofs.«01_k».proof.Proof.Gen.Kernel
public import proofs.«01_k».proof.Proof.FrameIdeal

/-!
# The kernel as printed

The kernel as printed and the idealized one are one program but for the mask: where the one has the
number, the other has a name. Read with the number for the name, the second is the first, and what
was shown of it for any floats holds of the first.
-/

@[expose] public noncomputable section

namespace Cert.KernelIdeal.Attn

open Idealize.ShloMosaic Idealize.SL.Sem

/-- Every name read as the number it stands for. -/
abbrev numbers : Named Bits := ⟨fun _ _ {φ} bits => Scalar.ofBits φ bits⟩

theorem same : @Frame Bits _ numbers = Cert.quiescent_Kernel := by chain_rfl

theorem frame_printed : Cert.quiescent_Kernel := same.mp (@frame Bits _ numbers)

end Cert.KernelIdeal.Attn
-- ==== Proof.RefFrame.lean ====
module

public import proofs.«01_k».proof.Defs
public import proofs.«01_k».proof.Proof.Gen.ReferenceIdeal.Run
public import Idealize.ShloMosaic.Lib.Quiescent

/-!
# The reference's frame, and the named mask

The reference runs on the host and has no counters; the mask's name stands for minus infinity.
-/

@[expose] public noncomputable section

namespace Cert.ReferenceIdeal.Attn

open Idealize.ShloMosaic Idealize.SL.Sem

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem mask_named : Cert.preserves_Kernel_KernelIdeal :=
  IdealRules.named_const.statement Cert.KernelIdeal.κ "mask" .f32 0xCE6E6B28#32 ⊥ rfl

end Cert.ReferenceIdeal.Attn
-- ==== Proof.Finite.lean ====
module

public import proofs.«01_k».proof.Defs
public import Idealize.ShloMosaic.Lib.Pointwise
public import Idealize.ShloMosaic.Lib.ReduceAll

/-!
# What the precondition says

Every input, query weight and key of every device is a real number.
-/

@[expose] public noncomputable section

namespace Cert.KernelIdeal.Attn

open Idealize.ShloMosaic Idealize.SL.Sem

theorem pre_facts : Cert.Pre_finite_scores_KernelIdeal.Facts :=
  ⟨by decide, by decide, by decide, by decide, by decide, by decide, by decide⟩

theorem pre_facts_reference : Cert.Pre_finite_scores_ReferenceIdeal.Facts :=
  ⟨by decide, by decide, by decide, by decide, by decide, by decide, by decide⟩

/-- Every element is a real number. -/
def AllReal {s : Shape} (a : FVec Ideal s .f32) : Prop := ∀ i, ∃ r : ℝ, a i = r

/-- A number of absolute value below infinity is real. -/
theorem real_of_abs (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | coe x => exact ⟨x, rfl⟩
  | bot => simp [Ideal.cmp] at h
  | top => simp [Ideal.cmp] at h

theorem real_all {s : Shape} {axes : List (Fin s.rank)} (a : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (j : (⟨0, ![]⟩ : Shape).Idx)
    (h : Host.reduce IntOp.andi (cmpf .olt (Host.absf a) (broadcastInDim s ![] hb (constant ⟨0, ![]⟩ .f32 0x7F800000#32))) (constantI ⟨0, ![]⟩ 1 1#1) hr hu j = 1#1)
    : AllReal a := by
  haveI : Subsingleton (⟨0, ![]⟩ : Shape).Idx := ⟨fun x y => funext fun b => b.elim0⟩
  exact fun i => real_of_abs (a i) (Host.reduce_andi_all _ _ hr hu j h i)

theorem and_one : ∀ x y : BitVec 1, IntOp.andi x y = 1#1 → x = 1#1 ∧ y = 1#1 := by decide

variable [hP : Cert.Pre_finite_scores_KernelIdeal.Facts]

theorem real_of_pre (m : (ℓ : Loc Cert.KernelIdeal.nD Cert.KernelIdeal.τ Cert.KernelIdeal.sig) → Buf (Elt Ideal) ℓ)
    (h : Cert.Pre_KernelIdeal_finite_scores_KernelIdeal m) (c : Dev Cert.KernelIdeal.nD) :
    AllReal (s := ⟨3, ![2, 128, 512]⟩) (m ((c.tc : Thread Cert.KernelIdeal.nD Cert.KernelIdeal.τ).loc Cert.KernelIdeal.main_arg0))
    ∧ AllReal (s := ⟨2, ![512, 256]⟩) (m ((c.tc : Thread Cert.KernelIdeal.nD Cert.KernelIdeal.τ).loc Cert.KernelIdeal.main_arg1))
    ∧ AllReal (s := ⟨4, ![2, 128, 4, 64]⟩) (m ((c.tc : Thread Cert.KernelIdeal.nD Cert.KernelIdeal.τ).loc Cert.KernelIdeal.main_arg2)) := by
  have h0 := congrFun (h c) (fun b => b.elim0)
  obtain ⟨h12, h3⟩ := and_one _ _ h0
  obtain ⟨h1, h2⟩ := and_one _ _ h12
  exact ⟨real_all _ _ _ _ _ h1, real_all _ _ _ _ _ h2, real_all _ _ _ _ _ h3⟩

end Cert.KernelIdeal.Attn
-- ==== Proof.Soft.lean ====
module

public import Idealize.ShloMosaic.Lib.Pointwise

/-!
# Softmax sums taken piece by piece

Of a family of scores `s` and values `v` over the extended reals, a set `S` of indices has
three numbers: the largest score, the sum of the exponentials of the scores less that largest
one, and the sum of the values with these exponentials as weights.  Here: the numbers of a
disjoint union from those of the two parts, and the quotient of the last two for the whole
family.
-/

@[expose] public noncomputable section

namespace Cert.KernelIdeal.Attn

open Idealize.ShloMosaic

/-! ### Exponentials of differences -/

theorem exp_bot : Ideal.exp ⊥ = 0 := rfl

theorem exp_coe (x : ℝ) : Ideal.exp (x : EReal) = ((Real.exp x : ℝ) : EReal) := rfl

theorem exp_sub_top (s : EReal) : Ideal.exp (s - ⊤) = 0 := by
  rw [sub_eq_add_neg, EReal.neg_top, EReal.add_bot, exp_bot]

theorem exp_bot_sub (m : EReal) : Ideal.exp (⊥ - m) = 0 := by
  rw [sub_eq_add_neg, EReal.bot_add, exp_bot]

/-- The exponential of a score less a larger one is a real number between `0` and `1`. -/
theorem exp_sub_real {s m : EReal} (h : s ≤ m) : ∃ x : ℝ, 0 ≤ x ∧ Ideal.exp (s - m) = x := by
  induction m using EReal.rec with
  | bot => rw [le_bot_iff.1 h]; exact ⟨0, le_rfl, exp_bot_sub _⟩
  | top => exact ⟨0, le_rfl, exp_sub_top _⟩
  | coe m =>
    induction s using EReal.rec with
    | bot => exact ⟨0, le_rfl, exp_bot_sub _⟩
    | top => exact absurd h (not_le.2 (EReal.coe_lt_top m))
    | coe s => exact ⟨Real.exp (s - m), (Real.exp_pos _).le, by rw [← EReal.coe_sub, exp_coe]⟩

/-- Two steps up from a score to a larger one compose. -/
theorem exp_sub_mul {s m m' : EReal} (h : s ≤ m) (h' : m ≤ m') :
    Ideal.exp (s - m) * Ideal.exp (m - m') = Ideal.exp (s - m') := by
  induction m' using EReal.rec with
  | bot => rw [le_bot_iff.1 h', le_bot_iff.1 (h.trans h'), exp_bot_sub, zero_mul]
  | top => rw [exp_sub_top, exp_sub_top, mul_zero]
  | coe m' =>
    induction m using EReal.rec with
    | bot => rw [le_bot_iff.1 h, exp_bot_sub, exp_bot_sub, zero_mul]
    | top => exact absurd h' (not_le.2 (EReal.coe_lt_top m'))
    | coe m =>
      induction s using EReal.rec with
      | bot => rw [exp_bot_sub, exp_bot_sub, zero_mul]
      | top => exact absurd h (not_le.2 (EReal.coe_lt_top m))
      | coe s =>
        rw [← EReal.coe_sub, ← EReal.coe_sub, ← EReal.coe_sub, exp_coe, exp_coe, exp_coe, ← EReal.coe_mul, ← Real.exp_add,
          sub_add_sub_cancel]

/-! ### Sums times a real number -/

theorem sum_mul_real {ι : Type} (S : Finset ι) (f : ι → EReal) {x : ℝ} (hx : 0 ≤ x) :
    (∑ i ∈ S, f i) * (x : EReal) = ∑ i ∈ S, f i * (x : EReal) := by
  classical
  induction S using Finset.induction_on with
  | empty => rw [Finset.sum_empty, Finset.sum_empty, zero_mul]
  | insert a S ha ih =>
    rw [Finset.sum_insert ha, Finset.sum_insert ha,
      EReal.right_distrib_of_nonneg_of_ne_top (EReal.coe_nonneg.2 hx) (EReal.coe_ne_top x), ih]

theorem coe_sum {ι : Type} (S : Finset ι) (f : ι → ℝ) : ((∑ i ∈ S, f i : ℝ) : EReal) = ∑ i ∈ S, (f i : EReal) :=
  map_sum (⟨⟨fun x : ℝ => (x : EReal), EReal.coe_zero⟩, EReal.coe_add⟩ : ℝ →+ EReal) f S

/-! ### The three numbers of a set -/

/-- `m`, `l`, `c` are the largest score, the sum of exponentials and the weighted sum of values of `S`. -/
structure IsAcc {ι : Type} (s v : ι → EReal) (S : Finset ι) (m l c : EReal) : Prop where
  m_eq : m = S.sup s
  l_eq : l = ∑ i ∈ S, Ideal.exp (s i - m)
  c_eq : c = ∑ i ∈ S, Ideal.exp (s i - m) * v i

variable {ι : Type} {s v : ι → EReal} {S T : Finset ι} {m l c m' l' c' : EReal}

theorem IsAcc.le (h : IsAcc s v S m l c) {i : ι} (hi : i ∈ S) : s i ≤ m := by
  rw [h.m_eq]; exact Finset.le_sup hi

theorem IsAcc.none : IsAcc s v ∅ ⊥ 0 0 := ⟨rfl, rfl, rfl⟩

/-- The numbers of the columns that a map lists. -/
theorem IsAcc.map {κ : Type} (K : Finset κ) (e : κ ↪ ι) :
    IsAcc s v (K.map e) (K.sup fun k => s (e k)) (∑ k ∈ K, Ideal.exp (s (e k) - K.sup fun k => s (e k)))
      (∑ k ∈ K, Ideal.exp (s (e k) - K.sup fun k => s (e k)) * v (e k)) where
  m_eq := (Finset.sup_map K e s).symm
  l_eq := (Finset.sum_map K e fun i => Ideal.exp (s i - K.sup fun k => s (e k))).symm
  c_eq := (Finset.sum_map K e fun i => Ideal.exp (s i - K.sup fun k => s (e k)) * v i).symm

/-- The sums of a set seen from a larger score. -/
theorem IsAcc.shift (h : IsAcc s v S m l c) {M : EReal} (hM : m ≤ M) :
    l * Ideal.exp (m - M) = ∑ i ∈ S, Ideal.exp (s i - M) ∧ c * Ideal.exp (m - M) = ∑ i ∈ S, Ideal.exp (s i - M) * v i := by
  obtain ⟨x, hx, he⟩ := exp_sub_real hM
  constructor
  · rw [he, h.l_eq, sum_mul_real S _ hx, ← he]
    exact Finset.sum_congr rfl fun i hi => exp_sub_mul (h.le hi) hM
  · rw [he, h.c_eq, sum_mul_real S _ hx, ← he]
    refine Finset.sum_congr rfl fun i hi => ?_
    rw [mul_right_comm, exp_sub_mul (h.le hi) hM]

/-- The numbers of a disjoint union. -/
theorem IsAcc.union [DecidableEq ι] (h : IsAcc s v S m l c) (h' : IsAcc s v T m' l' c') (hd : Disjoint S T) :
    IsAcc s v (S ∪ T) (max m m') (l * Ideal.exp (m - max m m') + l' * Ideal.exp (m' - max m m'))
      (c * Ideal.exp (m - max m m') + c' * Ideal.exp (m' - max m m')) where
  m_eq := by rw [Finset.sup_union, h.m_eq, h'.m_eq]
  l_eq := by rw [Finset.sum_union hd, (h.shift (le_max_left m m')).1, (h'.shift (le_max_right m m')).1]
  c_eq := by rw [Finset.sum_union hd, (h.shift (le_max_left m m')).2, (h'.shift (le_max_right m m')).2]

/-- Indices with the least score change nothing. -/
theorem IsAcc.grow (h : IsAcc s v S m l c) (hST : S ⊆ T) (hb : ∀ i ∈ T, i ∉ S → s i = ⊥) : IsAcc s v T m l c where
  m_eq := by
    rw [h.m_eq]
    refine le_antisymm (Finset.sup_mono hST) (Finset.sup_le fun i hi => ?_)
    by_cases hS : i ∈ S
    · exact Finset.le_sup hS
    · rw [hb i hi hS]; exact bot_le
  l_eq := by
    rw [h.l_eq]
    exact Finset.sum_subset hST fun i hi hS => by rw [hb i hi hS, exp_bot_sub]
  c_eq := by
    rw [h.c_eq]
    exact Finset.sum_subset hST fun i hi hS => by rw [hb i hi hS, exp_bot_sub, zero_mul]

/-- With no infinite score and one that is not the least, the quotient is the sum of the values
weighted by the exponentials divided by their sum. -/
theorem IsAcc.div (h : IsAcc s v S m l c) (ht : ∀ i ∈ S, s i ≠ ⊤) {i₀ : ι} (hi : i₀ ∈ S) (h₀ : s i₀ ≠ ⊥) :
    Ideal.div c l = ∑ i ∈ S, v i * Ideal.div (Ideal.exp (s i - m)) l := by
  classical
  have hr : ∀ i ∈ S, ∃ x : ℝ, 0 ≤ x ∧ Ideal.exp (s i - m) = x := fun i hi => exp_sub_real (h.le hi)
  choose! e he0 he using hr
  have hl : l = ((∑ i ∈ S, e i : ℝ) : EReal) := by
    rw [h.l_eq, coe_sum]
    exact Finset.sum_congr rfl he
  have hpos : 0 < e i₀ := by
    have hm1 : m ≠ ⊥ := fun hm => h₀ (le_bot_iff.1 (hm ▸ h.le hi))
    have hm2 : m ≠ ⊤ := fun hm => by
      obtain ⟨i, hi', hs⟩ := Finset.exists_mem_eq_sup S ⟨i₀, hi⟩ s
      exact ht i hi' (by rw [← hs, ← h.m_eq, hm])
    have := he i₀ hi
    lift m to ℝ using ⟨hm2, hm1⟩
    obtain ⟨x, hx⟩ : ∃ x : ℝ, s i₀ = x := by
      lift s i₀ to ℝ using ⟨ht i₀ hi, h₀⟩ with x
      exact ⟨x, rfl⟩
    rw [hx, ← EReal.coe_sub, exp_coe] at this
    rw [← EReal.coe_injective this]
    exact Real.exp_pos _
  have hL : 0 < ∑ i ∈ S, e i := Finset.sum_pos' he0 ⟨i₀, hi, hpos⟩
  rw [hl, Ideal.div_coe hL.ne', h.c_eq, sum_mul_real S _ (by positivity)]
  refine Finset.sum_congr rfl fun i _ => ?_
  rw [Ideal.div_coe hL.ne', mul_comm (v i), mul_right_comm]

end Cert.KernelIdeal.Attn
-- ==== Proof.At.lean ====
module

public import proofs.«01_k».proof.Proof.Values
public import Idealize.ShloMosaic.Lib.Pointwise

/-!
# The kernel's values, entry by entry

Each piece of the kernel's arithmetic read at an index, over the extended reals.
-/

@[expose] public noncomputable section

set_option maxRecDepth 16384

namespace Cert.KernelIdeal.Attn

open Idealize.ShloMosaic Idealize.SL.Sem Cert.KernelIdeal Cert.KernelIdeal.Gen

theorem negInf : Ideal.ofBits .f32 0xFF800000#32 = ⊥ := by simp [Ideal.ofBits, Ideal.ieee]

theorem eighth : ∃ c : ℝ, Ideal.ofBits .f32 0x3E000000#32 = c := by
  refine ⟨8388608 * (2 ^ 26)⁻¹, ?_⟩
  simp [Ideal.ofBits, Ideal.ieee]

theorem zero_bf16 : Ideal.ofBits .bf16 0x0000#16 = 0 := by simp [Ideal.ofBits, Ideal.ieee]

theorem mask_bot : (Named.named κ "mask" 0xCE6E6B28#32 : Ideal .f32) = ⊥ := by
  exact IdealRules.named_const.ideal_named_scalar κ "mask" _ ⊥ rfl

theorem qBlock_at (b : Fin 2) (x : FVec Ideal S2x128x512 .f32) (wq : FVec Ideal S512x256 .f32) (r : Fin 128) (e : Fin 256) :
    qBlock b x wq (ix4 (0 : Fin 1) (0 : Fin 1) r e) = ∑ k : Fin 512, x (ix3 b r k) * wq (ix2 k e) := by
  pointwise [qBlock]

theorem kvFlat_at (k : FVec Ideal S2x128x4x64 .f32) (b : Fin 2) (r : Fin 128) (e : Fin 256) :
    kvFlat k (ix3 b r e) = k (ix4 b r ⟨e.val / 64, by omega⟩ ⟨e.val % 64, by omega⟩) := by
  pointwise [kvFlat]

theorem qHead_at (h : Fin 4) (q : FVec Ideal S1x1x128x256 .bf16) (r : Fin 128) (d : Fin 64) :
    qHead h q (ix2 r d) = q (ix4 (0 : Fin 1) (0 : Fin 1) r ⟨64 * h.val + d.val, by omega⟩) := by
  pointwise [qHead]

theorem kvHead_at (b : Fin 2) (h : Fin 4) (k : FVec Ideal S2x128x256 .bf16) (r : Fin 128) (d : Fin 64) :
    kvHead b h k (ix2 r d) = k (ix3 b r ⟨64 * h.val + d.val, by omega⟩) := by
  pointwise [kvHead]

theorem scores_at (q k : FVec Ideal S128x64 .bf16) (r j : Fin 128) :
    scores q k (ix2 r j) = (∑ d : Fin 64, q (ix2 r d) * k (ix2 j d)) * Ideal.ofBits .f32 0x3E000000#32 := by
  pointwise [scores]

theorem rowMax_at (s : FVec Ideal S128x128 .f32) (r : Fin 128) :
    rowMax s (ix2 r (0 : Fin 1)) = Finset.univ.fold max ⊥ fun j : Fin 128 => s (ix2 r j) := by
  pointwise [rowMax]
  rw [negInf]

theorem expo_at (s : FVec Ideal S128x128 .f32) (r j : Fin 128) :
    expo s (ix2 r j) = Ideal.exp (s (ix2 r j) - rowMax s (ix2 r (0 : Fin 1))) := by
  pointwise [expo]

theorem rowSum_at (s : FVec Ideal S128x128 .f32) (r : Fin 128) :
    rowSum s (ix2 r (0 : Fin 1)) = ∑ j : Fin 128, expo s (ix2 r j) := by
  pointwise [rowSum]

theorem ctxOf_at (s : FVec Ideal S128x128 .f32) (v : FVec Ideal S128x64 .bf16) (r : Fin 128) (d : Fin 64) :
    ctxOf s v (ix2 r d) = ∑ j : Fin 128, expo s (ix2 r j) * v (ix2 j d) := by
  pointwise [ctxOf]

theorem select_one {α : Type} (a b : α) : Scalar.select 1#1 a b = a := rfl
theorem select_zero {α : Type} (a b : α) : Scalar.select 0#1 a b = b := rfl

theorem msg_ctx (b : Fin 2) (h : Fin 4) (q : FVec Ideal S1x1x128x256 .bf16) (k v : FVec Ideal S2x128x256 .bf16) (r : Fin 128) (d : Fin 64) :
    msgCtx 1#1 (msg b h q k v) (ix2 r d) = ctxOf (tileScores b h q k) (kvHead b h v) (ix2 r d) := by
  simp only [msgCtx, select_one, select_zero]
  pointwise [msg]

theorem msg_max (b : Fin 2) (h : Fin 4) (q : FVec Ideal S1x1x128x256 .bf16) (k v : FVec Ideal S2x128x256 .bf16) (r : Fin 128) :
    msgMax 1#1 (msg b h q k v) (ix2 r (0 : Fin 1)) = rowMax (tileScores b h q k) (ix2 r (0 : Fin 1)) := by
  simp only [msgMax, select_one, select_zero]
  pointwise [msg]

theorem msg_sum (b : Fin 2) (h : Fin 4) (q : FVec Ideal S1x1x128x256 .bf16) (k v : FVec Ideal S2x128x256 .bf16) (r : Fin 128) :
    msgSum 1#1 (msg b h q k v) (ix2 r (0 : Fin 1)) = rowSum (tileScores b h q k) (ix2 r (0 : Fin 1)) := by
  simp only [msgSum, select_one, select_zero]
  pointwise [msg]

theorem msg_ctx0 (g : FVec Ideal S1x1x1x128x66 .bf16) (r : Fin 128) (d : Fin 64) : msgCtx 0#1 g (ix2 r d) = 0 := by
  simp only [msgCtx, select_one, select_zero]
  pointwise

theorem msg_max0 (g : FVec Ideal S1x1x1x128x66 .bf16) (r : Fin 128) : msgMax 0#1 g (ix2 r (0 : Fin 1)) = ⊥ := by
  simp only [msgMax, select_one, select_zero]
  pointwise
  exact mask_bot

theorem msg_sum0 (g : FVec Ideal S1x1x1x128x66 .bf16) (r : Fin 128) : msgSum 0#1 g (ix2 r (0 : Fin 1)) = 0 := by
  simp only [msgSum, select_one, select_zero]
  pointwise

/-- One number divided by 64, as the kernel spells it. -/
def floorDiv (n : Fin 128) : BitVec 32 :=
  Scalar.select
    (IntOp.andi
      (IntOp.cmpi CmpIPredicate.ne
        (IntOp.subi (BitVec.setWidth 32 (IntOp.cmpi CmpIPredicate.sgt (BitVec.ofNat 32 n.val) 0#32))
          (BitVec.setWidth 32 (IntOp.cmpi CmpIPredicate.slt (BitVec.ofNat 32 n.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n.val) 64#32) 0#32))
    (IntOp.subi (IntOp.divsi ArithUnit.vector (BitVec.ofNat 32 n.val) 64#32) 1#32)
    (IntOp.divsi ArithUnit.vector (BitVec.ofNat 32 n.val) 64#32)

theorem ownMask_at (r j : Fin 128) : ownMask (ix2 r j) = if j.val / 64 ≤ r.val / 64 then 1#1 else 0#1 := by
  have h : ∀ n : Fin 128, floorDiv n = BitVec.ofNat 32 (n.val / 64) := by decide
  have h2 : ∀ a b : Fin 2, IntOp.cmpi .sle (BitVec.ofNat 32 a.val) (BitVec.ofNat 32 b.val) = if a.val ≤ b.val then 1#1 else 0#1 := by decide
  pointwise [ownMask, floorDiv64, signs]
  change IntOp.cmpi .sle (floorDiv j) (floorDiv r) = _
  rw [h, h]
  exact h2 ⟨j.val / 64, by omega⟩ ⟨r.val / 64, by omega⟩

theorem ownScores_at (b : Fin 2) (h : Fin 4) (q : FVec Ideal S1x1x128x256 .bf16) (k : FVec Ideal S2x128x256 .bf16) (r j : Fin 128) :
    ownScores b h q k (ix2 r j) = if j.val / 64 ≤ r.val / 64 then tileScores b h q k (ix2 r j) else ⊥ := by
  pointwise [ownScores]
  rw [ownMask_at, mask_bot]
  split <;> rfl

theorem merge_m (a : Acc Ideal) (cb : FVec Ideal S128x64 .f32) (mb lb : FVec Ideal S128x1 .f32) (r : Fin 128) :
    (mergeWith a cb mb lb).m (ix2 r (0 : Fin 1)) = max (a.m (ix2 r (0 : Fin 1))) (mb (ix2 r (0 : Fin 1))) := by
  pointwise [mergeWith]

theorem merge_l (a : Acc Ideal) (cb : FVec Ideal S128x64 .f32) (mb lb : FVec Ideal S128x1 .f32) (r : Fin 128) :
    (mergeWith a cb mb lb).l (ix2 r (0 : Fin 1)) =
      a.l (ix2 r (0 : Fin 1)) * Ideal.exp (a.m (ix2 r (0 : Fin 1)) - max (a.m (ix2 r (0 : Fin 1))) (mb (ix2 r (0 : Fin 1))))
        + lb (ix2 r (0 : Fin 1)) * Ideal.exp (mb (ix2 r (0 : Fin 1)) - max (a.m (ix2 r (0 : Fin 1))) (mb (ix2 r (0 : Fin 1)))) := by
  pointwise [mergeWith]

theorem merge_ctx (a : Acc Ideal) (cb : FVec Ideal S128x64 .f32) (mb lb : FVec Ideal S128x1 .f32) (r : Fin 128) (d : Fin 64) :
    (mergeWith a cb mb lb).ctx (ix2 r d) =
      a.ctx (ix2 r d) * Ideal.exp (a.m (ix2 r (0 : Fin 1)) - max (a.m (ix2 r (0 : Fin 1))) (mb (ix2 r (0 : Fin 1))))
        + cb (ix2 r d) * Ideal.exp (mb (ix2 r (0 : Fin 1)) - max (a.m (ix2 r (0 : Fin 1))) (mb (ix2 r (0 : Fin 1)))) := by
  pointwise [mergeWith]

theorem normed_at (a : Acc Ideal) (r : Fin 128) (d : Fin 64) :
    normed a (ix2 r d) = Ideal.div (a.ctx (ix2 r d)) (a.l (ix2 r (0 : Fin 1))) := by
  pointwise [normed]

theorem outBlock_at (wo : FVec Ideal S256x512 .f32) (a : Fin 4 → Acc Ideal) (r : Fin 128) (e : Fin 512) :
    outBlock wo a (ix3 (0 : Fin 1) r e) =
      ∑ t : Fin 256, normed (a ⟨t.val / 64, by omega⟩) (ix2 r (⟨t.val % 64, by omega⟩ : Fin 64)) * wo (ix2 t e) := by
  pointwise [outBlock]
  refine Finset.sum_congr rfl fun t _ => congrArg (· * wo (ix2 t e)) ?_
  obtain ⟨t, ht⟩ := t
  have head (i : Fin 4) (d : Fin 64) (h1 : (⟨t / 64, by omega⟩ : Fin 4) = i) (h2 : (⟨t % 64, by omega⟩ : Fin 64) = d) :
      normed (a i) (ix2 r d) = normed (a ⟨t / 64, by omega⟩) (ix2 r (⟨t % 64, by omega⟩ : Fin 64)) := by rw [h1, h2]
  dsimp only
  split
  · exact head 0 _ (Fin.ext (by show t / 64 = 0; omega)) (Fin.ext (by show t % 64 = t; omega))
  split
  · exact head 1 _ (Fin.ext (by show t / 64 = 1; omega)) (Fin.ext (by show t % 64 = t - 64; omega))
  split
  · exact head 2 _ (Fin.ext (by show t / 64 = 2; omega)) (Fin.ext (by show t % 64 = t - 64 - 64; omega))
  · exact head 3 _ (Fin.ext (by show t / 64 = 3; omega)) (Fin.ext (by show t % 64 = t - 64 - 64 - 64; omega))

end Cert.KernelIdeal.Attn
-- ==== Proof.Columns.lean ====
module

public import proofs.«01_k».proof.Proof.Soft
public import proofs.«01_k».proof.Proof.At
public import proofs.«01_k».proof.Proof.RunBody

/-!
# The accumulator, column by column

The whole sequence has 1024 positions in 8 tiles of 128.  A device's accumulator holds, row by
row, the three softmax numbers of the columns of the tiles merged so far.
-/

@[expose] public noncomputable section

set_option maxRecDepth 16384

namespace Cert.KernelIdeal.Attn

open Idealize.ShloMosaic Idealize.SL.Sem Cert.KernelIdeal Cert.KernelIdeal.Gen

/-- Position `r` of tile `t` in the whole sequence. -/
def gl (t : Fin 8) (r : Fin 128) : Fin 1024 := ⟨t.val * 128 + r.val, by omega⟩

/-- The tile of a position. -/
def tileOf (j : Fin 1024) : Fin 8 := ⟨j.val / 128, by omega⟩

theorem tileOf_gl (t : Fin 8) (r : Fin 128) : tileOf (gl t r) = t := Fin.ext (by show (t.val * 128 + r.val) / 128 = t.val; omega)

theorem gl_tileOf (j : Fin 1024) : gl (tileOf j) ⟨j.val % 128, by omega⟩ = j :=
  Fin.ext (by show j.val / 128 * 128 + j.val % 128 = j.val; omega)

/-- The positions of one tile. -/
def tileEmb (t : Fin 8) : Fin 128 ↪ Fin 1024 :=
  ⟨gl t, fun a b h => Fin.ext (by have := congrArg Fin.val h; simp only [gl] at this; omega)⟩

/-- The positions of a set of tiles. -/
def cols (T : Finset (Fin 8)) : Finset (Fin 1024) := Finset.univ.filter fun j => tileOf j ∈ T

theorem mem_cols (T : Finset (Fin 8)) (j : Fin 1024) : j ∈ cols T ↔ tileOf j ∈ T := by simp [cols]

theorem cols_single (t : Fin 8) : cols {t} = Finset.univ.map (tileEmb t) := by
  ext j
  rw [mem_cols, Finset.mem_singleton, Finset.mem_map]
  constructor
  · rintro rfl
    exact ⟨_, Finset.mem_univ _, gl_tileOf j⟩
  · rintro ⟨r, -, rfl⟩
    exact tileOf_gl t r

theorem cols_union (S T : Finset (Fin 8)) : cols (S ∪ T) = cols S ∪ cols T := by
  ext j; simp only [mem_cols, Finset.mem_union]

theorem cols_disjoint {S T : Finset (Fin 8)} (h : Disjoint S T) : Disjoint (cols S) (cols T) := by
  rw [Finset.disjoint_left] at h ⊢
  intro j hS hT
  exact h ((mem_cols S j).1 hS) ((mem_cols T j).1 hT)

theorem cols_empty : cols ∅ = ∅ := by
  ext j; simp [mem_cols]

variable {sc vv : Fin 1024 → EReal}

/-- The accumulator `a` holds the numbers of the columns of the tiles in `T`, at row `r` and channel `d`. -/
def Holds (sc vv : Fin 1024 → EReal) (T : Finset (Fin 8)) (r : Fin 128) (d : Fin 64) (a : Acc Ideal) : Prop :=
  IsAcc sc vv (cols T) (a.m (ix2 r (0 : Fin 1))) (a.l (ix2 r (0 : Fin 1))) (a.ctx (ix2 r d))

/-- One tile's row maxima, sums and contexts. -/
theorem holds_tile (t : Fin 8) (r : Fin 128) (d : Fin 64) (s : FVec Ideal S128x128 .f32) (v : FVec Ideal S128x64 .bf16)
    (hs : ∀ j, s (ix2 r j) = sc (gl t j)) (hv : ∀ j, v (ix2 j d) = vv (gl t j)) :
    Holds sc vv {t} r d ⟨ctxOf s v, rowMax s, rowSum s⟩ := by
  have hm : rowMax s (ix2 r (0 : Fin 1)) = Finset.univ.sup fun j => sc (tileEmb t j) := by
    rw [rowMax_at]; simp only [hs]; rfl
  have he : ∀ j, expo s (ix2 r j) = Ideal.exp (sc (tileEmb t j) - Finset.univ.sup fun j => sc (tileEmb t j)) := fun j => by
    rw [expo_at, hm, hs]; rfl
  have h := IsAcc.map (s := sc) (v := vv) Finset.univ (tileEmb t)
  unfold Holds
  dsimp only
  rw [cols_single, rowSum_at, ctxOf_at, hm]
  simp only [he, hv]
  exact h

/-- A message from a device before this one adds its tile. -/
theorem holds_merge (s c : Fin 8) (r : Fin 128) (d : Fin 64) (b : Fin 2) (h : Fin 4) (q : FVec Ideal S1x1x128x256 .bf16)
    (k v : FVec Ideal S2x128x256 .bf16) (hlt : s.val < c.val) (T : Finset (Fin 8)) (hT : s ∉ T) (a : Acc Ideal) (ha : Holds sc vv T r d a)
    (hs : ∀ j, tileScores b h q k (ix2 r j) = sc (gl s j)) (hv : ∀ j, kvHead b h v (ix2 j d) = vv (gl s j)) :
    Holds sc vv (T ∪ {s}) r d (merge (valid s c) (msg b h q k v) a) := by
  have ht := holds_tile s r d (tileScores b h q k) (kvHead b h v) hs hv
  have hu := IsAcc.union ha ht (cols_disjoint (Finset.disjoint_singleton_right.2 hT))
  unfold Holds merge
  rw [(valid_iff s c).2 hlt, merge_m, merge_l, merge_ctx, msg_max, msg_sum, msg_ctx, cols_union]
  unfold Holds at hu ht
  dsimp only at hu
  exact hu

/-- A message from any other device changes nothing. -/
theorem holds_skip (s c : Fin 8) (r : Fin 128) (d : Fin 64) (g : FVec Ideal S1x1x1x128x66 .bf16) (hlt : ¬ s.val < c.val)
    (T : Finset (Fin 8)) (a : Acc Ideal) (ha : Holds sc vv T r d a) : Holds sc vv T r d (merge (valid s c) g a) := by
  have hv : valid s c = 0#1 := by
    have : ∀ x : BitVec 1, x ≠ 1#1 → x = 0#1 := by decide
    exact this _ fun h => hlt ((valid_iff s c).1 h)
  have hu := IsAcc.union ha (IsAcc.none (s := sc) (v := vv)) (Finset.disjoint_empty_right _)
  rw [Finset.union_empty] at hu
  unfold Holds merge
  rw [hv, merge_m, merge_l, merge_ctx, msg_max0, msg_sum0, msg_ctx0]
  exact hu

/-- All messages, one after the other. -/
theorem holds_fold (c : Fin 8) (r : Fin 128) (d : Fin 64) (b : Fin 2) (h : Fin 4) (I : Ins Ideal)
    (hs : ∀ s : Fin 8, s.val < c.val → ∀ j, tileScores b h (I.q c b) (kvFlat (I.k s)) (ix2 r j) = sc (gl s j))
    (hv : ∀ (s : Fin 8) (j), kvHead b h (kvFlat (I.v s)) (ix2 j d) = vv (gl s j)) :
    ∀ (l : List (Fin 8)) (T : Finset (Fin 8)) (a : Fin 2 → Fin 4 → Acc Ideal), l.Nodup → (∀ s ∈ l, s.val < c.val → s ∉ T) →
      Holds sc vv T r d (a b h) → Holds sc vv (T ∪ (l.filter fun s => s.val < c.val).toFinset) r d (l.foldl (I.mergeOne c) a b h)
  | [], T, a, _, _, ha => by rw [List.filter_nil, List.toFinset_nil, Finset.union_empty]; exact ha
  | s :: l, T, a, hn, hT, ha => by
    rw [List.nodup_cons] at hn
    rw [List.foldl_cons]
    by_cases hlt : s.val < c.val
    · have h1 : Holds sc vv (T ∪ {s}) r d (I.mergeOne c a s b h) :=
        holds_merge s c r d b h (I.q c b) (kvFlat (I.k s)) (kvFlat (I.v s)) hlt T (hT s List.mem_cons_self hlt) (a b h) ha (hs s hlt) (hv s)
      have h2 := holds_fold c r d b h I hs hv l (T ∪ {s}) (I.mergeOne c a s) hn.2
        (fun u hu hlu hmem => by
          rcases Finset.mem_union.1 hmem with hm | hm
          · exact hT u (List.mem_cons_of_mem _ hu) hlu hm
          · exact hn.1 (Finset.mem_singleton.1 hm ▸ hu)) h1
      rw [List.filter_cons_of_pos (by simpa using hlt), List.toFinset_cons, Finset.insert_eq, ← Finset.union_assoc]
      exact h2
    · have h1 : Holds sc vv T r d (I.mergeOne c a s b h) := holds_skip s c r d _ hlt T (a b h) ha
      have h2 := holds_fold c r d b h I hs hv l T (I.mergeOne c a s) hn.2 (fun u hu hlu => hT u (List.mem_cons_of_mem _ hu) hlu) h1
      rw [List.filter_cons_of_neg (by simpa using hlt)]
      exact h2

theorem tiles_done : ∀ c t : Fin 8, t ∉ ({c} : Finset (Fin 8)) ∪ (mergeOrder.filter fun s => s.val < c.val).toFinset → c.val < t.val := by decide

/-- After all merges the accumulator holds the numbers of the whole row, the columns past the device's own tile being masked. -/
theorem holds_all (c : Fin 8) (r : Fin 128) (d : Fin 64) (b : Fin 2) (h : Fin 4) (I : Ins Ideal)
    (hs : ∀ s : Fin 8, s.val < c.val → ∀ j, tileScores b h (I.q c b) (kvFlat (I.k s)) (ix2 r j) = sc (gl s j))
    (hown : ∀ j, ownScores b h (I.q c b) (kvFlat (I.k c)) (ix2 r j) = sc (gl c j))
    (hv : ∀ (s : Fin 8) (j), kvHead b h (kvFlat (I.v s)) (ix2 j d) = vv (gl s j))
    (hbot : ∀ j : Fin 1024, c.val < (tileOf j).val → sc j = ⊥) :
    IsAcc sc vv Finset.univ ((I.acc c b h).m (ix2 r (0 : Fin 1))) ((I.acc c b h).l (ix2 r (0 : Fin 1))) ((I.acc c b h).ctx (ix2 r d)) := by
  have h0 : Holds sc vv {c} r d (I.own c b h) :=
    holds_tile c r d (ownScores b h (I.q c b) (kvFlat (I.k c))) (kvHead b h (kvFlat (I.v c))) hown (hv c)
  have h1 := holds_fold c r d b h I hs hv mergeOrder {c} (I.own c) (by decide)
    (fun s _ hlt hm => by rw [Finset.mem_singleton.1 hm] at hlt; exact lt_irrefl _ hlt) h0
  exact IsAcc.grow h1 (Finset.subset_univ _) fun j _ hj => hbot j (tiles_done c (tileOf j) fun hm => hj ((mem_cols _ j).2 hm))

end Cert.KernelIdeal.Attn
-- ==== Proof.RefAt.lean ====
module

public import proofs.«01_k».proof.Proof.Gen.ReferenceIdeal.Run
public import Idealize.ShloMosaic.Lib.Pointwise

/-!
# The reference, entry by entry

The reference's result in named pieces, each read at an index over the extended reals.
-/

@[expose] public noncomputable section

set_option maxRecDepth 16384

namespace Cert.ReferenceIdeal.Attn

open Idealize.ShloMosaic Idealize.ShloMosaic.TcCoe Idealize.SL.Sem Cert.ReferenceIdeal Cert.ReferenceIdeal.Gen

variable {F : FTy → Type} [FloatOps F]

/-- Each position divided by 64, rounding down. -/
def rBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- Which keys a query sees. -/
def rMask : IVec S1024x1024 1 :=
  cmpi .sle (broadcastInDim S1024x1024 ![0, 1] bcast_S1x1024_S1024x1024_0_1 (broadcastInDim S1x1024 ![1] bcast_S1024_S1x1024_1 rBlk))
    (broadcastInDim S1024x1024 ![0, 1] bcast_S1024x1_S1024x1024_0_1 (broadcastInDim S1024x1 ![0] bcast_S1024_S1024x1_0 rBlk))

/-- The scaled scores, those not seen at the least value. -/
def rScores (x : FVec F S2x1024x512 .f32) (wq : FVec F S512x256 .f32) (k : FVec F S2x1024x4x64 .f32) : FVec F S2x4x1024x1024 .f32 :=
  select (broadcastInDim S2x4x1024x1024 ![0, 1, 2, 3] bcast_S1x1x1024x1024_S2x4x1024x1024_0_1_2_3 (broadcastInDim S1x1x1024x1024 ![2, 3] bcast_S1024x1024_S1x1x1024x1024_2_3 rMask))
    (mulf (Host.dotGeneral dot_S2x1024x4x64_S2x1024x4x64_S2x4x1024x1024_3_3_1_1_02_02 none
        (shapeCast _ (Host.dotGeneral dot_S2x1024x512_S512x256_S2x1024x256_2_0_01_1_n_n none x wq) shapeCasts_S2x1024x256_S2x1024x4x64) k)
      (broadcastInDim S2x4x1024x1024 ![] bcast_S_S2x4x1024x1024 (constant S_ .f32 0x3E000000#32)))
    (broadcastInDim S2x4x1024x1024 ![] bcast_S_S2x4x1024x1024 (id (constant S_ .f32 0xFF800000#32)))

/-- The largest score of each row. -/
def rMax (s : FVec F S2x4x1024x1024 .f32) : FVec F S2x4x1024 .f32 :=
  Host.reduce FloatOps.maximumf s (constant S_ .f32 0xFF800000#32) reducesTo_S2x4x1024x1024_S2x4x1024_d3 h_S_

/-- The exponentials of the scores less their row's largest. -/
def rExp (s : FVec F S2x4x1024x1024 .f32) : FVec F S2x4x1024x1024 .f32 :=
  Host.exp (subf s (broadcastInDim S2x4x1024x1024 ![0, 1, 2, 3] bcast_S2x4x1024x1_S2x4x1024x1024_0_1_2_3 (broadcastInDim S2x4x1024x1 ![0, 1, 2] bcast_S2x4x1024_S2x4x1024x1_0_1_2 (rMax s))))

/-- Which queries see some key. -/
def rKeep : IVec S1024 1 := Host.reduce IntOp.ori rMask (constantI S_ 1 0#1) reducesTo_S1024x1024_S1024_d1 h_S_

/-- The sum of each row's exponentials. -/
def rSum (s : FVec F S2x4x1024x1024 .f32) : FVec F S2x4x1024x1 .f32 :=
  select (broadcastInDim S2x4x1024x1 ![0, 1, 2, 3] bcast_S1x1x1024x1_S2x4x1024x1_0_1_2_3 (broadcastInDim S1x1x1024x1 ![2] bcast_S1024_S1x1x1024x1_2 rKeep))
    (broadcastInDim S2x4x1024x1 ![0, 1, 2] bcast_S2x4x1024_S2x4x1024x1_0_1_2
      (Host.reduceAdd (rExp s) (constant S_ .f32 0x00000000#32) reducesTo_S2x4x1024x1024_S2x4x1024_d3 h_S_))
    (broadcastInDim S2x4x1024x1 ![] bcast_S_S2x4x1024x1 (id (constant S_ .f32 0x3F800000#32)))

/-- The weights of the values. -/
def rWeights (s : FVec F S2x4x1024x1024 .f32) : FVec F S2x4x1024x1024 .f32 :=
  select (broadcastInDim S2x4x1024x1024 ![0, 1, 2, 3] bcast_S1x1x1024x1_S2x4x1024x1024_0_1_2_3 (broadcastInDim S1x1x1024x1 ![2] bcast_S1024_S1x1x1024x1_2 rKeep))
    (Host.divf (rExp s) (broadcastInDim S2x4x1024x1024 ![0, 1, 2, 3] bcast_S2x4x1024x1_S2x4x1024x1024_0_1_2_3 (rSum s)))
    (broadcastInDim S2x4x1024x1024 ![] bcast_S_S2x4x1024x1024 (id (constant S_ .f32 0x00000000#32)))

/-- The weighted values of every head. -/
def rCtx (s : FVec F S2x4x1024x1024 .f32) (v : FVec F S2x1024x4x64 .f32) : FVec F S2x4x64x1024 .f32 :=
  Host.dotGeneral dot_S2x1024x4x64_S2x4x1024x1024_S2x4x64x1024_1_3_3_2_02_01 none v (rWeights s)

/-- The heads side by side, projected. -/
def rOut (a : FVec F S2x4x64x1024 .f32) (wo : FVec F S256x512 .f32) : FVec F S2x1024x512 .f32 :=
  Host.dotGeneral dot_S2x1024x256_S256x512_S2x1024x512_2_0_01_1_n_n none
    (shapeCast _ (transpose S2x1024x4x64 [0, 3, 1, 2] a transposes_S2x4x64x1024_S2x1024x4x64_0_3_1_2) shapeCasts_S2x1024x4x64_S2x1024x256) wo

/-- The reference's result. -/
theorem res_eq (m : (ℓ : Loc nD τ sig) → Buf (Elt F) ℓ) (c : Dev nD) :
    Value.res_main_v33 m c = rOut (rCtx (rScores (m ((c.tc : Thread nD τ).loc main_arg0)) (m ((c.tc : Thread nD τ).loc main_arg1)) (m ((c.tc : Thread nD τ).loc main_arg2)))
      (m ((c.tc : Thread nD τ).loc main_arg3))) (m ((c.tc : Thread nD τ).loc main_arg4)) := rfl

/-- The sign of a word. -/
def sgn (n : BitVec 32) : BitVec 32 := if n = 0 then 0 else if n.msb = true then -1 else 1

/-- One position divided by 64, as the reference spells it. -/
def floorDiv (n : Fin 1024) : BitVec 32 :=
  Scalar.select
    (IntOp.andi (IntOp.cmpi CmpIPredicate.ne (sgn (BitVec.ofNat 32 n.val)) (sgn 64#32))
      (IntOp.cmpi CmpIPredicate.ne (IntOp.remsi ArithUnit.host (BitVec.ofNat 32 n.val) 64#32) 0#32))
    (IntOp.subi (IntOp.divsi ArithUnit.host (BitVec.ofNat 32 n.val) 64#32) 1#32)
    (IntOp.divsi ArithUnit.host (BitVec.ofNat 32 n.val) 64#32)

theorem floorDiv_eq : ∀ n : Fin 1024, floorDiv n = BitVec.ofNat 32 (n.val / 64) := by decide +kernel

theorem rBlk_at (i : Fin 1024) : rBlk (ix1 i) = BitVec.ofNat 32 (i.val / 64) := by
  pointwise [rBlk]
  exact floorDiv_eq i

theorem rMask_at (i j : Fin 1024) : rMask (ix2 i j) = if j.val / 64 ≤ i.val / 64 then 1#1 else 0#1 := by
  have h : ∀ a b : Fin 16, IntOp.cmpi .sle (BitVec.ofNat 32 a.val) (BitVec.ofNat 32 b.val) = if a.val ≤ b.val then 1#1 else 0#1 := by decide
  pointwise [rMask]
  rw [rBlk_at, rBlk_at]
  exact h ⟨j.val / 64, by omega⟩ ⟨i.val / 64, by omega⟩

/-- The disjunction of bits one of which is set. -/
theorem fold_or {ι : Type} (S : Finset ι) (f : ι → BitVec 1) (h : ∃ i ∈ S, f i = 1#1) : S.fold IntOp.ori 0#1 f = 1#1 := by
  classical
  have hl : ∀ x : BitVec 1, IntOp.ori 1#1 x = 1#1 := by decide
  have hr : ∀ x : BitVec 1, IntOp.ori x 1#1 = 1#1 := by decide
  induction S using Finset.induction_on with
  | empty => obtain ⟨i, hi, -⟩ := h; exact absurd hi (Finset.notMem_empty i)
  | insert a S ha ih =>
    rw [Finset.fold_insert ha]
    obtain ⟨i, hi, hf⟩ := h
    rcases Finset.mem_insert.1 hi with rfl | hi
    · rw [hf, hl]
    · rw [ih ⟨i, hi, hf⟩, hr]

theorem rKeep_at (i : Fin 1024) : rKeep (ix1 i) = 1#1 := by
  pointwise [rKeep]
  refine fold_or _ _ ⟨0, Finset.mem_univ _, ?_⟩
  rw [rMask_at, if_pos]
  exact (Nat.zero_div 64).le.trans (Nat.zero_le _)

theorem negInf : Ideal.ofBits .f32 0xFF800000#32 = ⊥ := by simp [Ideal.ofBits, Ideal.ieee]

theorem rScores_at (x : FVec Ideal S2x1024x512 .f32) (wq : FVec Ideal S512x256 .f32) (k : FVec Ideal S2x1024x4x64 .f32)
    (b : Fin 2) (h : Fin 4) (i j : Fin 1024) :
    rScores x wq k (ix4 b h i j) = if j.val / 64 ≤ i.val / 64 then
      (∑ d : Fin 64, (∑ t : Fin 512, x (ix3 b i t) * wq (ix2 t (⟨h.val * 64 + d.val, by omega⟩ : Fin 256))) * k (ix4 b j h d))
        * Ideal.ofBits .f32 0x3E000000#32
      else ⊥ := by
  pointwise [rScores]
  rw [rMask_at]
  split
  · rfl
  · exact negInf

theorem rMax_at (s : FVec Ideal S2x4x1024x1024 .f32) (b : Fin 2) (h : Fin 4) (i : Fin 1024) :
    rMax s (ix3 b h i) = Finset.univ.fold max ⊥ fun j : Fin 1024 => s (ix4 b h i j) := by
  pointwise [rMax]
  rw [negInf]

theorem rExp_at (s : FVec Ideal S2x4x1024x1024 .f32) (b : Fin 2) (h : Fin 4) (i j : Fin 1024) :
    rExp s (ix4 b h i j) = Ideal.exp (s (ix4 b h i j) - rMax s (ix3 b h i)) := by
  pointwise [rExp]

theorem rSum_at (s : FVec Ideal S2x4x1024x1024 .f32) (b : Fin 2) (h : Fin 4) (i : Fin 1024) :
    rSum s (ix4 b h i (0 : Fin 1)) = ∑ j : Fin 1024, rExp s (ix4 b h i j) := by
  pointwise [rSum]
  rw [rKeep_at]
  exact if_pos rfl

theorem rWeights_at (s : FVec Ideal S2x4x1024x1024 .f32) (b : Fin 2) (h : Fin 4) (i j : Fin 1024) :
    rWeights s (ix4 b h i j) = Ideal.div (rExp s (ix4 b h i j)) (rSum s (ix4 b h i (0 : Fin 1))) := by
  pointwise [rWeights]
  rw [rKeep_at]
  exact if_pos rfl

theorem rCtx_at (s : FVec Ideal S2x4x1024x1024 .f32) (v : FVec Ideal S2x1024x4x64 .f32) (b : Fin 2) (h : Fin 4) (d : Fin 64) (i : Fin 1024) :
    rCtx s v (ix4 b h d i) = ∑ j : Fin 1024, v (ix4 b j h d) * rWeights s (ix4 b h i j) := by
  pointwise [rCtx]

theorem rOut_at (a : FVec Ideal S2x4x64x1024 .f32) (wo : FVec Ideal S256x512 .f32) (b : Fin 2) (i : Fin 1024) (e : Fin 512) :
    rOut a wo (ix3 b i e) = ∑ t : Fin 256, a (ix4 b (⟨t.val / 64, by omega⟩ : Fin 4) (⟨t.val % 64, by omega⟩ : Fin 64) i) * wo (ix2 t e) := by
  pointwise [rOut]

end Cert.ReferenceIdeal.Attn
-- ==== Proof.Rows.lean ====
module

public import proofs.«01_k».proof.Proof.Columns
public import proofs.«01_k».proof.Proof.RefAt

/-!
# The kernel's rows are the reference's

From devices holding their blocks of whole arrays, the accumulator of each device, divided, is the
reference's weighted values at the device's rows.
-/

@[expose] public noncomputable section

set_option maxRecDepth 16384

namespace Cert.KernelIdeal.Attn

open Idealize.ShloMosaic Idealize.SL.Sem Cert.KernelIdeal Cert.KernelIdeal.Gen
open Cert.ReferenceIdeal.Attn (rScores rMax rExp rSum rWeights rCtx rOut rScores_at rMax_at rExp_at rSum_at rWeights_at rCtx_at rOut_at)

/-- Whole arrays. -/
structure Whole where
  x : FVec Ideal ⟨3, ![2, 1024, 512]⟩ .f32
  wq : FVec Ideal ⟨2, ![512, 256]⟩ .f32
  k : FVec Ideal ⟨4, ![2, 1024, 4, 64]⟩ .f32
  v : FVec Ideal ⟨4, ![2, 1024, 4, 64]⟩ .f32
  wo : FVec Ideal ⟨2, ![256, 512]⟩ .f32

/-- The devices' arguments are their blocks of the whole arrays. -/
structure Cut (I : Ins Ideal) (W : Whole) : Prop where
  x : ∀ (c : Fin 8) (b : Fin 2) (r : Fin 128) (t : Fin 512), I.x c (ix3 b r t) = W.x (ix3 b (gl c r) t)
  wq : ∀ c : Fin 8, I.wq c = W.wq
  k : ∀ (c : Fin 8) (b : Fin 2) (r : Fin 128) (h : Fin 4) (d : Fin 64), I.k c (ix4 b r h d) = W.k (ix4 b (gl c r) h d)
  v : ∀ (c : Fin 8) (b : Fin 2) (r : Fin 128) (h : Fin 4) (d : Fin 64), I.v c (ix4 b r h d) = W.v (ix4 b (gl c r) h d)
  wo : ∀ c : Fin 8, I.wo c = W.wo

/-- What the scores are made of is real. -/
structure AllFinite (W : Whole) : Prop where
  x : ∀ i, ∃ r : ℝ, W.x i = r
  wq : ∀ i, ∃ r : ℝ, W.wq i = r
  k : ∀ i, ∃ r : ℝ, W.k i = r

/-- A score before the mask. -/
def raw (W : Whole) (b : Fin 2) (h : Fin 4) (i j : Fin 1024) : EReal :=
  (∑ d : Fin 64, (∑ t : Fin 512, W.x (ix3 b i t) * W.wq (ix2 t (⟨h.val * 64 + d.val, by omega⟩ : Fin 256))) * W.k (ix4 b j h d))
    * Ideal.ofBits .f32 0x3E000000#32

/-- One row of the reference's scores. -/
def row (W : Whole) (b : Fin 2) (h : Fin 4) (i : Fin 1024) : Fin 1024 → EReal := fun j => rScores W.x W.wq W.k (ix4 b h i j)

theorem row_eq (W : Whole) (b : Fin 2) (h : Fin 4) (i j : Fin 1024) : row W b h i j = if j.val / 64 ≤ i.val / 64 then raw W b h i j else ⊥ :=
  rScores_at W.x W.wq W.k b h i j

theorem kvHead_flat (k : FVec Ideal S2x128x4x64 .f32) (b : Fin 2) (h : Fin 4) (r : Fin 128) (d : Fin 64) :
    kvHead b h (kvFlat k) (ix2 r d) = k (ix4 b r h d) := by
  rw [kvHead_at, kvFlat_at]
  have e1 : (⟨(64 * h.val + d.val) / 64, by omega⟩ : Fin 4) = h := Fin.ext (by show (64 * h.val + d.val) / 64 = h.val; omega)
  have e2 : (⟨(64 * h.val + d.val) % 64, by omega⟩ : Fin 64) = d := Fin.ext (by show (64 * h.val + d.val) % 64 = d.val; omega)
  exact (congrArg (fun u => k (ix4 b r u _)) e1).trans (congrArg (fun u => k (ix4 b r h u)) e2)

variable {I : Ins Ideal} {W : Whole} (hC : Cut I W)
include hC

theorem tile_eq (b : Fin 2) (h : Fin 4) (c s : Fin 8) (r j : Fin 128) :
    tileScores b h (I.q c b) (kvFlat (I.k s)) (ix2 r j) = raw W b h (gl c r) (gl s j) := by
  unfold tileScores raw
  rw [scores_at]
  refine congrArg (· * _) (Finset.sum_congr rfl fun d _ => ?_)
  have e : (⟨64 * h.val + d.val, by omega⟩ : Fin 256) = ⟨h.val * 64 + d.val, by omega⟩ := Fin.ext (by show 64 * h.val + d.val = h.val * 64 + d.val; omega)
  rw [kvHead_flat, hC.k, qHead_at, e]
  refine congrArg (· * _) ?_
  unfold Ins.q
  rw [qBlock_at, hC.wq]
  exact Finset.sum_congr rfl fun t _ => congrArg (· * _) (hC.x c b r t)

theorem tile_row (b : Fin 2) (h : Fin 4) (c s : Fin 8) (hlt : s.val < c.val) (r j : Fin 128) :
    tileScores b h (I.q c b) (kvFlat (I.k s)) (ix2 r j) = row W b h (gl c r) (gl s j) := by
  rw [tile_eq hC, row_eq, if_pos]
  show (s.val * 128 + j.val) / 64 ≤ (c.val * 128 + r.val) / 64
  omega

theorem own_row (b : Fin 2) (h : Fin 4) (c : Fin 8) (r j : Fin 128) :
    ownScores b h (I.q c b) (kvFlat (I.k c)) (ix2 r j) = row W b h (gl c r) (gl c j) := by
  rw [ownScores_at, tile_eq hC, row_eq]
  refine if_congr ?_ rfl rfl
  show _ ↔ (c.val * 128 + j.val) / 64 ≤ (c.val * 128 + r.val) / 64
  omega

omit hC in
theorem row_past (b : Fin 2) (h : Fin 4) (c : Fin 8) (r : Fin 128) (j : Fin 1024) (hj : c.val < (tileOf j).val) :
    row W b h (gl c r) j = ⊥ := by
  rw [row_eq, if_neg]
  have hj' : c.val < j.val / 128 := hj
  show ¬ j.val / 64 ≤ (c.val * 128 + r.val) / 64
  omega

omit hC in
theorem raw_real (hF : AllFinite W) (b : Fin 2) (h : Fin 4) (i j : Fin 1024) : ∃ r : ℝ, raw W b h i j = r := by
  choose fx hx using hF.x
  choose fq hq using hF.wq
  choose fk hk using hF.k
  obtain ⟨e, he⟩ := eighth
  refine ⟨(∑ d : Fin 64, (∑ t : Fin 512, fx (ix3 b i t) * fq (ix2 t (⟨h.val * 64 + d.val, by omega⟩ : Fin 256))) * fk (ix4 b j h d)) * e, ?_⟩
  unfold raw
  simp only [hx, hq, hk, he, EReal.coe_mul, coe_sum]

omit hC in
theorem row_ne_top (hF : AllFinite W) (b : Fin 2) (h : Fin 4) (i j : Fin 1024) : row W b h i j ≠ ⊤ := by
  rw [row_eq]
  obtain ⟨x, hx⟩ := raw_real hF b h i j
  split
  · rw [hx]; exact EReal.coe_ne_top x
  · exact bot_ne_top

omit hC in
theorem row_first (hF : AllFinite W) (b : Fin 2) (h : Fin 4) (i : Fin 1024) : row W b h i 0 ≠ ⊥ := by
  obtain ⟨x, hx⟩ := raw_real hF b h i 0
  rw [row_eq, if_pos (by show 0 / 64 ≤ i.val / 64; omega), hx]
  exact EReal.coe_ne_bot x

/-- The divided accumulator is the reference's weighted values. -/
theorem normed_eq (hF : AllFinite W) (c : Fin 8) (b : Fin 2) (h : Fin 4) (r : Fin 128) (d : Fin 64) :
    normed (I.acc c b h) (ix2 r d) = rCtx (rScores W.x W.wq W.k) W.v (ix4 b h d (gl c r)) := by
  have hA := holds_all (sc := row W b h (gl c r)) (vv := fun j => W.v (ix4 b j h d)) c r d b h I
    (fun s hlt j => tile_row hC b h c s hlt r j) (own_row hC b h c r) (fun s j => by rw [kvHead_flat, hC.v]) (row_past b h c r)
  have hm : rMax (rScores W.x W.wq W.k) (ix3 b h (gl c r)) = (I.acc c b h).m (ix2 r (0 : Fin 1)) := by
    rw [rMax_at, hA.m_eq]; rfl
  have he : ∀ j, rExp (rScores W.x W.wq W.k) (ix4 b h (gl c r) j) = Ideal.exp (row W b h (gl c r) j - (I.acc c b h).m (ix2 r (0 : Fin 1))) := fun j => by
    rw [rExp_at, hm]; rfl
  have hl : rSum (rScores W.x W.wq W.k) (ix4 b h (gl c r) (0 : Fin 1)) = (I.acc c b h).l (ix2 r (0 : Fin 1)) := by
    rw [rSum_at, hA.l_eq]; exact Finset.sum_congr rfl fun j _ => he j
  rw [normed_at, hA.div (fun j _ => row_ne_top hF b h _ j) (Finset.mem_univ 0) (row_first hF b h _), rCtx_at]
  refine Finset.sum_congr rfl fun j _ => ?_
  rw [rWeights_at, he, hl]

/-- A device's result, entry by entry, is the reference's at the device's rows. -/
theorem out_eq (hF : AllFinite W) (c : Fin 8) (b : Fin 2) (r : Fin 128) (e : Fin 512) :
    I.out c (ix3 b r e) = rOut (rCtx (rScores W.x W.wq W.k) W.v) W.wo (ix3 b (gl c r) e) := by
  show outBlock (I.wo c) (I.acc c b) (ix3 (0 : Fin 1) r e) = _
  rw [outBlock_at, rOut_at, hC.wo]
  exact Finset.sum_congr rfl fun t _ => congrArg (· * _) (normed_eq hC hF c b _ r _)

end Cert.KernelIdeal.Attn
-- ==== Proof.Final.lean ====
module

public import proofs.«01_k».proof.Proof.Launch
public import Idealize.ShloMosaic.Lib.Pipeline.ValueKit

/-!
# The result array

What the kernel leaves in its result, and that the blocks it works on are the whole arguments.
-/

@[expose] public noncomputable section

namespace Cert.KernelIdeal.Attn

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ)

theorem final_out (c : Dev nD) : finalA m c (5 : Fin 6) = (insOf m).out c := by
  refine (dats m 0 c).arrAt_eq_of_after_last (5 : Fin 6) t0_0 (by decide +kernel) _ fun j => ?_
  blk_simp
  rfl

theorem ins_x (c : Dev nD) : (insOf m).x c = m ((c : Thread nD τ).loc main_arg0) := by
  funext i
  show (win0_0.blk (0 : Fin 1)).view.read (Elt F) _ i = _
  blk_simp
  exact congrArg _ (show (win0_0.blk (0 : Fin 1)).view.emb i = i by
    blk_ext <;> exact (congrArg (· + _) (Nat.zero_mul _)).trans (Nat.zero_add _))

theorem ins_wq (c : Dev nD) : (insOf m).wq c = m ((c : Thread nD τ).loc main_arg1) := by
  funext i
  show (win0_1.blk (0 : Fin 1)).view.read (Elt F) _ i = _
  blk_simp
  exact congrArg _ (show (win0_1.blk (0 : Fin 1)).view.emb i = i by
    blk_ext <;> exact (congrArg (· + _) (Nat.zero_mul _)).trans (Nat.zero_add _))

theorem ins_k (c : Dev nD) : (insOf m).k c = m ((c : Thread nD τ).loc main_arg2) := by
  funext i
  show (win0_2.blk (0 : Fin 1)).view.read (Elt F) _ i = _
  blk_simp
  exact congrArg _ (show (win0_2.blk (0 : Fin 1)).view.emb i = i by
    blk_ext <;> exact (congrArg (· + _) (Nat.zero_mul _)).trans (Nat.zero_add _))

theorem ins_v (c : Dev nD) : (insOf m).v c = m ((c : Thread nD τ).loc main_arg3) := by
  funext i
  show (win0_3.blk (0 : Fin 1)).view.read (Elt F) _ i = _
  blk_simp
  exact congrArg _ (show (win0_3.blk (0 : Fin 1)).view.emb i = i by
    blk_ext <;> exact (congrArg (· + _) (Nat.zero_mul _)).trans (Nat.zero_add _))

theorem ins_wo (c : Dev nD) : (insOf m).wo c = m ((c : Thread nD τ).loc main_arg4) := by
  funext i
  show (win0_4.blk (0 : Fin 1)).view.read (Elt F) _ i = _
  blk_simp
  exact congrArg _ (show (win0_4.blk (0 : Fin 1)).view.emb i = i by
    blk_ext <;> exact (congrArg (· + _) (Nat.zero_mul _)).trans (Nat.zero_add _))

end Cert.KernelIdeal.Attn
-- ==== Proof.Equal.lean ====
module

public import proofs.«01_k».proof.Proof.Rows
public import proofs.«01_k».proof.Proof.Final
public import proofs.«01_k».proof.Proof.Finite
public import proofs.«01_k».proof.Proof.RefFrame
public import Idealize.ShloMosaic.Lib.LayoutAt

/-!
# The kernel computes the reference

Both run; each device's result is its block of the reference's.
-/

@[expose] public noncomputable section

set_option maxRecDepth 16384

namespace Cert.KernelIdeal.Attn

open Idealize.ShloMosaic Idealize.ShloMosaic.TcCoe Idealize.SL.Sem Cert.KernelIdeal Cert.KernelIdeal.Gen
open Cert.ReferenceIdeal.Attn (rScores rCtx rOut)

/-- A block of a sequence of rows, at an index. -/
theorem block3_at (v : FVec Ideal ⟨3, ![2, 1024, 512]⟩ .f32) (c : Fin 8) (b : Fin 2) (r : Fin 128) (e : Fin 512) :
    Layout.block ⟨3, ![2, 128, 512]⟩ ⟨3, ![2, 1024, 512]⟩ 1 8 c v (by decide) (ix3 b r e) = v (ix3 b (gl c r) e) := by
  unfold gl
  shard_ext

theorem block4_at (v : FVec Ideal ⟨4, ![2, 1024, 4, 64]⟩ .f32) (c : Fin 8) (b : Fin 2) (r : Fin 128) (h : Fin 4) (d : Fin 64) :
    Layout.block ⟨4, ![2, 128, 4, 64]⟩ ⟨4, ![2, 1024, 4, 64]⟩ 1 8 c v (by decide) (ix4 b r h d) = v (ix4 b (gl c r) h d) := by
  unfold gl
  shard_ext

/-- Every index of a whole array lies in some device's block. -/
theorem whole3 (v : FVec Ideal ⟨3, ![2, 1024, 512]⟩ .f32)
    (hb : ∀ c : Fin 8, AllReal (Layout.block ⟨3, ![2, 128, 512]⟩ ⟨3, ![2, 1024, 512]⟩ 1 8 c v (by decide) : FVec Ideal ⟨3, ![2, 128, 512]⟩ .f32)) :
    ∀ i, ∃ r : ℝ, v i = r := fun i => by
  obtain ⟨b, j, e, rfl⟩ : ∃ (b : Fin 2) (j : Fin 1024) (e : Fin 512), i = ix3 b j e :=
    ⟨i 0, i 1, i 2, by funext a; fin_cases a <;> rfl⟩
  have := hb (tileOf j) (ix3 b (⟨j.val % 128, by omega⟩ : Fin 128) e)
  rwa [block3_at, gl_tileOf] at this

theorem whole4 (v : FVec Ideal ⟨4, ![2, 1024, 4, 64]⟩ .f32)
    (hb : ∀ c : Fin 8, AllReal (Layout.block ⟨4, ![2, 128, 4, 64]⟩ ⟨4, ![2, 1024, 4, 64]⟩ 1 8 c v (by decide) : FVec Ideal ⟨4, ![2, 128, 4, 64]⟩ .f32)) :
    ∀ i, ∃ r : ℝ, v i = r := fun i => by
  obtain ⟨b, j, h, d, rfl⟩ : ∃ (b : Fin 2) (j : Fin 1024) (h : Fin 4) (d : Fin 64), i = ix4 b j h d :=
    ⟨i 0, i 1, i 2, i 3, by funext a; fin_cases a <;> rfl⟩
  have := hb (tileOf j) (ix4 b (⟨j.val % 128, by omega⟩ : Fin 128) h d)
  rwa [block4_at, gl_tileOf] at this

/-- A block is equal to a device's result if they agree at every index. -/
theorem block3_ext (v : FVec Ideal ⟨3, ![2, 1024, 512]⟩ .f32) (c : Fin 8) (o : FVec Ideal ⟨3, ![2, 128, 512]⟩ .f32)
    (h : ∀ (b : Fin 2) (r : Fin 128) (e : Fin 512), o (ix3 b r e) = v (ix3 b (gl c r) e)) :
    o = Layout.block ⟨3, ![2, 128, 512]⟩ ⟨3, ![2, 1024, 512]⟩ 1 8 c v (by decide) := by
  funext i
  obtain ⟨b, r, e, rfl⟩ : ∃ (b : Fin 2) (r : Fin 128) (e : Fin 512), i = ix3 b r e :=
    ⟨i 0, i 1, i 2, by funext a; fin_cases a <;> rfl⟩
  rw [block3_at]
  exact h b r e

variable [hP : Cert.Pre_finite_scores_KernelIdeal.Facts]

theorem equal : Cert.algebraic_KernelIdeal_ReferenceIdeal_pre_finite_scores_KernelIdeal := fun m g m' g' hpre hcut => by
  let W : Whole := ⟨m' (((0 : Dev Cert.ReferenceIdeal.nD).tc : Thread Cert.ReferenceIdeal.nD Cert.ReferenceIdeal.τ).loc Cert.ReferenceIdeal.main_arg0),
    m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg4)⟩
  have hC : Cut (insOf m) W :=
    { x := fun c b r t => (congrFun ((ins_x m c).trans (hcut c).1) (ix3 b r t)).trans (block3_at W.x c b r t)
      wq := fun c => (ins_wq m c).trans (hcut c).2.1
      k := fun c b r h d => (congrFun ((ins_k m c).trans (hcut c).2.2.1) (ix4 b r h d)).trans (block4_at W.k c b r h d)
      v := fun c b r h d => (congrFun ((ins_v m c).trans (hcut c).2.2.2.1) (ix4 b r h d)).trans (block4_at W.v c b r h d)
      wo := fun c => (ins_wo m c).trans (hcut c).2.2.2.2 }
  have hF : AllFinite W :=
    { x := whole3 W.x fun c => (hcut c).1 ▸ (real_of_pre m hpre c).1
      wq := fun i => by
        have := (real_of_pre m hpre 0).2.1 i
        rw [(hcut 0).2.1] at this
        exact this
      k := whole4 W.k fun c => (hcut c).2.2.1 ▸ (real_of_pre m hpre c).2.2 }
  refine ⟨rOut (rCtx (rScores W.x W.wq W.k) W.v) W.wo, ?_, ?_⟩
  · refine (θ_run defs _ _).mono (fun r h c => ⟨?_, (h.1 c (0 : Fin 6)).trans (final_in m c (0 : Fin 6) rfl),
      (h.1 c (1 : Fin 6)).trans (final_in m c (1 : Fin 6) rfl), (h.1 c (2 : Fin 6)).trans (final_in m c (2 : Fin 6) rfl),
      (h.1 c (3 : Fin 6)).trans (final_in m c (3 : Fin 6) rfl), (h.1 c (4 : Fin 6)).trans (final_in m c (4 : Fin 6) rfl)⟩) (run_main m g)
    exact ((h.1 c (5 : Fin 6)).trans (final_out m c)).trans (block3_ext _ c _ fun b r e => out_eq hC hF c b r e)
  · exact (θ_run Cert.ReferenceIdeal.defs _ _).mono (fun r h => ⟨(h 0).1.trans (Cert.ReferenceIdeal.Attn.res_eq m' 0), (h 0).2⟩)
      (Cert.ReferenceIdeal.Value.run (F := Ideal) m' g')

end Cert.KernelIdeal.Attn
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Same
public import proofs.«01_k».proof.Proof.RefFrame
public import proofs.«01_k».proof.Proof.Finite
public import proofs.«01_k».proof.Proof.Equal

@[expose] public section

noncomputable section

namespace Cert.Proof

theorem claim : Cert.Claim :=
  haveI := Cert.KernelIdeal.Attn.pre_facts
  haveI := Cert.KernelIdeal.Attn.pre_facts_reference
  ⟨Cert.Kernel.Gen.facts, Cert.KernelIdeal.Gen.facts, Cert.ReferenceIdeal.Gen.facts,
    Cert.KernelIdeal.Attn.pre_facts, Cert.KernelIdeal.Attn.pre_facts_reference,
    Cert.KernelIdeal.Attn.frame_printed, Cert.KernelIdeal.Attn.frame,
    fun m g _ => Cert.KernelIdeal.Attn.frame m g trivial,
    Cert.ReferenceIdeal.Attn.frame_reference,
    fun m g _ => Cert.ReferenceIdeal.Attn.frame_reference m g trivial,
    Cert.ReferenceIdeal.Attn.mask_named, Cert.KernelIdeal.Attn.equal⟩

end Cert.Proof

end
